-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v43_0)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x512x128 : Shape := ⟨3, ![32, 512, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x1536 : Shape := ⟨2, ![512, 1536]⟩
abbrev S1536 : Shape := ⟨1, ![1536]⟩
abbrev S1024x256 : Shape := ⟨2, ![1024, 256]⟩
abbrev S256x32 : Shape := ⟨2, ![256, 32]⟩
abbrev S32 : Shape := ⟨1, ![32]⟩
abbrev S256x528 : Shape := ⟨2, ![256, 528]⟩
abbrev S528 : Shape := ⟨1, ![528]⟩
abbrev S256x1024 : Shape := ⟨2, ![256, 1024]⟩
abbrev S1024 : Shape := ⟨1, ![1024]⟩
abbrev S496 : Shape := ⟨1, ![496]⟩
abbrev S32x1024 : Shape := ⟨2, ![32, 1024]⟩
abbrev S512x32x128 : Shape := ⟨3, ![512, 32, 128]⟩
abbrev S16384x128 : Shape := ⟨2, ![16384, 128]⟩
abbrev S1x512x1536 : Shape := ⟨3, ![1, 512, 1536]⟩
abbrev S2x512x1536 : Shape := ⟨3, ![2, 512, 1536]⟩
abbrev S1x1536 : Shape := ⟨2, ![1, 1536]⟩
abbrev S2x1536 : Shape := ⟨2, ![2, 1536]⟩
abbrev S2x1x1536 : Shape := ⟨3, ![2, 1, 1536]⟩
abbrev S1x512 : Shape := ⟨2, ![1, 512]⟩
abbrev S2x512 : Shape := ⟨2, ![2, 512]⟩
abbrev S2x1x512 : Shape := ⟨3, ![2, 1, 512]⟩
abbrev S496x1 : Shape := ⟨2, ![496, 1]⟩
abbrev S1x1024 : Shape := ⟨2, ![1, 1024]⟩
abbrev S496x1024 : Shape := ⟨2, ![496, 1024]⟩
abbrev S1x256 : Shape := ⟨2, ![1, 256]⟩
abbrev S2x16384x512 : Shape := ⟨3, ![2, 16384, 512]⟩
abbrev S2048x128 : Shape := ⟨2, ![2048, 128]⟩
abbrev S1x1x1536 : Shape := ⟨3, ![1, 1, 1536]⟩
abbrev S1x1x512 : Shape := ⟨3, ![1, 1, 512]⟩
abbrev S1x2048x512 : Shape := ⟨3, ![1, 2048, 512]⟩
abbrev S2048x1536 : Shape := ⟨2, ![2048, 1536]⟩
abbrev S32x512 : Shape := ⟨2, ![32, 512]⟩
abbrev S256x128 : Shape := ⟨2, ![256, 128]⟩
abbrev S256x256 : Shape := ⟨2, ![256, 256]⟩
abbrev S256x1536 : Shape := ⟨2, ![256, 1536]⟩
abbrev S32x1536 : Shape := ⟨2, ![32, 1536]⟩
abbrev S1x32x512 : Shape := ⟨3, ![1, 32, 512]⟩
abbrev S512x256 : Shape := ⟨2, ![512, 256]⟩
abbrev S1x32 : Shape := ⟨2, ![1, 32]⟩
abbrev S256x496 : Shape := ⟨2, ![256, 496]⟩
abbrev S1x496 : Shape := ⟨2, ![1, 496]⟩
abbrev S32x512x32 : Shape := ⟨3, ![32, 512, 32]⟩
abbrev S32x512x1024 : Shape := ⟨3, ![32, 512, 1024]⟩
abbrev S16384x1024 : Shape := ⟨2, ![16384, 1024]⟩
abbrev S2x512x512 : Shape := ⟨3, ![2, 512, 512]⟩
abbrev S32x16x32 : Shape := ⟨3, ![32, 16, 32]⟩
abbrev S32x16x1024 : Shape := ⟨3, ![32, 16, 1024]⟩
abbrev S512x1024 : Shape := ⟨2, ![512, 1024]⟩
abbrev S1x512x512 : Shape := ⟨3, ![1, 512, 512]⟩
abbrev S512x512 : Shape := ⟨2, ![512, 512]⟩
abbrev S512x32 : Shape := ⟨2, ![512, 32]⟩
abbrev S16x32x32 : Shape := ⟨3, ![16, 32, 32]⟩
abbrev S16x32x1024 : Shape := ⟨3, ![16, 32, 1024]⟩
abbrev S512x496 : Shape := ⟨2, ![512, 496]⟩
abbrev S16384x32x32 : Shape := ⟨3, ![16384, 32, 32]⟩
abbrev S32x512x32x32 : Shape := ⟨4, ![32, 512, 32, 32]⟩
abbrev S512x32x32 : Shape := ⟨3, ![512, 32, 32]⟩
abbrev S32x16x32x32 : Shape := ⟨4, ![32, 16, 32, 32]⟩
abbrev S16x32x32x32 : Shape := ⟨4, ![16, 32, 32, 32]⟩

abbrev nBuf : Space → Nat
  | .hbm => 76
  | .vmem => 49
  | .smem => 0
  | _ => 0

abbrev bufTy : (tb : Table) → Fin (tcTables nBuf tb) → BufTy
  | .hbm, ⟨0, _⟩ => ⟨S32x512x128, .f32⟩
  | .hbm, ⟨1, _⟩ => ⟨S128x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S512x1536, .f32⟩
  | .hbm, ⟨6, _⟩ => ⟨S1536, .f32⟩
  | .hbm, ⟨7, _⟩ => ⟨S512x1536, .f32⟩
  | .hbm, ⟨8, _⟩ => ⟨S512, .f32⟩
  | .hbm, ⟨9, _⟩ => ⟨S512x1536, .f32⟩
  | .hbm, ⟨10, _⟩ => ⟨S1536, .f32⟩
  | .hbm, ⟨11, _⟩ => ⟨S512x1536, .f32⟩
  | .hbm, ⟨12, _⟩ => ⟨S512, .f32⟩
  | .hbm, ⟨13, _⟩ => ⟨S1024x256, .f32⟩
  | .hbm, ⟨14, _⟩ => ⟨S256, .f32⟩
  | .hbm, ⟨15, _⟩ => ⟨S256x32, .f32⟩
  | .hbm, ⟨16, _⟩ => ⟨S32, .f32⟩
  | .hbm, ⟨17, _⟩ => ⟨S1024x256, .f32⟩
  | .hbm, ⟨18, _⟩ => ⟨S256, .f32⟩
  | .hbm, ⟨19, _⟩ => ⟨S256x528, .f32⟩
  | .hbm, ⟨20, _⟩ => ⟨S528, .f32⟩
  | .hbm, ⟨21, _⟩ => ⟨S1024x256, .f32⟩
  | .hbm, ⟨22, _⟩ => ⟨S256, .f32⟩
  | .hbm, ⟨23, _⟩ => ⟨S256x1024, .f32⟩
  | .hbm, ⟨24, _⟩ => ⟨S1024, .f32⟩
  | .hbm, ⟨25, _⟩ => ⟨S496, .i32⟩
  | .hbm, ⟨26, _⟩ => ⟨S32x1024, .f32⟩
  | .hbm, ⟨27, _⟩ => ⟨S512x32x128, .f32⟩
  | .hbm, ⟨28, _⟩ => ⟨S16384x128, .f32⟩
  | .hbm, ⟨29, _⟩ => ⟨S1x512x1536, .f32⟩
  | .hbm, ⟨30, _⟩ => ⟨S1x512x1536, .f32⟩
  | .hbm, ⟨31, _⟩ => ⟨S2x512x1536, .f32⟩
  | .hbm, ⟨32, _⟩ => ⟨S1x1536, .f32⟩
  | .hbm, ⟨33, _⟩ => ⟨S1x1536, .f32⟩
  | .hbm, ⟨34, _⟩ => ⟨S2x1536, .f32⟩
  | .hbm, ⟨35, _⟩ => ⟨S2x1x1536, .f32⟩
  | .hbm, ⟨36, _⟩ => ⟨S1x512x1536, .f32⟩
  | .hbm, ⟨37, _⟩ => ⟨S1x512x1536, .f32⟩
  | .hbm, ⟨38, _⟩ => ⟨S2x512x1536, .f32⟩
  | .hbm, ⟨39, _⟩ => ⟨S1x512, .f32⟩
  | .hbm, ⟨40, _⟩ => ⟨S1x512, .f32⟩
  | .hbm, ⟨41, _⟩ => ⟨S2x512, .f32⟩
  | .hbm, ⟨42, _⟩ => ⟨S2x1x512, .f32⟩
  | .hbm, ⟨43, _⟩ => ⟨S496x1, .i32⟩
  | .hbm, ⟨44, _⟩ => ⟨S1024, .i32⟩
  | .hbm, ⟨45, _⟩ => ⟨S1x1024, .i32⟩
  | .hbm, ⟨46, _⟩ => ⟨S496x1024, .i32⟩
  | .hbm, ⟨47, _⟩ => ⟨S496x1024, .i32⟩
  | .hbm, ⟨48, _⟩ => ⟨S496x1024, .i1⟩
  | .hbm, ⟨49, _⟩ => ⟨S496x1024, .f32⟩
  | .hbm, ⟨50, _⟩ => ⟨S1x256, .f32⟩
  | .hbm, ⟨51, _⟩ => ⟨S1x512, .f32⟩
  | .hbm, ⟨52, _⟩ => ⟨S2x16384x512, .f32⟩
  | .hbm, ⟨53, _⟩ => ⟨S512x256, .f32⟩
  | .hbm, ⟨54, _⟩ => ⟨S512x256, .f32⟩
  | .hbm, ⟨55, _⟩ => ⟨S1x256, .f32⟩
  | .hbm, ⟨56, _⟩ => ⟨S1x32, .f32⟩
  | .hbm, ⟨57, _⟩ => ⟨S512x256, .f32⟩
  | .hbm, ⟨58, _⟩ => ⟨S512x256, .f32⟩
  | .hbm, ⟨59, _⟩ => ⟨S1x256, .f32⟩
  | .hbm, ⟨60, _⟩ => ⟨S256x32, .f32⟩
  | .hbm, ⟨61, _⟩ => ⟨S32, .f32⟩
  | .hbm, ⟨62, _⟩ => ⟨S1x32, .f32⟩
  | .hbm, ⟨63, _⟩ => ⟨S256x496, .f32⟩
  | .hbm, ⟨64, _⟩ => ⟨S496, .f32⟩
  | .hbm, ⟨65, _⟩ => ⟨S1x496, .f32⟩
  | .hbm, ⟨66, _⟩ => ⟨S512x256, .f32⟩
  | .hbm, ⟨67, _⟩ => ⟨S512x256, .f32⟩
  | .hbm, ⟨68, _⟩ => ⟨S1x256, .f32⟩
  | .hbm, ⟨69, _⟩ => ⟨S1x1024, .f32⟩
  | .hbm, ⟨70, _⟩ => ⟨S32x512x32, .f32⟩
  | .hbm, ⟨71, _⟩ => ⟨S32x512x1024, .f32⟩
  | .hbm, ⟨72, _⟩ => ⟨S16384x1024, .f32⟩
  | .hbm, ⟨73, _⟩ => ⟨S16384x32x32, .f32⟩
  | .hbm, ⟨74, _⟩ => ⟨S32x512x32x32, .f32⟩
  | .hbm, ⟨75, _⟩ => ⟨S32x512x32x32, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S1x256, .f32⟩
  | .local _ .vmem, ⟨4, _⟩ => ⟨S256x512, .f32⟩
  | .local _ .vmem, ⟨5, _⟩ => ⟨S1x512, .f32⟩
  | .local _ .vmem, ⟨6, _⟩ => ⟨S1x512x1536, .f32⟩
  | .local _ .vmem, ⟨7, _⟩ => ⟨S1x512x1536, .f32⟩
  | .local _ .vmem, ⟨8, _⟩ => ⟨S1x1x1536, .f32⟩
  | .local _ .vmem, ⟨9, _⟩ => ⟨S1x1x1536, .f32⟩
  | .local _ .vmem, ⟨10, _⟩ => ⟨S1x512x1536, .f32⟩
  | .local _ .vmem, ⟨11, _⟩ => ⟨S1x512x1536, .f32⟩
  | .local _ .vmem, ⟨12, _⟩ => ⟨S1x1x512, .f32⟩
  | .local _ .vmem, ⟨13, _⟩ => ⟨S1x1x512, .f32⟩
  | .local _ .vmem, ⟨14, _⟩ => ⟨S1x2048x512, .f32⟩
  | .local _ .vmem, ⟨15, _⟩ => ⟨S1x2048x512, .f32⟩
  | .local _ .vmem, ⟨16, _⟩ => ⟨S2048x1536, .f32⟩
  | .local _ .vmem, ⟨17, _⟩ => ⟨S32x512, .f32⟩
  | .local _ .vmem, ⟨18, _⟩ => ⟨S2x512x512, .f32⟩
  | .local _ .vmem, ⟨19, _⟩ => ⟨S2x512x512, .f32⟩
  | .local _ .vmem, ⟨20, _⟩ => ⟨S512x256, .f32⟩
  | .local _ .vmem, ⟨21, _⟩ => ⟨S512x256, .f32⟩
  | .local _ .vmem, ⟨22, _⟩ => ⟨S1x256, .f32⟩
  | .local _ .vmem, ⟨23, _⟩ => ⟨S256x32, .f32⟩
  | .local _ .vmem, ⟨24, _⟩ => ⟨S1x32, .f32⟩
  | .local _ .vmem, ⟨25, _⟩ => ⟨S512x256, .f32⟩
  | .local _ .vmem, ⟨26, _⟩ => ⟨S512x256, .f32⟩
  | .local _ .vmem, ⟨27, _⟩ => ⟨S1x256, .f32⟩
  | .local _ .vmem, ⟨28, _⟩ => ⟨S256x32, .f32⟩
  | .local _ .vmem, ⟨29, _⟩ => ⟨S1x32, .f32⟩
  | .local _ .vmem, ⟨30, _⟩ => ⟨S256x496, .f32⟩
  | .local _ .vmem, ⟨31, _⟩ => ⟨S1x496, .f32⟩
  | .local _ .vmem, ⟨32, _⟩ => ⟨S512x256, .f32⟩
  | .local _ .vmem, ⟨33, _⟩ => ⟨S512x256, .f32⟩
  | .local _ .vmem, ⟨34, _⟩ => ⟨S1x256, .f32⟩
  | .local _ .vmem, ⟨35, _⟩ => ⟨S256x1024, .f32⟩
  | .local _ .vmem, ⟨36, _⟩ => ⟨S1x1024, .f32⟩
  | .local _ .vmem, ⟨37, _⟩ => ⟨S32x1024, .f32⟩
  | .local _ .vmem, ⟨38, _⟩ => ⟨S496x1024, .f32⟩
  | .local _ .vmem, ⟨39, _⟩ => ⟨S32x16x32, .f32⟩
  | .local _ .vmem, ⟨40, _⟩ => ⟨S32x16x32, .f32⟩
  | .local _ .vmem, ⟨41, _⟩ => ⟨S32x16x1024, .f32⟩
  | .local _ .vmem, ⟨42, _⟩ => ⟨S32x16x1024, .f32⟩
  | .local _ .vmem, ⟨43, _⟩ => ⟨S512x1024, .f32⟩
  | .local _ .vmem, ⟨44, _⟩ => ⟨S512x1024, .f32⟩
  | .local _ .vmem, ⟨45, _⟩ => ⟨S512x32x32, .f32⟩
  | .local _ .vmem, ⟨46, _⟩ => ⟨S512x32x32, .f32⟩
  | .local _ .vmem, ⟨47, _⟩ => ⟨S32x16x32x32, .f32⟩
  | .local _ .vmem, ⟨48, _⟩ => ⟨S32x16x32x32, .f32⟩
  | _, _ => ⟨S32x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_cst : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev main_v43_2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg16_0 : Ref sig .tc := ⟨.vmem, 35, rfl⟩
abbrev cc1_stg17_0 : Ref sig .tc := ⟨.vmem, 36, rfl⟩
abbrev cc1_stg18_0 : Ref sig .tc := ⟨.vmem, 37, rfl⟩
abbrev cc1_stg19_0 : Ref sig .tc := ⟨.vmem, 38, rfl⟩
abbrev cc1_stg20_0 : Ref sig .tc := ⟨.vmem, 39, rfl⟩
abbrev cc1_stg20_1 : Ref sig .tc := ⟨.vmem, 40, rfl⟩
abbrev cc1_stg21_0 : Ref sig .tc := ⟨.vmem, 41, rfl⟩
abbrev cc1_stg21_1 : Ref sig .tc := ⟨.vmem, 42, rfl⟩
abbrev cc1_stg22_0 : Ref sig .tc := ⟨.vmem, 43, rfl⟩
abbrev cc1_stg22_1 : Ref sig .tc := ⟨.vmem, 44, rfl⟩
abbrev cc2_stg0_0 : Ref sig .tc := ⟨.vmem, 45, rfl⟩
abbrev cc2_stg0_1 : Ref sig .tc := ⟨.vmem, 46, rfl⟩
abbrev cc2_stg1_0 : Ref sig .tc := ⟨.vmem, 47, rfl⟩
abbrev cc2_stg1_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem15_0 : DmaSem sig := 32
abbrev cc1_sem16_0 : DmaSem sig := 33
abbrev cc1_sem17_0 : DmaSem sig := 34
abbrev cc1_sem18_0 : DmaSem sig := 35
abbrev cc1_sem19_0 : DmaSem sig := 36
abbrev cc1_sem20_0 : DmaSem sig := 37
abbrev cc1_sem20_1 : DmaSem sig := 38
abbrev cc1_sem21_0 : DmaSem sig := 39
abbrev cc1_sem21_1 : DmaSem sig := 40
abbrev cc1_sem22_0 : DmaSem sig := 41
abbrev cc1_sem22_1 : DmaSem sig := 42
abbrev cc2_sem0_0 : DmaSem sig := 43
abbrev cc2_sem0_1 : DmaSem sig := 44
abbrev cc2_sem1_0 : DmaSem sig := 45
abbrev cc2_sem1_1 : DmaSem sig := 46

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_134 : BitVec 32 := 0#32
  let c64_i32 : BitVec 32 := 64#32
  let v189 : BitVec 32 := Scalar.addi c0_i32_134 c64_i32
  let c1_i32_135 : BitVec 32 := 1#32
  ⟨c0_i32_134, v189, c1_i32_135⟩
def k0_mult1 (i : grid0.Coords) (k0_t1 : Fin k0_t1_loop.trips) : BitVec 32 :=
  let arg0 : BitVec 32 := BitVec.ofNat 32 (i 0).val
  let c1_i32 : BitVec 32 := 1#32
  let v3 : BitVec 1 := Scalar.cmpi .eq arg0 c1_i32
  let c63_i32 : BitVec 32 := 63#32
  let c0_i32_134 : BitVec 32 := 0#32
  let c1_i32_135 : BitVec 32 := 1#32
  let arg14 : BitVec 32 := Scf.iv c0_i32_134 c1_i32_135 k0_t1
  let v194 : BitVec 32 := Scalar.subi c63_i32 arg14
  let v195 : BitVec 32 := Scalar.select v3 v194 arg14
  let c32_i32 : BitVec 32 := 32#32
  let v196 : BitVec 32 := Scalar.muli v195 c32_i32
  v196
def k0_off1 (i : grid0.Coords) (k0_t1 : Fin k0_t1_loop.trips) : Fin 2 → Nat :=
  let arg0 : BitVec 32 := BitVec.ofNat 32 (i 0).val
  let c1_i32 : BitVec 32 := 1#32
  let v3 : BitVec 1 := Scalar.cmpi .eq arg0 c1_i32
  let c63_i32 : BitVec 32 := 63#32
  let c0_i32_134 : BitVec 32 := 0#32
  let c1_i32_135 : BitVec 32 := 1#32
  let arg14 : BitVec 32 := Scf.iv c0_i32_134 c1_i32_135 k0_t1
  let v194 : BitVec 32 := Scalar.subi c63_i32 arg14
  let v195 : BitVec 32 := Scalar.select v3 v194 arg14
  let c32_i32 : BitVec 32 := 32#32
  let v196 : BitVec 32 := Scalar.muli v195 c32_i32
  let v197 : BitVec 32 := v196
  let v198 : Index := Scalar.indexCast v197
  let c0_139 : Index := 0#32
  ![v198.toNat, 0]
def k0_off2 (i : grid0.Coords) (k0_t1 : Fin k0_t1_loop.trips) : Fin 3 → Nat :=
  let c0_142 : Index := 0#32
  let arg0 : BitVec 32 := BitVec.ofNat 32 (i 0).val
  let c1_i32 : BitVec 32 := 1#32
  let v3 : BitVec 1 := Scalar.cmpi .eq arg0 c1_i32
  let c63_i32 : BitVec 32 := 63#32
  let c0_i32_134 : BitVec 32 := 0#32
  let c1_i32_135 : BitVec 32 := 1#32
  let arg14 : BitVec 32 := Scf.iv c0_i32_134 c1_i32_135 k0_t1
  let v194 : BitVec 32 := Scalar.subi c63_i32 arg14
  let v195 : BitVec 32 := Scalar.select v3 v194 arg14
  let c32_i32 : BitVec 32 := 32#32
  let v196 : BitVec 32 := Scalar.muli v195 c32_i32
  let v197 : BitVec 32 := v196
  let v219 : Index := Scalar.indexCast v197
  let c0_143 : Index := 0#32
  ![0, v219.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.subi c7_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.subi c7_i32 arg1
  let v2 : BitVec 32 := Scalar.select v0 arg1 v1
  let c0_i32_0 : BitVec 32 := 0#32
  let c0_i32_1 : BitVec 32 := 0#32
  ![arg0.toNat, v2.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_21 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x496 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x496 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S512x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S512x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S32x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S496x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 2 → Memref sig .tc .vmem S32x16x32 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S32x16x1024 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 2 → Memref sig .tc .vmem S512x1024 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S512x32x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x16x32x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S32x512x128 : Shape := ⟨3, ![32, 512, 128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x1536 : Shape := ⟨2, ![512, 1536]⟩
abbrev S1536 : Shape := ⟨1, ![1536]⟩
abbrev S1024x256 : Shape := ⟨2, ![1024, 256]⟩
abbrev S256x32 : Shape := ⟨2, ![256, 32]⟩
abbrev S32 : Shape := ⟨1, ![32]⟩
abbrev S256x528 : Shape := ⟨2, ![256, 528]⟩
abbrev S528 : Shape := ⟨1, ![528]⟩
abbrev S256x1024 : Shape := ⟨2, ![256, 1024]⟩
abbrev S1024 : Shape := ⟨1, ![1024]⟩
abbrev S32x512x256 : Shape := ⟨3, ![32, 512, 256]⟩
abbrev S1x1x256 : Shape := ⟨3, ![1, 1, 256]⟩
abbrev S_ : Shape := ⟨0, ![]⟩
abbrev S32x512x512 : Shape := ⟨3, ![32, 512, 512]⟩
abbrev S1x1x512 : Shape := ⟨3, ![1, 1, 512]⟩
abbrev S1536x32x512 : Shape := ⟨3, ![1536, 32, 512]⟩
abbrev S512x32x1536 : Shape := ⟨3, ![512, 32, 1536]⟩
abbrev S1x1x1536 : Shape := ⟨3, ![1, 1, 1536]⟩
abbrev S32x512 : Shape := ⟨2, ![32, 512]⟩
abbrev S512x32x512 : Shape := ⟨3, ![512, 32, 512]⟩
abbrev S1x32x1536 : Shape := ⟨3, ![1, 32, 1536]⟩
abbrev S32x1536 : Shape := ⟨2, ![32, 1536]⟩
abbrev S512x1024 : Shape := ⟨2, ![512, 1024]⟩
abbrev S512x512 : Shape := ⟨2, ![512, 512]⟩
abbrev S32x1024 : Shape := ⟨2, ![32, 1024]⟩
abbrev S1x512 : Shape := ⟨2, ![1, 512]⟩
abbrev S1x32x512 : Shape := ⟨3, ![1, 32, 512]⟩
abbrev S32x512x1024 : Shape := ⟨3, ![32, 512, 1024]⟩
abbrev S32x512x32 : Shape := ⟨3, ![32, 512, 32]⟩
abbrev S1x1x32 : Shape := ⟨3, ![1, 1, 32]⟩
abbrev S32x512x528 : Shape := ⟨3, ![32, 512, 528]⟩
abbrev S1x1x528 : Shape := ⟨3, ![1, 1, 528]⟩
abbrev S32x512x496 : Shape := ⟨3, ![32, 512, 496]⟩
abbrev S32x1 : Shape := ⟨2, ![32, 1]⟩
abbrev S1x32 : Shape := ⟨2, ![1, 32]⟩
abbrev S32x32 : Shape := ⟨2, ![32, 32]⟩
abbrev S32x32x1 : Shape := ⟨3, ![32, 32, 1]⟩
abbrev S32x512x32x32 : Shape := ⟨4, ![32, 512, 32, 32]⟩
abbrev S32x512x32x1 : Shape := ⟨4, ![32, 512, 32, 1]⟩
abbrev S1x1x32x32 : Shape := ⟨4, ![1, 1, 32, 32]⟩
abbrev S1x1x1024 : Shape := ⟨3, ![1, 1, 1024]⟩

abbrev nBuf : Space → Nat
  | .hbm => 232
  | .vmem => 0
  | .smem => 0
  | _ => 0

abbrev hbmTy0_0 (i : Nat) : BufTy := match i % 128 with
  | 0 => ⟨S32x512x128, .f32⟩
  | 1 => ⟨S128x256, .f32⟩
  | 2 => ⟨S256, .f32⟩
  | 3 => ⟨S256x512, .f32⟩
  | 4 => ⟨S512, .f32⟩
  | 5 => ⟨S512x1536, .f32⟩
  | 6 => ⟨S1536, .f32⟩
  | 7 => ⟨S512x1536, .f32⟩
  | 8 => ⟨S512, .f32⟩
  | 9 => ⟨S512x1536, .f32⟩
  | 10 => ⟨S1536, .f32⟩
  | 11 => ⟨S512x1536, .f32⟩
  | 12 => ⟨S512, .f32⟩
  | 13 => ⟨S1024x256, .f32⟩
  | 14 => ⟨S256, .f32⟩
  | 15 => ⟨S256x32, .f32⟩
  | 16 => ⟨S32, .f32⟩
  | 17 => ⟨S1024x256, .f32⟩
  | 18 => ⟨S256, .f32⟩
  | 19 => ⟨S256x528, .f32⟩
  | 20 => ⟨S528, .f32⟩
  | 21 => ⟨S1024x256, .f32⟩
  | 22 => ⟨S256, .f32⟩
  | 23 => ⟨S256x1024, .f32⟩
  | 24 => ⟨S1024, .f32⟩
  | 25 => ⟨S32x512x256, .f32⟩
  | 26 => ⟨S1x1x256, .f32⟩
  | 27 => ⟨S32x512x256, .f32⟩
  | 28 => ⟨S32x512x256, .f32⟩
  | 29 => ⟨S_, .f32⟩
  | 30 => ⟨S32x512x256, .f32⟩
  | 31 => ⟨S32x512x256, .f32⟩
  | 32 => ⟨S32x512x512, .f32⟩
  | 33 => ⟨S1x1x512, .f32⟩
  | 34 => ⟨S32x512x512, .f32⟩
  | 35 => ⟨S32x512x512, .f32⟩
  | 36 => ⟨S1536x32x512, .f32⟩
  | 37 => ⟨S512x32x1536, .f32⟩
  | 38 => ⟨S1x1x1536, .f32⟩
  | 39 => ⟨S512x32x1536, .f32⟩
  | 40 => ⟨S512x32x1536, .f32⟩
  | 41 => ⟨S1536x32x512, .f32⟩
  | 42 => ⟨S512x32x1536, .f32⟩
  | 43 => ⟨S1x1x1536, .f32⟩
  | 44 => ⟨S512x32x1536, .f32⟩
  | 45 => ⟨S512x32x1536, .f32⟩
  | 46 => ⟨S512x32x1536, .f32⟩
  | 47 => ⟨S_, .f32⟩
  | 48 => ⟨S32x512, .f32⟩
  | 49 => ⟨S_, .f32⟩
  | 50 => ⟨S512x32x512, .f32⟩
  | 51 => ⟨S_, .f32⟩
  | 52 => ⟨S512x32x512, .f32⟩
  | 53 => ⟨S_, .i32⟩
  | 54 => ⟨S512x32x1536, .f32⟩
  | 55 => ⟨S512x32x1536, .f32⟩
  | 56 => ⟨S512x1536, .f32⟩
  | 57 => ⟨S512, .f32⟩
  | 58 => ⟨S512x1536, .f32⟩
  | 59 => ⟨S512, .f32⟩
  | 60 => ⟨S_, .i32⟩
  | 61 => ⟨S32x512, .f32⟩
  | 62 => ⟨S32x512, .f32⟩
  | 63 => ⟨S512x32x512, .f32⟩
  | 64 => ⟨S512x32x512, .f32⟩
  | 65 => ⟨S_, .i32⟩
  | 66 => ⟨S_, .i1⟩
  | 67 => ⟨S_, .i32⟩
  | 68 => ⟨S_, .i32⟩
  | 69 => ⟨S1x32x1536, .f32⟩
  | 70 => ⟨S32x1536, .f32⟩
  | 71 => ⟨S_, .i32⟩
  | 72 => ⟨S_, .i32⟩
  | 73 => ⟨S1x32x1536, .f32⟩
  | 74 => ⟨S32x1536, .f32⟩
  | 75 => ⟨S512x1024, .f32⟩
  | 76 => ⟨S512x512, .f32⟩
  | 77 => ⟨S32x1024, .f32⟩
  | 78 => ⟨S32x1024, .f32⟩
  | 79 => ⟨S32x1024, .f32⟩
  | 80 => ⟨S32x1024, .f32⟩
  | 81 => ⟨S32x1024, .f32⟩
  | 82 => ⟨S_, .f32⟩
  | 83 => ⟨S32x1024, .f32⟩
  | 84 => ⟨S32x1024, .f32⟩
  | 85 => ⟨S_, .f32⟩
  | 86 => ⟨S32x1024, .f32⟩
  | 87 => ⟨S32x1024, .f32⟩
  | 88 => ⟨S32x512, .f32⟩
  | 89 => ⟨S32x512, .f32⟩
  | 90 => ⟨S32x512, .f32⟩
  | 91 => ⟨S32x512, .f32⟩
  | 92 => ⟨S1x512, .f32⟩
  | 93 => ⟨S32x512, .f32⟩
  | 94 => ⟨S32x512, .f32⟩
  | 95 => ⟨S32x512, .f32⟩
  | 96 => ⟨S32x512, .f32⟩
  | 97 => ⟨S32x512, .f32⟩
  | 98 => ⟨S_, .f32⟩
  | 99 => ⟨S32x512, .f32⟩
  | 100 => ⟨S32x512, .f32⟩
  | 101 => ⟨S32x512, .f32⟩
  | 102 => ⟨S32x512, .f32⟩
  | 103 => ⟨S32x512, .f32⟩
  | 104 => ⟨S512x1024, .f32⟩
  | 105 => ⟨S512x512, .f32⟩
  | 106 => ⟨S32x1024, .f32⟩
  | 107 => ⟨S32x1024, .f32⟩
  | 108 => ⟨S32x1024, .f32⟩
  | 109 => ⟨S32x1024, .f32⟩
  | 110 => ⟨S32x1024, .f32⟩
  | 111 => ⟨S_, .f32⟩
  | 112 => ⟨S32x1024, .f32⟩
  | 113 => ⟨S32x1024, .f32⟩
  | 114 => ⟨S_, .f32⟩
  | 115 => ⟨S32x1024, .f32⟩
  | 116 => ⟨S32x1024, .f32⟩
  | 117 => ⟨S32x512, .f32⟩
  | 118 => ⟨S32x512, .f32⟩
  | 119 => ⟨S32x512, .f32⟩
  | 120 => ⟨S32x512, .f32⟩
  | 121 => ⟨S1x512, .f32⟩
  | 122 => ⟨S32x512, .f32⟩
  | 123 => ⟨S32x512, .f32⟩
  | 124 => ⟨S32x512, .f32⟩
  | 125 => ⟨S32x512, .f32⟩
  | 126 => ⟨S32x512, .f32⟩
  | 127 => ⟨S_, .f32⟩
  | _ => ⟨S32x512x128, .f32⟩

abbrev hbmTy0_1 (i : Nat) : BufTy := match i % 128 with
  | 0 => ⟨S32x512, .f32⟩
  | 1 => ⟨S32x512, .f32⟩
  | 2 => ⟨S32x512, .f32⟩
  | 3 => ⟨S32x512, .f32⟩
  | 4 => ⟨S32x512, .f32⟩
  | 5 => ⟨S1x32x512, .f32⟩
  | 6 => ⟨S_, .i32⟩
  | 7 => ⟨S_, .i32⟩
  | 8 => ⟨S512x32x512, .f32⟩
  | 9 => ⟨S1x32x512, .f32⟩
  | 10 => ⟨S_, .i32⟩
  | 11 => ⟨S_, .i32⟩
  | 12 => ⟨S512x32x512, .f32⟩
  | 13 => ⟨S_, .i32⟩
  | 14 => ⟨S_, .i32⟩
  | 15 => ⟨S32x512x512, .f32⟩
  | 16 => ⟨S512x32x512, .f32⟩
  | 17 => ⟨S32x512x512, .f32⟩
  | 18 => ⟨S32x512x1024, .f32⟩
  | 19 => ⟨S32x512x256, .f32⟩
  | 20 => ⟨S1x1x256, .f32⟩
  | 21 => ⟨S32x512x256, .f32⟩
  | 22 => ⟨S32x512x256, .f32⟩
  | 23 => ⟨S_, .f32⟩
  | 24 => ⟨S32x512x256, .f32⟩
  | 25 => ⟨S32x512x256, .f32⟩
  | 26 => ⟨S32x512x32, .f32⟩
  | 27 => ⟨S1x1x32, .f32⟩
  | 28 => ⟨S32x512x32, .f32⟩
  | 29 => ⟨S32x512x32, .f32⟩
  | 30 => ⟨S32x512x256, .f32⟩
  | 31 => ⟨S1x1x256, .f32⟩
  | 32 => ⟨S32x512x256, .f32⟩
  | 33 => ⟨S32x512x256, .f32⟩
  | 34 => ⟨S_, .f32⟩
  | 35 => ⟨S32x512x256, .f32⟩
  | 36 => ⟨S32x512x256, .f32⟩
  | 37 => ⟨S32x512x528, .f32⟩
  | 38 => ⟨S1x1x528, .f32⟩
  | 39 => ⟨S32x512x528, .f32⟩
  | 40 => ⟨S32x512x528, .f32⟩
  | 41 => ⟨S32x512x32, .f32⟩
  | 42 => ⟨S32x512x496, .f32⟩
  | 43 => ⟨S32, .i32⟩
  | 44 => ⟨S32x1, .i32⟩
  | 45 => ⟨S32, .i32⟩
  | 46 => ⟨S1x32, .i32⟩
  | 47 => ⟨S32x32, .i32⟩
  | 48 => ⟨S32x32, .i32⟩
  | 49 => ⟨S32x32, .i1⟩
  | 50 => ⟨S_, .i32⟩
  | 51 => ⟨S32x1, .i32⟩
  | 52 => ⟨S32x1, .i32⟩
  | 53 => ⟨S32x1, .i32⟩
  | 54 => ⟨S_, .i32⟩
  | 55 => ⟨S32x1, .i32⟩
  | 56 => ⟨S32x1, .i32⟩
  | 57 => ⟨S32x32, .i32⟩
  | 58 => ⟨S32x32, .i32⟩
  | 59 => ⟨S32x32, .i32⟩
  | 60 => ⟨S_, .i32⟩
  | 61 => ⟨S_, .i32⟩
  | 62 => ⟨S32x32, .i32⟩
  | 63 => ⟨S32x32, .i32⟩
  | 64 => ⟨S32x32, .i32⟩
  | 65 => ⟨S32x32, .i32⟩
  | 66 => ⟨S32x32, .i1⟩
  | 67 => ⟨S32x32x1, .i32⟩
  | 68 => ⟨S32x512x32x32, .f32⟩
  | 69 => ⟨S_, .f32⟩
  | 70 => ⟨S_, .f32⟩
  | 71 => ⟨S32x512x32x32, .i1⟩
  | 72 => ⟨S32x512x32x32, .f32⟩
  | 73 => ⟨S32x512x32x32, .f32⟩
  | 74 => ⟨S32x512x32, .f32⟩
  | 75 => ⟨S_, .f32⟩
  | 76 => ⟨S32x512x32, .f32⟩
  | 77 => ⟨S32x512x32, .f32⟩
  | 78 => ⟨S32x512x32x1, .f32⟩
  | 79 => ⟨S32x32, .i32⟩
  | 80 => ⟨S32x32, .i32⟩
  | 81 => ⟨S_, .i32⟩
  | 82 => ⟨S32x32, .i32⟩
  | 83 => ⟨S32x32, .i32⟩
  | 84 => ⟨S32x32, .i1⟩
  | 85 => ⟨S32x32, .f32⟩
  | 86 => ⟨S1x1x32x32, .f32⟩
  | 87 => ⟨S32x512x32x32, .f32⟩
  | 88 => ⟨S32x512x32x32, .f32⟩
  | 89 => ⟨S32x512x32x32, .f32⟩
  | 90 => ⟨S32x512x32x32, .f32⟩
  | 91 => ⟨S32x512x32x32, .f32⟩
  | 92 => ⟨S32x512x256, .f32⟩
  | 93 => ⟨S1x1x256, .f32⟩
  | 94 => ⟨S32x512x256, .f32⟩
  | 95 => ⟨S32x512x256, .f32⟩
  | 96 => ⟨S_, .f32⟩
  | 97 => ⟨S32x512x256, .f32⟩
  | 98 => ⟨S32x512x256, .f32⟩
  | 99 => ⟨S32x512x1024, .f32⟩
  | 100 => ⟨S1x1x1024, .f32⟩
  | 101 => ⟨S32x512x1024, .f32⟩
  | 102 => ⟨S32x512x1024, .f32⟩
  | 103 => ⟨S32x512x32x32, .f32⟩
  | _ => ⟨S32x512x128, .f32⟩

abbrev hbmTy (i : Nat) : BufTy := match i / 128 with
  | 0 => hbmTy0_0 i
  | 1 => hbmTy0_1 i
  | _ => ⟨S32x512x128, .f32⟩

abbrev bufTy : (tb : Table) → Fin (tcTables nBuf tb) → BufTy
  | .hbm, ⟨i, _⟩ => hbmTy i
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_call0_cst : Ref sig .tc := ⟨.hbm, 29, rfl⟩
abbrev main_call0_v0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst : Ref sig .tc := ⟨.hbm, 47, rfl⟩
abbrev main_v20 : Ref sig .tc := ⟨.hbm, 48, rfl⟩
abbrev main_cst_0 : Ref sig .tc := ⟨.hbm, 49, rfl⟩
abbrev main_v21 : Ref sig .tc := ⟨.hbm, 50, rfl⟩
abbrev main_cst_1 : Ref sig .tc := ⟨.hbm, 51, rfl⟩
abbrev main_v22 : Ref sig .tc := ⟨.hbm, 52, rfl⟩
abbrev main_c : Ref sig .tc := ⟨.hbm, 53, rfl⟩
abbrev main_v23_0 : Ref sig .tc := ⟨.hbm, 54, rfl⟩
abbrev main_v23_1 : Ref sig .tc := ⟨.hbm, 55, rfl⟩
abbrev main_v23_2 : Ref sig .tc := ⟨.hbm, 56, rfl⟩
abbrev main_v23_3 : Ref sig .tc := ⟨.hbm, 57, rfl⟩
abbrev main_v23_4 : Ref sig .tc := ⟨.hbm, 58, rfl⟩
abbrev main_v23_5 : Ref sig .tc := ⟨.hbm, 59, rfl⟩
abbrev main_v23_6 : Ref sig .tc := ⟨.hbm, 60, rfl⟩
abbrev main_v23_7 : Ref sig .tc := ⟨.hbm, 61, rfl⟩
abbrev main_v23_8 : Ref sig .tc := ⟨.hbm, 62, rfl⟩
abbrev main_v23_9 : Ref sig .tc := ⟨.hbm, 63, rfl⟩
abbrev main_v23_10 : Ref sig .tc := ⟨.hbm, 64, rfl⟩
abbrev main_while0c_c_18 : Ref sig .tc := ⟨.hbm, 65, rfl⟩
abbrev main_while0c_v95 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_v0 : Ref sig .tc := ⟨.hbm, 69, rfl⟩
abbrev main_while0b_v95 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_v0 : Ref sig .tc := ⟨.hbm, 73, rfl⟩
abbrev main_while0b_v96 : Ref sig .tc := ⟨.hbm, 74, rfl⟩
abbrev main_while0b_v97 : Ref sig .tc := ⟨.hbm, 75, rfl⟩
abbrev main_while0b_v98 : Ref sig .tc := ⟨.hbm, 76, rfl⟩
abbrev main_while0b_v99 : Ref sig .tc := ⟨.hbm, 77, rfl⟩
abbrev main_while0b_v100 : Ref sig .tc := ⟨.hbm, 78, rfl⟩
abbrev main_while0b_v101 : Ref sig .tc := ⟨.hbm, 79, rfl⟩
abbrev main_while0b_v102 : Ref sig .tc := ⟨.hbm, 80, rfl⟩
abbrev main_while0b_v103 : Ref sig .tc := ⟨.hbm, 81, rfl⟩
abbrev main_while0b_cst_18 : Ref sig .tc := ⟨.hbm, 82, rfl⟩
abbrev main_while0b_v104 : Ref sig .tc := ⟨.hbm, 83, rfl⟩
abbrev main_while0b_v105 : Ref sig .tc := ⟨.hbm, 84, rfl⟩
abbrev main_while0b_cst_19 : Ref sig .tc := ⟨.hbm, 85, rfl⟩
abbrev main_while0b_v106 : Ref sig .tc := ⟨.hbm, 86, rfl⟩
abbrev main_while0b_v107 : Ref sig .tc := ⟨.hbm, 87, rfl⟩
abbrev main_while0b_v108 : Ref sig .tc := ⟨.hbm, 88, rfl⟩
abbrev main_while0b_v109 : Ref sig .tc := ⟨.hbm, 89, rfl⟩
abbrev main_while0b_v110 : Ref sig .tc := ⟨.hbm, 90, rfl⟩
abbrev main_while0b_v111 : Ref sig .tc := ⟨.hbm, 91, rfl⟩
abbrev main_while0b_v112 : Ref sig .tc := ⟨.hbm, 92, rfl⟩
abbrev main_while0b_v113 : Ref sig .tc := ⟨.hbm, 93, rfl⟩
abbrev main_while0b_v114 : Ref sig .tc := ⟨.hbm, 94, rfl⟩
abbrev main_while0b_v115 : Ref sig .tc := ⟨.hbm, 95, rfl⟩
abbrev main_while0b_v116 : Ref sig .tc := ⟨.hbm, 96, rfl⟩
abbrev main_while0b_v117 : Ref sig .tc := ⟨.hbm, 97, rfl⟩
abbrev main_while0b_cst_20 : Ref sig .tc := ⟨.hbm, 98, rfl⟩
abbrev main_while0b_v118 : Ref sig .tc := ⟨.hbm, 99, rfl⟩
abbrev main_while0b_v119 : Ref sig .tc := ⟨.hbm, 100, rfl⟩
abbrev main_while0b_v120 : Ref sig .tc := ⟨.hbm, 101, rfl⟩
abbrev main_while0b_v121 : Ref sig .tc := ⟨.hbm, 102, rfl⟩
abbrev main_while0b_v122 : Ref sig .tc := ⟨.hbm, 103, rfl⟩
abbrev main_while0b_v123 : Ref sig .tc := ⟨.hbm, 104, rfl⟩
abbrev main_while0b_v124 : Ref sig .tc := ⟨.hbm, 105, rfl⟩
abbrev main_while0b_v125 : Ref sig .tc := ⟨.hbm, 106, rfl⟩
abbrev main_while0b_v126 : Ref sig .tc := ⟨.hbm, 107, rfl⟩
abbrev main_while0b_v127 : Ref sig .tc := ⟨.hbm, 108, rfl⟩
abbrev main_while0b_v128 : Ref sig .tc := ⟨.hbm, 109, rfl⟩
abbrev main_while0b_v129 : Ref sig .tc := ⟨.hbm, 110, rfl⟩
abbrev main_while0b_cst_21 : Ref sig .tc := ⟨.hbm, 111, rfl⟩
abbrev main_while0b_v130 : Ref sig .tc := ⟨.hbm, 112, rfl⟩
abbrev main_while0b_v131 : Ref sig .tc := ⟨.hbm, 113, rfl⟩
abbrev main_while0b_cst_22 : Ref sig .tc := ⟨.hbm, 114, rfl⟩
abbrev main_while0b_v132 : Ref sig .tc := ⟨.hbm, 115, rfl⟩
abbrev main_while0b_v133 : Ref sig .tc := ⟨.hbm, 116, rfl⟩
abbrev main_while0b_v134 : Ref sig .tc := ⟨.hbm, 117, rfl⟩
abbrev main_while0b_v135 : Ref sig .tc := ⟨.hbm, 118, rfl⟩
abbrev main_while0b_v136 : Ref sig .tc := ⟨.hbm, 119, rfl⟩
abbrev main_while0b_v137 : Ref sig .tc := ⟨.hbm, 120, rfl⟩
abbrev main_while0b_v138 : Ref sig .tc := ⟨.hbm, 121, rfl⟩
abbrev main_while0b_v139 : Ref sig .tc := ⟨.hbm, 122, rfl⟩
abbrev main_while0b_v140 : Ref sig .tc := ⟨.hbm, 123, rfl⟩
abbrev main_while0b_v141 : Ref sig .tc := ⟨.hbm, 124, rfl⟩
abbrev main_while0b_v142 : Ref sig .tc := ⟨.hbm, 125, rfl⟩
abbrev main_while0b_v143 : Ref sig .tc := ⟨.hbm, 126, rfl⟩
abbrev main_while0b_cst_23 : Ref sig .tc := ⟨.hbm, 127, rfl⟩
abbrev main_while0b_v144 : Ref sig .tc := ⟨.hbm, 128, rfl⟩
abbrev main_while0b_v145 : Ref sig .tc := ⟨.hbm, 129, rfl⟩
abbrev main_while0b_v146 : Ref sig .tc := ⟨.hbm, 130, rfl⟩
abbrev main_while0b_v147 : Ref sig .tc := ⟨.hbm, 131, rfl⟩
abbrev main_while0b_v148 : Ref sig .tc := ⟨.hbm, 132, rfl⟩
abbrev main_while0b_call4_v0 : Ref sig .tc := ⟨.hbm, 133, rfl⟩
abbrev main_while0b_call4_c : Ref sig .tc := ⟨.hbm, 134, rfl⟩
abbrev main_while0b_call4_c_0 : Ref sig .tc := ⟨.hbm, 135, rfl⟩
abbrev main_while0b_v149 : Ref sig .tc := ⟨.hbm, 136, rfl⟩
abbrev main_while0b_call5_v0 : Ref sig .tc := ⟨.hbm, 137, rfl⟩
abbrev main_while0b_call5_c : Ref sig .tc := ⟨.hbm, 138, rfl⟩
abbrev main_while0b_call5_c_0 : Ref sig .tc := ⟨.hbm, 139, rfl⟩
abbrev main_while0b_v150 : Ref sig .tc := ⟨.hbm, 140, rfl⟩
abbrev main_while0b_c_24 : Ref sig .tc := ⟨.hbm, 141, rfl⟩
abbrev main_while0b_v151 : Ref sig .tc := ⟨.hbm, 142, rfl⟩
abbrev main_v24 : Ref sig .tc := ⟨.hbm, 143, rfl⟩
abbrev main_v25 : Ref sig .tc := ⟨.hbm, 144, rfl⟩
abbrev main_v26 : Ref sig .tc := ⟨.hbm, 145, rfl⟩
abbrev main_v27 : Ref sig .tc := ⟨.hbm, 146, rfl⟩
abbrev main_v28 : Ref sig .tc := ⟨.hbm, 147, rfl⟩
abbrev main_v29 : Ref sig .tc := ⟨.hbm, 148, rfl⟩
abbrev main_v30 : Ref sig .tc := ⟨.hbm, 149, rfl⟩
abbrev main_v31 : Ref sig .tc := ⟨.hbm, 150, rfl⟩
abbrev main_call7_cst : Ref sig .tc := ⟨.hbm, 151, rfl⟩
abbrev main_call7_v0 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_v39 : Ref sig .tc := ⟨.hbm, 160, rfl⟩
abbrev main_v40 : Ref sig .tc := ⟨.hbm, 161, rfl⟩
abbrev main_call8_cst : Ref sig .tc := ⟨.hbm, 162, rfl⟩
abbrev main_call8_v0 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_c_2 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_c_3 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_c_4 : Ref sig .tc := ⟨.hbm, 188, rfl⟩
abbrev main_call9_v0 : Ref sig .tc := ⟨.hbm, 189, rfl⟩
abbrev main_call9_v1 : Ref sig .tc := ⟨.hbm, 190, rfl⟩
abbrev main_v63 : Ref sig .tc := ⟨.hbm, 191, rfl⟩
abbrev main_v64 : Ref sig .tc := ⟨.hbm, 192, rfl⟩
abbrev main_v65 : Ref sig .tc := ⟨.hbm, 193, rfl⟩
abbrev main_v66 : Ref sig .tc := ⟨.hbm, 194, rfl⟩
abbrev main_call10_v0 : Ref sig .tc := ⟨.hbm, 195, rfl⟩
abbrev main_v67 : Ref sig .tc := ⟨.hbm, 196, rfl⟩
abbrev main_cst_5 : Ref sig .tc := ⟨.hbm, 197, rfl⟩
abbrev main_call11_v0 : Ref sig .tc := ⟨.hbm, 198, rfl⟩
abbrev main_call11_v1 : Ref sig .tc := ⟨.hbm, 199, rfl⟩
abbrev main_call11_v2 : Ref sig .tc := ⟨.hbm, 200, rfl⟩
abbrev main_v68 : Ref sig .tc := ⟨.hbm, 201, rfl⟩
abbrev main_v69 : Ref sig .tc := ⟨.hbm, 202, rfl⟩
abbrev main_cst_6 : Ref sig .tc := ⟨.hbm, 203, rfl⟩
abbrev main_v70 : Ref sig .tc := ⟨.hbm, 204, rfl⟩
abbrev main_v71 : Ref sig .tc := ⟨.hbm, 205, rfl⟩
abbrev main_v72 : Ref sig .tc := ⟨.hbm, 206, rfl⟩
abbrev main_v73 : Ref sig .tc := ⟨.hbm, 207, rfl⟩
abbrev main_v74 : Ref sig .tc := ⟨.hbm, 208, rfl⟩
abbrev main_c_7 : Ref sig .tc := ⟨.hbm, 209, rfl⟩
abbrev main_v75 : Ref sig .tc := ⟨.hbm, 210, rfl⟩
abbrev main_v76 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_v80 : Ref sig .tc := ⟨.hbm, 215, rfl⟩
abbrev main_v81 : Ref sig .tc := ⟨.hbm, 216, rfl⟩
abbrev main_v82 : Ref sig .tc := ⟨.hbm, 217, rfl⟩
abbrev main_v83 : Ref sig .tc := ⟨.hbm, 218, rfl⟩
abbrev main_v84 : Ref sig .tc := ⟨.hbm, 219, rfl⟩
abbrev main_v85 : Ref sig .tc := ⟨.hbm, 220, rfl⟩
abbrev main_v86 : Ref sig .tc := ⟨.hbm, 221, rfl⟩
abbrev main_v87 : Ref sig .tc := ⟨.hbm, 222, rfl⟩
abbrev main_v88 : Ref sig .tc := ⟨.hbm, 223, rfl⟩
abbrev main_call12_cst : Ref sig .tc := ⟨.hbm, 224, rfl⟩
abbrev main_call12_v0 : Ref sig .tc := ⟨.hbm, 225, rfl⟩
abbrev main_v89 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_v94 : Ref sig .tc := ⟨.hbm, 231, rfl⟩

abbrev nD : Nat := 1
abbrev τ : Topo := Topo.v7x

variable {F : FTy → Type} [FloatOps F]

abbrev main_while0_count : Scf.Loop 32 := ⟨0#32, 512#32, 1#32⟩
-- ==== Proof.Ideal.Recur.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.Value
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The first launch: the recurrence over time, one direction after the other. Its body, its data and its obligation. -/

@[expose] public section

set_option maxRecDepth 16384

noncomputable section

namespace Cert.KernelIdeal.Recur

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev rS128x256 : Rect S128x256 := Rect.unit (s := S128x256) ![0, 0] S128x256.size inb_S128x256_S128x256_0_0
abbrev rS1x256 : Rect S1x256 := Rect.unit (s := S1x256) ![0, 0] S1x256.size inb_S1x256_S1x256_0_0
abbrev rS256x512 : Rect S256x512 := Rect.unit (s := S256x512) ![0, 0] S256x512.size inb_S256x512_S256x512_0_0
abbrev rS1x512 : Rect S1x512 := Rect.unit (s := S1x512) ![0, 0] S1x512.size inb_S1x512_S1x512_0_0
abbrev rS1x512x1536 : Rect S1x512x1536 := Rect.unit (s := S1x512x1536) ![0, 0, 0] S1x512x1536.size inb_S1x512x1536_S1x512x1536_0_0_0
abbrev rS1x1x1536 : Rect S1x1x1536 := Rect.unit (s := S1x1x1536) ![0, 0, 0] S1x1x1536.size inb_S1x1x1536_S1x1x1536_0_0_0
abbrev rS1x1x512 : Rect S1x1x512 := Rect.unit (s := S1x1x512) ![0, 0, 0] S1x1x512.size inb_S1x1x512_S1x1x512_0_0_0
abbrev rS32x512 : Rect S32x512 := Rect.unit (s := S32x512) ![0, 0] S32x512.size inb_S32x512_S32x512_0_0
abbrev rX0 : Rect S2048x128 := Rect.unit (s := S2048x128) ![0, 0] S256x128.size inb_S2048x128_S256x128_0_0
abbrev rX1 : Rect S2048x128 := Rect.unit (s := S2048x128) ![256, 0] S256x128.size inb_S2048x128_S256x128_256_0
abbrev rX2 : Rect S2048x128 := Rect.unit (s := S2048x128) ![512, 0] S256x128.size inb_S2048x128_S256x128_512_0
abbrev rX3 : Rect S2048x128 := Rect.unit (s := S2048x128) ![768, 0] S256x128.size inb_S2048x128_S256x128_768_0
abbrev rX4 : Rect S2048x128 := Rect.unit (s := S2048x128) ![1024, 0] S256x128.size inb_S2048x128_S256x128_1024_0
abbrev rX5 : Rect S2048x128 := Rect.unit (s := S2048x128) ![1280, 0] S256x128.size inb_S2048x128_S256x128_1280_0
abbrev rX6 : Rect S2048x128 := Rect.unit (s := S2048x128) ![1536, 0] S256x128.size inb_S2048x128_S256x128_1536_0
abbrev rX7 : Rect S2048x128 := Rect.unit (s := S2048x128) ![1792, 0] S256x128.size inb_S2048x128_S256x128_1792_0
abbrev rP0 : Rect S2048x1536 := Rect.unit (s := S2048x1536) ![0, 0] S256x1536.size inb_S2048x1536_S256x1536_0_0
abbrev rP1 : Rect S2048x1536 := Rect.unit (s := S2048x1536) ![256, 0] S256x1536.size inb_S2048x1536_S256x1536_256_0
abbrev rP2 : Rect S2048x1536 := Rect.unit (s := S2048x1536) ![512, 0] S256x1536.size inb_S2048x1536_S256x1536_512_0
abbrev rP3 : Rect S2048x1536 := Rect.unit (s := S2048x1536) ![768, 0] S256x1536.size inb_S2048x1536_S256x1536_768_0
abbrev rP4 : Rect S2048x1536 := Rect.unit (s := S2048x1536) ![1024, 0] S256x1536.size inb_S2048x1536_S256x1536_1024_0
abbrev rP5 : Rect S2048x1536 := Rect.unit (s := S2048x1536) ![1280, 0] S256x1536.size inb_S2048x1536_S256x1536_1280_0
abbrev rP6 : Rect S2048x1536 := Rect.unit (s := S2048x1536) ![1536, 0] S256x1536.size inb_S2048x1536_S256x1536_1536_0
abbrev rP7 : Rect S2048x1536 := Rect.unit (s := S2048x1536) ![1792, 0] S256x1536.size inb_S2048x1536_S256x1536_1792_0

/-- The eight stores of a block's input projection, last first, from the blocks of the activations and weights. -/
def xpPieces (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) : List (View.Piece (Elt F) S2048x1536 .f32) :=
  [⟨rP7, k0_pay19 (k0_pay3 (View.ld x5 rS1x512x1536)) (k0_pay4 (View.ld x6 rS1x1x1536)) (View.ld x0 rX7) (View.ld x1 rS128x256) (View.ld x2 rS1x256) (View.ld x3 rS256x512) (View.ld x4 rS1x512)⟩,
   ⟨rP6, k0_pay18 (k0_pay17 (k0_pay3 (View.ld x5 rS1x512x1536)) (k0_pay4 (View.ld x6 rS1x1x1536)) (View.ld x0 rX6) (View.ld x1 rS128x256) (View.ld x2 rS1x256) (View.ld x3 rS256x512) (View.ld x4 rS1x512))⟩,
   ⟨rP5, k0_pay16 (k0_pay3 (View.ld x5 rS1x512x1536)) (k0_pay4 (View.ld x6 rS1x1x1536)) (k0_pay15 (View.ld x0 rX5) (View.ld x1 rS128x256) (View.ld x2 rS1x256)) (View.ld x3 rS256x512) (View.ld x4 rS1x512)⟩,
   ⟨rP4, k0_pay14 (k0_pay3 (View.ld x5 rS1x512x1536)) (k0_pay4 (View.ld x6 rS1x1x1536)) (View.ld x0 rX4) (View.ld x1 rS128x256) (View.ld x2 rS1x256) (View.ld x3 rS256x512) (View.ld x4 rS1x512)⟩,
   ⟨rP3, k0_pay13 (k0_pay12 (k0_pay3 (View.ld x5 rS1x512x1536)) (k0_pay4 (View.ld x6 rS1x1x1536)) (View.ld x0 rX3) (View.ld x1 rS128x256) (View.ld x2 rS1x256) (View.ld x3 rS256x512) (View.ld x4 rS1x512))⟩,
   ⟨rP2, k0_pay11 (k0_pay3 (View.ld x5 rS1x512x1536)) (k0_pay4 (View.ld x6 rS1x1x1536)) (k0_pay10 (View.ld x0 rX2) (View.ld x1 rS128x256)) (View.ld x2 rS1x256) (View.ld x3 rS256x512) (View.ld x4 rS1x512)⟩,
   ⟨rP1, k0_pay9 (k0_pay3 (View.ld x5 rS1x512x1536)) (k0_pay4 (View.ld x6 rS1x1x1536)) (View.ld x0 rX1) (View.ld x1 rS128x256) (View.ld x2 rS1x256) (View.ld x3 rS256x512) (View.ld x4 rS1x512)⟩,
   ⟨rP0, k0_pay8 (k0_pay3 (View.ld x5 rS1x512x1536)) (k0_pay4 (View.ld x6 rS1x1x1536)) (k0_pay7 (View.ld x0 rX0) (View.ld x1 rS128x256) (View.ld x2 rS1x256) (View.ld x3 rS256x512) (View.ld x4 rS1x512)) (constant S256x1536 .f32 0x00000000#32)⟩]

/-- The input projection of a whole block. -/
def xp (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) : Vec F S2048x1536 .f32 := View.canon (xpPieces x0 x1 x2 x3 x4 x5 x6)

/-- The eight stores fill the buffer of the projection. -/
theorem xp_cover (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (y : S2048x1536.Idx) :
    ∃ pc ∈ xpPieces x0 x1 x2 x3 x4 x5 x6, y ∈ pc.1.set :=
  View.cover_of_tiled (xpPieces x0 x1 x2 x3 x4 x5 x6) S256x1536.size (by rfl) y

/-- The state after `k` steps inside a block, from the state `h` it is entered with. -/
def hst (i : grid0.Coords) (v9 : FVec F S512x1536 .f32) (v11 : FVec F S1x512 .f32) (X : Vec F S2048x1536 .f32)
    (h : Vec F S32x512 .f32) : ℕ → Vec F S32x512 .f32
  | 0 => h
  | k + 1 => if hk : k < k0_t1_loop.trips then
      k0_pay20 v9 v11 (hst i v9 v11 X h k)
        (View.ld X (Rect.unit (s := S2048x1536) (k0_off1 i ⟨k, hk⟩) S32x1536.size (k0_off1_inb i ⟨k, hk⟩)))
    else hst i v9 v11 X h k

/-- The rows the first `k` steps write, last first. -/
def hpc (i : grid0.Coords) (v9 : FVec F S512x1536 .f32) (v11 : FVec F S1x512 .f32) (X : Vec F S2048x1536 .f32)
    (h : Vec F S32x512 .f32) : ℕ → List (View.Piece (Elt F) S1x2048x512 .f32)
  | 0 => []
  | k + 1 => if hk : k < k0_t1_loop.trips then
      ⟨Rect.unit (s := S1x2048x512) (k0_off2 i ⟨k, hk⟩) S1x32x512.size (k0_off2_inb i ⟨k, hk⟩),
        k0_pay21 v9 v11 (hst i v9 v11 X h k)
          (View.ld X (Rect.unit (s := S2048x1536) (k0_off1 i ⟨k, hk⟩) S32x1536.size (k0_off1_inb i ⟨k, hk⟩)))⟩
        :: hpc i v9 v11 X h k
    else hpc i v9 v11 X h k

/-- The loop's state and stores, as the run finds them, are the plain recursions above. -/
theorem st_eq (c : Dev nD) (i : grid0.Coords) (arg2 : Memref sig .tc .vmem S2048x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512x1536 .f32) (harg7 : arg7.IsWhole) (arg8 : Memref sig .tc .vmem S1x1x1536 .f32) (harg8 : arg8.IsWhole) (arg9 : Memref sig .tc .vmem S1x512x1536 .f32) (harg9 : arg9.IsWhole) (arg10 : Memref sig .tc .vmem S1x1x512 .f32) (harg10 : arg10.IsWhole) (arg11 : Memref sig .tc .vmem S1x2048x512 .f32) (harg11 : arg11.IsWhole) (arg12 : Memref sig .tc .vmem S2048x1536 .f32) (harg12 : arg12.IsWhole) (arg13 : Memref sig .tc .vmem S32x512 .f32) (harg13 : arg13.IsWhole) (v9 : FVec F S512x1536 .f32) (v11 : FVec F S1x512 .f32)
    (Y : BufTy.Contents (Elt F) arg12.view.ty) (X : Vec F S2048x1536 .f32) (hX : arg12.view.read (Elt F) Y = X) (h : Vec F S32x512 .f32) :
    ∀ k, st_k0_t1 (F := F) Variants.none c none i arg2 harg2 arg3 harg3 arg4 harg4 arg5 harg5 arg6 harg6 arg7 harg7 arg8 harg8 arg9 harg9 arg10 harg10 arg11 harg11 arg12 harg12 arg13 harg13 v9 v11 Y h k = (hst i v9 v11 X h k, hpc i v9 v11 X h k) := by
  subst hX
  intro k
  induction k with
  | zero => rfl
  | succ k ih =>
    rw [st_k0_t1.eq_2, ih]
    unfold st_k0_t1Step
    rw [hst, hpc]
    split
    · rename_i hk
      refine Prod.ext ?_ ?_
      · unfold tripR_k0_t1 trip_k0_t1; rfl
      · unfold tripL_k0_t1 trip_k0_t1; rfl
    · rfl

/-- The row of the block that step `k` works on: first to last in the first direction, last to first in the second. -/
def row (d k : ℕ) : ℕ := if d = 1 then 63 - k else k

/-- The inner loop has 64 trips. -/
theorem trips_eq : k0_t1_loop.trips = 64 := by decide

/-- The row of the projections that each trip reads. -/
theorem off1_all : ∀ (i : Fin 2) (k : Fin k0_t1_loop.trips), ∀ j : Fin 8, k0_off1 (fun | 0 => i | 1 => j) k = ![row i.val k.val * 32, 0] := by decide +kernel
/-- The row of the output that each trip writes. -/
theorem off2_all : ∀ (i : Fin 2) (k : Fin k0_t1_loop.trips), ∀ j : Fin 8, k0_off2 (fun | 0 => i | 1 => j) k = ![0, row i.val k.val * 32, 0] := by decide +kernel

/-- A grid point is its two coordinates. -/
theorem coords_eta (i : grid0.Coords) : i = (fun | 0 => i 0 | 1 => i 1) := by
  funext a; fin_cases a <;> rfl

/-- Where step `k` reads the projection, -/
theorem off1_eq (i : grid0.Coords) (k : Fin k0_t1_loop.trips) : k0_off1 i k = ![row (i 0).val k.val * 32, 0] := by
  rw [coords_eta i]; exact off1_all (i 0) k (i 1)

/-- and where it writes its state. -/
theorem off2_eq (i : grid0.Coords) (k : Fin k0_t1_loop.trips) : k0_off2 i k = ![0, row (i 0).val k.val * 32, 0] := by
  rw [coords_eta i]; exact off2_all (i 0) k (i 1)

/-- Step `k`'s store is among the first `n` steps' for `k < n`. -/
theorem mem_hpc (i : grid0.Coords) (v9 : FVec F S512x1536 .f32) (v11 : FVec F S1x512 .f32) (X : Vec F S2048x1536 .f32)
    (h : Vec F S32x512 .f32) (k : ℕ) (hk : k < k0_t1_loop.trips) : ∀ n, k < n →
    (⟨Rect.unit (s := S1x2048x512) (k0_off2 i ⟨k, hk⟩) S1x32x512.size (k0_off2_inb i ⟨k, hk⟩),
        k0_pay21 v9 v11 (hst i v9 v11 X h k)
          (View.ld X (Rect.unit (s := S2048x1536) (k0_off1 i ⟨k, hk⟩) S32x1536.size (k0_off1_inb i ⟨k, hk⟩)))⟩ : View.Piece (Elt F) S1x2048x512 .f32)
      ∈ hpc i v9 v11 X h n := by
  intro n
  induction n with
  | zero => intro h; exact absurd h (Nat.not_lt_zero _)
  | succ n ih =>
    intro hn
    rw [hpc]
    rcases Nat.lt_succ_iff_lt_or_eq.mp hn with hn | rfl
    · split
      · exact List.mem_cons_of_mem _ (ih hn)
      · exact ih hn
    · rw [dif_pos hk]; exact List.mem_cons_self

/-- The steps' stores fill the block of states. -/
theorem hpc_cover (i : grid0.Coords) (v9 : FVec F S512x1536 .f32) (v11 : FVec F S1x512 .f32) (X : Vec F S2048x1536 .f32)
    (h : Vec F S32x512 .f32) (y : S1x2048x512.Idx) : ∃ pc ∈ hpc i v9 v11 X h k0_t1_loop.trips, y ∈ pc.1.set := by
  have hy : (y 1).val < 2048 := (y 1).isLt
  have hd : (i 0).val < 2 := (i 0).isLt
  let k : ℕ := row (i 0).val ((y 1).val / 32)
  have hk : k < k0_t1_loop.trips := by rw [trips_eq]; show row _ _ < 64; unfold row; split <;> omega
  have hrow : row (i 0).val k = (y 1).val / 32 := by show row _ (row _ _) = _; unfold row; split <;> omega
  refine ⟨_, mem_hpc i v9 v11 X h k hk _ hk, ?_⟩
  rw [Rect.mem_set_unit]
  intro a
  rw [off2_eq]
  have h0 : (y 0).val < 1 := (y 0).isLt
  have h2 : (y 2).val < 512 := (y 2).isLt
  fin_cases a
  · show 0 ≤ (y 0).val ∧ (y 0).val < 0 + 1; omega
  · show row (i 0).val k * 32 ≤ (y 1).val ∧ (y 1).val < row (i 0).val k * 32 + 32; rw [hrow]; omega
  · show 0 ≤ (y 2).val ∧ (y 2).val < 0 + 512; omega

/-- The condition of a block that begins a direction. -/
def cond (i : grid0.Coords) : Prop :=
  Scalar.cmpi .ne (Scalar.extui (Scalar.cmpi .eq (BitVec.ofNat 32 (i 1).val) 0#32)) 0#32 = 1#1

instance (i : grid0.Coords) : Decidable (cond i) := by unfold cond; infer_instance

/-- The state a block is entered with: zero at the beginning of a direction, else the state carried. -/
def h0 (i : grid0.Coords) (s : Vec F S32x512 .f32) : Vec F S32x512 .f32 := if cond i then k0_pay2 else s

/-- The state after `k` steps of a block, from the blocks read and the state carried. -/
def hAt (i : grid0.Coords) (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s : Vec F S32x512 .f32) (k : ℕ) : Vec F S32x512 .f32 :=
  hst i (k0_pay5 (View.ld x7 rS1x512x1536)) (k0_pay6 (View.ld x8 rS1x1x512)) (xp x0 x1 x2 x3 x4 x5 x6) (h0 i s) k

/-- What the body leaves in the block of states, -/
def out9 (i : grid0.Coords) (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s : Vec F S32x512 .f32) : Vec F S1x2048x512 .f32 :=
  View.canon (hpc i (k0_pay5 (View.ld x7 rS1x512x1536)) (k0_pay6 (View.ld x8 rS1x1x512)) (xp x0 x1 x2 x3 x4 x5 x6) (h0 i s) k0_t1_loop.trips)

/-- and the state it hands on. -/
def hOut (i : grid0.Coords) (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s : Vec F S32x512 .f32) : Vec F S32x512 .f32 :=
  View.canon [⟨rS32x512, k0_pay1 (hAt i x0 x1 x2 x3 x4 x5 x6 x7 x8 s k0_t1_loop.trips)⟩]

/-- One piece covers the scratch. -/
theorem cover13 (p : Vec F S32x512 .f32) (y : S32x512.Idx) :
    ∃ pc ∈ ([⟨rS32x512, p⟩] : List (View.Piece (Elt F) S32x512 .f32)), y ∈ pc.1.set :=
  View.cover_of_tiled [⟨rS32x512, p⟩] S32x512.size (by rfl) y

/-- A scratch written whole holds what was written. -/
theorem canon13 (p : Vec F S32x512 .f32) : View.canon [(⟨rS32x512, p⟩ : View.Piece (Elt F) S32x512 .f32)] = p :=
  View.canon_unit_zero (by funext a; fin_cases a <;> rfl) _ p

/-- A scratch read whole is its contents. -/
theorem ld13 (p : Vec F S32x512 .f32) : View.ld p rS32x512 = p :=
  View.ld_unit_zero (by funext a; fin_cases a <;> rfl) _ p

set_option maxHeartbeats 8000000 in
/-- The body, run on whole buffers holding `x…` in the inputs, the carried state `s` in its scratch and anything in the
    rest, returns the inputs as they were, the states in the output's buffer and the last state in the scratch. -/
theorem sound_kernel (c : Dev nD) (E : Set ℕ) (i : grid0.Coords) (arg2 : Memref sig .tc .vmem S2048x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512x1536 .f32) (harg7 : arg7.IsWhole) (arg8 : Memref sig .tc .vmem S1x1x1536 .f32) (harg8 : arg8.IsWhole) (arg9 : Memref sig .tc .vmem S1x512x1536 .f32) (harg9 : arg9.IsWhole) (arg10 : Memref sig .tc .vmem S1x1x512 .f32) (harg10 : arg10.IsWhole) (arg11 : Memref sig .tc .vmem S1x2048x512 .f32) (harg11 : arg11.IsWhole) (arg12 : Memref sig .tc .vmem S2048x1536 .f32) (harg12 : arg12.IsWhole) (arg13 : Memref sig .tc .vmem S32x512 .f32) (harg13 : arg13.IsWhole)
    (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s : Vec F S32x512 .f32) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ (∃ d, owns (c : Thread nD τ) arg11 fullShare d)
        ∗ (∃ d, owns (c : Thread nD τ) arg12 fullShare d)
        ∗ owns (c : Thread nD τ) arg13 fullShare s
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare (out9 i x0 x1 x2 x3 x4 x5 x6 x7 x8 s)
        ∗ (∃ d, owns (c : Thread nD τ) arg12 fullShare d)
        ∗ owns (c : Thread nD τ) arg13 fullShare (hOut i x0 x1 x2 x3 x4 x5 x6 x7 x8 s)) -∗ K ⟨⟩))
      ⊢ wp frame (wpE (defs₀ (F := F)) Variants.none c none) E (cc0__rnn_kernel i arg2 harg2 arg3 harg3 arg4 harg4 arg5 harg5 arg6 harg6 arg7 harg7 arg8 harg8 arg9 harg9 arg10 harg10 arg11 harg11 arg12 harg12 arg13 harg13) K := by
  simp only [cc0__rnn_kernel_eq_skeleton]; unfold cc0__rnn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  subst hf0; subst hf1; subst hf2; subst hf3; subst hf4; subst hf5; subst hf6; subst hf7; subst hf8; subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  have hX := View.read_writes_eq_canon arg12.view arg12.view.junk _ (xp_cover (arg2.view.read (Elt F) f0) (arg3.view.read (Elt F) f1) (arg4.view.read (Elt F) f2) (arg5.view.read (Elt F) f3) (arg6.view.read (Elt F) f4) (arg7.view.read (Elt F) f5) (arg8.view.read (Elt F) f6))
  have hv : sound_kernel.sl.v188 c i arg13 f11 = h0 i (arg13.view.read (Elt F) f11) := by
    unfold sound_kernel.sl.v188 h0
    by_cases hc : cond i
    · rw [dif_pos (show sound_kernel.sl.v2 i = 1#1 from hc), if_pos hc]
      refine (congrArg (fun g => View.ld g rS32x512) (View.read_writes_eq_canon _ _ _ (cover13 _))).trans ?_
      rw [canon13, ld13]
    · rw [dif_neg (show ¬ sound_kernel.sl.v2 i = 1#1 from hc), if_neg hc]
      exact ld13 _
  have hst := st_eq c i arg2 harg2 arg3 harg3 arg4 harg4 arg5 harg5 arg6 harg6 arg7 harg7 arg8 harg8 arg9 harg9 arg10 harg10 arg11 harg11 arg12 harg12 arg13 harg13 (sound_kernel.sl.r_2 c arg9 f7) (sound_kernel.sl.r_3 c arg10 f8) _ _ hX
    (sound_kernel.sl.v188 c i arg13 f11) k0_t1_loop.trips
  rw [hv] at hst
  isplitl [H9]
  · iexists _; isplitr; swap; · iexact H9
    ipureintro
    rw [hv]
    refine (congrArg (fun p => arg11.view.read (Elt F) (arg11.view.writes (Elt F) f9 p)) (congrArg Prod.snd hst)).trans ?_
    exact View.read_writes_eq_canon _ _ _ (hpc_cover i _ _ _ _)
  isplitl [H10]
  · iexists _; iexists _; isplitr; swap; · iexact H10
    ipureintro; rfl
  iexists _; isplitr; swap; · iexact H11
  ipureintro
  refine (View.read_writes_eq_canon _ _ _ (cover13 _)).trans ?_
  refine congrArg (fun p => View.canon [(⟨rS32x512, k0_pay1 p⟩ : View.Piece (Elt F) S32x512 .f32)]) ?_
  unfold sound_kernel.sl.r_10
  rw [hv]
  exact congrArg Prod.fst hst

/-- The block of window `w` at point `t`, read off its array as the launch finds it. -/
def iblk (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The state carried into point `n`: zero before the first, then what the point before handed on. -/
def carried (c : Dev nD) : ℕ → Vec F S32x512 .f32
  | 0 => k0_pay2
  | n + 1 => if hn : n < cfg0.N then
      let t : Fin cfg0.N := ⟨n, hn⟩
      hOut (grid0.coords t) (iblk V c 0 t) (iblk V c 1 t) (iblk V c 2 t) (iblk V c 3 t) (iblk V c 4 t) (iblk V c 5 t) (iblk V c 6 t) (iblk V c 7 t) (iblk V c 8 t) (carried c n)
    else carried c n

/-- The state carried past a grid point. -/
theorem carried_succ (c : Dev nD) (t : Fin cfg0.N) :
    carried V c (t.val + 1) = hOut (grid0.coords t) (iblk V c 0 t) (iblk V c 1 t) (iblk V c 2 t) (iblk V c 3 t) (iblk V c 4 t) (iblk V c 5 t) (iblk V c 6 t) (iblk V c 7 t) (iblk V c 8 t) (carried V c t.val) := by
  rw [carried, dif_pos t.isLt]

/-- A block begins a direction exactly at the multiples of eight. -/
theorem cond_iff : ∀ t : Fin cfg0.N, cond (grid0.coords t) ↔ t.val % 8 = 0 :=
  (by decide +kernel : ∀ t : Fin grid0.N, cond (grid0.coords t) ↔ t.val % 8 = 0)

/-- The state found in the scratch matters only after the first point. -/
theorem h0_found (c : Dev nD) (t : Fin cfg0.N) (s : Vec F S32x512 .f32) (hs : t.val ≠ 0 → s = carried V c t.val) :
    h0 (grid0.coords t) s = h0 (grid0.coords t) (carried V c t.val) := by
  by_cases ht : t.val = 0
  · unfold h0; rw [if_pos ((cond_iff t).mpr (by rw [ht])), if_pos ((cond_iff t).mpr (by rw [ht]))]
  · rw [hs ht]

/-- The state that a grid point leaves, in the body's own words. -/
theorem hOut_found (i : grid0.Coords) (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s s' : Vec F S32x512 .f32) (h : h0 i s = h0 i s') :
    hOut i x0 x1 x2 x3 x4 x5 x6 x7 x8 s = hOut i x0 x1 x2 x3 x4 x5 x6 x7 x8 s' := by
  unfold hOut hAt; rw [h]

/-- The output block that a grid point leaves, in the body's own words. -/
theorem out9_found (i : grid0.Coords) (x0 : Vec F S2048x128 .f32) (x1 : Vec F S128x256 .f32) (x2 : Vec F S1x256 .f32) (x3 : Vec F S256x512 .f32) (x4 : Vec F S1x512 .f32) (x5 : Vec F S1x512x1536 .f32) (x6 : Vec F S1x1x1536 .f32) (x7 : Vec F S1x512x1536 .f32) (x8 : Vec F S1x1x512 .f32) (s s' : Vec F S32x512 .f32) (h : h0 i s = h0 i s') :
    out9 i x0 x1 x2 x3 x4 x5 x6 x7 x8 s = out9 i x0 x1 x2 x3 x4 x5 x6 x7 x8 s' := by
  unfold out9; rw [h]

/-- Between points: the carried state in its scratch (anything before the first), the rest at anything. -/
def Inv (c : Dev nD) (n : ℕ) : sProp 𝕄 :=
  iprop((∃ s, owns (c : Thread nD τ) (Memref.whole cc0_scratch1) fullShare s ∗ ⌜n ≠ 0 → s = carried V c n⌝)
    ∗ (∃ d, owns (c : Thread nD τ) (Memref.whole cc0_scratch0) fullShare d)
    ∗ Pipeline.scopedRestBut (Ix := Unit) (Name := ℕ) (U := UR sig nD τ) (Lvl := ℕ) (Val := Elt F) spec0 c [cc0_scratch0, cc0_scratch1])

/-- The data of the launch: arrays as found, inputs' buffers left at their blocks, the output's at the states. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9 (grid0.coords t) (iblk V c 0 t) (iblk V c 1 t) (iblk V c 2 t) (iblk V c 3 t) (iblk V c 4 t) (iblk V c 5 t) (iblk V c 6 t) (iblk V c 7 t) (iblk V c 8 t) (carried V c t.val)
    | ⟨_ + 10, h⟩ => absurd h (Nat.not_lt.2 (Nat.le_add_left _ _))
  Φ t := Inv V c t.val
  q _ := fullShare
  owed _ := 0

/-- Each window's array is the one found at the region's entry. -/
theorem A_eq (c : Dev nD) (w : Fin cfg0.W) : (dat V c).A w = V c (Pipeline.arrRef spec0 w) := by dsimp only [dat]

/-- What window 0 holds after a grid point. -/
theorem after0 (c : Dev nD) (t : Fin cfg0.N) : (dat V c).after 0 t = iblk V c 0 t := by dsimp only [dat]
/-- What window 1 holds after a grid point. -/
theorem after1 (c : Dev nD) (t : Fin cfg0.N) : (dat V c).after 1 t = iblk V c 1 t := by dsimp only [dat]
/-- What window 2 holds after a grid point. -/
theorem after2 (c : Dev nD) (t : Fin cfg0.N) : (dat V c).after 2 t = iblk V c 2 t := by dsimp only [dat]
/-- What window 3 holds after a grid point. -/
theorem after3 (c : Dev nD) (t : Fin cfg0.N) : (dat V c).after 3 t = iblk V c 3 t := by dsimp only [dat]
/-- What window 4 holds after a grid point. -/
theorem after4 (c : Dev nD) (t : Fin cfg0.N) : (dat V c).after 4 t = iblk V c 4 t := by dsimp only [dat]
/-- What window 5 holds after a grid point. -/
theorem after5 (c : Dev nD) (t : Fin cfg0.N) : (dat V c).after 5 t = iblk V c 5 t := by dsimp only [dat]
/-- What window 6 holds after a grid point. -/
theorem after6 (c : Dev nD) (t : Fin cfg0.N) : (dat V c).after 6 t = iblk V c 6 t := by dsimp only [dat]
/-- What window 7 holds after a grid point. -/
theorem after7 (c : Dev nD) (t : Fin cfg0.N) : (dat V c).after 7 t = iblk V c 7 t := by dsimp only [dat]
/-- What window 8 holds after a grid point. -/
theorem after8 (c : Dev nD) (t : Fin cfg0.N) : (dat V c).after 8 t = iblk V c 8 t := by dsimp only [dat]
/-- What window 9 holds after a grid point. -/
theorem after9 (c : Dev nD) (t : Fin cfg0.N) : (dat V c).after 9 t = out9 (grid0.coords t) (iblk V c 0 t) (iblk V c 1 t) (iblk V c 2 t) (iblk V c 3 t) (iblk V c 4 t) (iblk V c 5 t) (iblk V c 6 t) (iblk V c 7 t) (iblk V c 8 t) (carried V c t.val) := by dsimp only [dat]

/-! Each input's buffer holds its block at every point, fetched there or not. -/

/-- Window 0 holds its block before a grid point. -/
theorem before0 (c : Dev nD) (t : Fin cfg0.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Window 1 holds its block before a grid point. -/
theorem before1 (c : Dev nD) (t : Fin cfg0.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Window 2 holds its block before a grid point. -/
theorem before2 (c : Dev nD) (t : Fin cfg0.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Window 3 holds its block before a grid point. -/
theorem before3 (c : Dev nD) (t : Fin cfg0.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Window 4 holds its block before a grid point. -/
theorem before4 (c : Dev nD) (t : Fin cfg0.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Window 5 holds its block before a grid point. -/
theorem before5 (c : Dev nD) (t : Fin cfg0.N) (d) : (dat V c).before 5 t d = iblk V c 5 t :=
  ((dat V c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Window 6 holds its block before a grid point. -/
theorem before6 (c : Dev nD) (t : Fin cfg0.N) (d) : (dat V c).before 6 t d = iblk V c 6 t :=
  ((dat V c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
/-- Window 7 holds its block before a grid point. -/
theorem before7 (c : Dev nD) (t : Fin cfg0.N) (d) : (dat V c).before 7 t d = iblk V c 7 t :=
  ((dat V c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
/-- Window 8 holds its block before a grid point. -/
theorem before8 (c : Dev nD) (t : Fin cfg0.N) (d) : (dat V c).before 8 t d = iblk V c 8 t :=
  ((dat V c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t))

set_option maxHeartbeats 4000000 in
/-- The body at any point, from its triple. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8]
  rw [show (dat V c).Φ t.castSucc = Inv V c t.val from by dsimp only [dat]; rfl,
    show (dat V c).Φ t.succ = Inv V c (t.val + 1) from by dsimp only [dat]; rfl,
    show (dat V c).owesAt () t.succ = (dat V c).owesAt () t.castSucc from rfl,
    after0, after1, after2, after3, after4, after5, after6, after7, after8, after9]
  unfold Inv
  rw [carried_succ]
  iintro ⟨⟨⟨%s, HS, %hs⟩, HX, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hf := h0_found V c t s hs
  iapply (sound_kernel c Set.univ (grid0.coords t) _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HX]; · iexact HX
  isplitl [HS]; · iexact HS
  iintro ⟨H0, H1, H2, H3, H4, H5, H6, H7, H8, H9, HX, HS⟩
  isplitl [HS HX Hr]
  · isplitl [HS]
    · iexists _; isplitl [HS]; · iexact HS
      ipureintro; exact fun _ => hOut_found _ _ _ _ _ _ _ _ _ _ _ _ hf
    isplitl [HX]; · iexact HX
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [← out9_found _ _ _ _ _ _ _ _ _ _ _ _ hf]
  iexact H9

/-- The body that a grid point runs. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The obligation of the launch's body at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The scoped buffers at anything are the invariant before the first point, -/
theorem inv_in (c : Dev nD) :
    Pipeline.scopedRest (Ix := Unit) (Name := ℕ) (U := UR sig nD τ) (Lvl := ℕ) (Val := Elt F) spec0 c ⊢ Inv V c 0 := by
  rw [scopedRest0_split]; unfold Inv; simp only [owns_whole]
  iintro ⟨⟨HX, ⟨%s, HS⟩⟩, Hr⟩
  isplitl [HS]
  · iexists s; isplitl [HS]; · iexact HS
    ipureintro; exact fun h => absurd rfl h
  isplitl [HX]; · iexact HX
  iexact Hr

/-- and the invariant after any point gives them back. -/
theorem inv_out (c : Dev nD) (n : ℕ) :
    Inv V c n ⊢ Pipeline.scopedRest (Ix := Unit) (Name := ℕ) (U := UR sig nD τ) (Lvl := ℕ) (Val := Elt F) spec0 c := by
  rw [scopedRest0_split]; unfold Inv; simp only [owns_whole]
  iintro ⟨⟨%s, HS, -⟩, HX, Hr⟩
  isplitl [HS HX]
  · isplitl [HX]; · iexact HX
    iexists s; iexact HS
  iexact Hr

end Cert.KernelIdeal.Recur

end
-- ==== Proof.Ideal.Heads.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The second launch: the three heads. Its body, its data and its obligation. -/

@[expose] public section

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array as the launch finds it. -/
def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev rFwd := Rect.unit (s := S2x512x512) ![0, 0, 0] S1x512x512.size inb_S2x512x512_S1x512x512_0_0_0
abbrev rBwd := Rect.unit (s := S2x512x512) ![1, 0, 0] S1x512x512.size inb_S2x512x512_S1x512x512_1_0_0
abbrev rS512x256 := Rect.unit (s := S512x256) ![0, 0] S512x256.size inb_S512x256_S512x256_0_0
abbrev rS1x256 := Rect.unit (s := S1x256) ![0, 0] S1x256.size inb_S1x256_S1x256_0_0
abbrev rS256x32 := Rect.unit (s := S256x32) ![0, 0] S256x32.size inb_S256x32_S256x32_0_0
abbrev rS1x32 := Rect.unit (s := S1x32) ![0, 0] S1x32.size inb_S1x32_S1x32_0_0
abbrev rS256x496 := Rect.unit (s := S256x496) ![0, 0] S256x496.size inb_S256x496_S256x496_0_0
abbrev rS1x496 := Rect.unit (s := S1x496) ![0, 0] S1x496.size inb_S1x496_S1x496_0_0
abbrev rS256x1024 := Rect.unit (s := S256x1024) ![0, 0] S256x1024.size inb_S256x1024_S256x1024_0_0
abbrev rS1x1024 := Rect.unit (s := S1x1024) ![0, 0] S1x1024.size inb_S1x1024_S1x1024_0_0
abbrev rS32x1024 := Rect.unit (s := S32x1024) ![0, 0] S32x1024.size inb_S32x1024_S32x1024_0_0
abbrev rS496x1024 := Rect.unit (s := S496x1024) ![0, 0] S496x1024.size inb_S496x1024_S496x1024_0_0
abbrev rS32x16x32 := Rect.unit (s := S32x16x32) ![0, 0, 0] S32x16x32.size inb_S32x16x32_S32x16x32_0_0_0
abbrev rS32x16x1024 := Rect.unit (s := S32x16x1024) ![0, 0, 0] S32x16x1024.size inb_S32x16x1024_S32x16x1024_0_0_0
abbrev rS512x1024 := Rect.unit (s := S512x1024) ![0, 0] S512x1024.size inb_S512x1024_S512x1024_0_0

/-- What the body leaves in window 20's buffer, from the blocks it reads. -/
def out20 (x0 : Vec F S2x512x512 .f32) (x1 : Vec F S512x256 .f32) (x2 : Vec F S512x256 .f32) (x3 : Vec F S1x256 .f32) (x4 : Vec F S256x32 .f32) (x5 : Vec F S1x32 .f32) : Vec F S32x16x32 .f32 :=
  View.canon [⟨rS32x16x32, k1_pay4 (View.ld x0 rFwd) (View.ld x0 rBwd) (View.ld x1 rS512x256) (View.ld x2 rS512x256) (View.ld x3 rS1x256) (View.ld x4 rS256x32) (View.ld x5 rS1x32)⟩]

/-- The one store of window 20 fills its buffer. -/
theorem cover20 (p : Vec F S32x16x32 .f32) (y : S32x16x32.Idx) :
    ∃ pc ∈ ([⟨rS32x16x32, p⟩] : List (View.Piece (Elt F) S32x16x32 .f32)), y ∈ pc.1.set :=
  View.cover_of_tiled [⟨rS32x16x32, p⟩] S32x16x32.size (by rfl) y

/-- What the body leaves in window 21's buffer, from the blocks it reads. -/
def out21 (x0 : Vec F S2x512x512 .f32) (x13 : Vec F S512x256 .f32) (x14 : Vec F S512x256 .f32) (x15 : Vec F S1x256 .f32) (x16 : Vec F S256x1024 .f32) (x17 : Vec F S1x1024 .f32) : Vec F S32x16x1024 .f32 :=
  View.canon [⟨rS32x16x1024, k1_pay6 (k1_pay3 (View.ld x0 rBwd)) (k1_pay5 (View.ld x0 rFwd) (View.ld x13 rS512x256)) (View.ld x14 rS512x256) (View.ld x15 rS1x256) (View.ld x16 rS256x1024) (View.ld x17 rS1x1024)⟩]

/-- The one store of window 21 fills its buffer. -/
theorem cover21 (p : Vec F S32x16x1024 .f32) (y : S32x16x1024.Idx) :
    ∃ pc ∈ ([⟨rS32x16x1024, p⟩] : List (View.Piece (Elt F) S32x16x1024 .f32)), y ∈ pc.1.set :=
  View.cover_of_tiled [⟨rS32x16x1024, p⟩] S32x16x1024.size (by rfl) y

/-- What the body leaves in window 22's buffer, from the blocks it reads. -/
def out22 (x0 : Vec F S2x512x512 .f32) (x6 : Vec F S512x256 .f32) (x7 : Vec F S512x256 .f32) (x8 : Vec F S1x256 .f32) (x9 : Vec F S256x32 .f32) (x10 : Vec F S1x32 .f32) (x11 : Vec F S256x496 .f32) (x12 : Vec F S1x496 .f32) (x18 : Vec F S32x1024 .f32) (x19 : Vec F S496x1024 .f32) : Vec F S512x1024 .f32 :=
  View.canon [⟨rS512x1024, k1_pay1 (k1_pay7 (k1_pay2 (View.ld x0 rFwd)) (k1_pay3 (View.ld x0 rBwd)) (View.ld x6 rS512x256) (View.ld x7 rS512x256) (View.ld x8 rS1x256)) (k1_pay8 (k1_pay2 (View.ld x0 rFwd)) (k1_pay3 (View.ld x0 rBwd)) (View.ld x6 rS512x256) (View.ld x7 rS512x256) (View.ld x8 rS1x256) (View.ld x9 rS256x32)) (View.ld x10 rS1x32) (View.ld x11 rS256x496) (View.ld x12 rS1x496) (View.ld x19 rS496x1024) (View.ld x18 rS32x1024)⟩]

/-- The one store of window 22 fills its buffer. -/
theorem cover22 (p : Vec F S512x1024 .f32) (y : S512x1024.Idx) :
    ∃ pc ∈ ([⟨rS512x1024, p⟩] : List (View.Piece (Elt F) S512x1024 .f32)), y ∈ pc.1.set :=
  View.cover_of_tiled [⟨rS512x1024, p⟩] S512x1024.size (by rfl) y

set_option maxHeartbeats 4000000 in
/-- The body, run on whole buffers holding `x…` in the inputs and anything in the outputs, returns the inputs as they
    were and each output at `out…` of them. -/
theorem sound_kernel (c : Dev nD) (E : Set ℕ) (i : grid1.Coords) (arg1 : Memref sig .tc .vmem S2x512x512 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x32 .f32) (harg5 : arg5.IsWhole) (arg6 : Memref sig .tc .vmem S1x32 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S1x256 .f32) (harg9 : arg9.IsWhole) (arg10 : Memref sig .tc .vmem S256x32 .f32) (harg10 : arg10.IsWhole) (arg11 : Memref sig .tc .vmem S1x32 .f32) (harg11 : arg11.IsWhole) (arg12 : Memref sig .tc .vmem S256x496 .f32) (harg12 : arg12.IsWhole) (arg13 : Memref sig .tc .vmem S1x496 .f32) (harg13 : arg13.IsWhole) (arg14 : Memref sig .tc .vmem S512x256 .f32) (harg14 : arg14.IsWhole) (arg15 : Memref sig .tc .vmem S512x256 .f32) (harg15 : arg15.IsWhole) (arg16 : Memref sig .tc .vmem S1x256 .f32) (harg16 : arg16.IsWhole) (arg17 : Memref sig .tc .vmem S256x1024 .f32) (harg17 : arg17.IsWhole) (arg18 : Memref sig .tc .vmem S1x1024 .f32) (harg18 : arg18.IsWhole) (arg19 : Memref sig .tc .vmem S32x1024 .f32) (harg19 : arg19.IsWhole) (arg20 : Memref sig .tc .vmem S496x1024 .f32) (harg20 : arg20.IsWhole) (arg21 : Memref sig .tc .vmem S32x16x32 .f32) (harg21 : arg21.IsWhole) (arg22 : Memref sig .tc .vmem S32x16x1024 .f32) (harg22 : arg22.IsWhole) (arg23 : Memref sig .tc .vmem S512x1024 .f32) (harg23 : arg23.IsWhole)
    (x0 : Vec F S2x512x512 .f32) (x1 : Vec F S512x256 .f32) (x2 : Vec F S512x256 .f32) (x3 : Vec F S1x256 .f32) (x4 : Vec F S256x32 .f32) (x5 : Vec F S1x32 .f32) (x6 : Vec F S512x256 .f32) (x7 : Vec F S512x256 .f32) (x8 : Vec F S1x256 .f32) (x9 : Vec F S256x32 .f32) (x10 : Vec F S1x32 .f32) (x11 : Vec F S256x496 .f32) (x12 : Vec F S1x496 .f32) (x13 : Vec F S512x256 .f32) (x14 : Vec F S512x256 .f32) (x15 : Vec F S1x256 .f32) (x16 : Vec F S256x1024 .f32) (x17 : Vec F S1x1024 .f32) (x18 : Vec F S32x1024 .f32) (x19 : Vec F S496x1024 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ (∃ d, owns (c : Thread nD τ) arg21 fullShare d)
        ∗ (∃ d, owns (c : Thread nD τ) arg22 fullShare d)
        ∗ (∃ d, owns (c : Thread nD τ) arg23 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg15 fullShare x14
        ∗ owns (c : Thread nD τ) arg16 fullShare x15
        ∗ owns (c : Thread nD τ) arg17 fullShare x16
        ∗ owns (c : Thread nD τ) arg18 fullShare x17
        ∗ owns (c : Thread nD τ) arg19 fullShare x18
        ∗ owns (c : Thread nD τ) arg20 fullShare x19
        ∗ owns (c : Thread nD τ) arg21 fullShare (out20 x0 x1 x2 x3 x4 x5)
        ∗ owns (c : Thread nD τ) arg22 fullShare (out21 x0 x13 x14 x15 x16 x17)
        ∗ owns (c : Thread nD τ) arg23 fullShare (out22 x0 x6 x7 x8 x9 x10 x11 x12 x18 x19)) -∗ K ⟨⟩))
      ⊢ wp frame (wpE (defs₀ (F := F)) Variants.none c none) E (cc1__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__heads_kernel_eq_skeleton]; unfold cc1__heads_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
  subst hf0; subst hf1; subst hf2; subst hf3; subst hf4; subst hf5; subst hf6; subst hf7; subst hf8; subst hf9; subst hf10; subst hf11; subst hf12; subst hf13; subst hf14; subst hf15; subst hf16; subst hf17; subst hf18; subst hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr; swap; · iexact H20
    ipureintro; exact View.read_writes_eq_canon _ _ _ (cover20 _)
  isplitl [H21]
  · iexists _; isplitr; swap; · iexact H21
    ipureintro; exact View.read_writes_eq_canon _ _ _ (cover21 _)
  iexists _; isplitr; swap; · iexact H22
  ipureintro; exact View.read_writes_eq_canon _ _ _ (cover22 _)

/-- The data of the launch: arrays as found, inputs' buffers left at their blocks, outputs' at `out…` of the blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => out20 (iblk V c 0 t) (iblk V c 1 t) (iblk V c 2 t) (iblk V c 3 t) (iblk V c 4 t) (iblk V c 5 t)
    | ⟨21, _⟩ => out21 (iblk V c 0 t) (iblk V c 13 t) (iblk V c 14 t) (iblk V c 15 t) (iblk V c 16 t) (iblk V c 17 t)
    | ⟨22, _⟩ => out22 (iblk V c 0 t) (iblk V c 6 t) (iblk V c 7 t) (iblk V c 8 t) (iblk V c 9 t) (iblk V c 10 t) (iblk V c 11 t) (iblk V c 12 t) (iblk V c 18 t) (iblk V c 19 t)
    | ⟨_ + 23, h⟩ => absurd h (Nat.not_lt.2 (Nat.le_add_left _ _))
  Φ _ := Pipeline.scopedRest spec1 c
  q _ := fullShare
  owed _ := 0

/-- Each window's array is the one found at the region's entry. -/
theorem A_eq (c : Dev nD) (w : Fin cfg1.W) : (dat V c).A w = V c (Pipeline.arrRef spec1 w) := by dsimp only [dat]

/-- What window 0 holds after a grid point. -/
theorem after0 (c : Dev nD) (t : Fin cfg1.N) : (dat V c).after 0 t = iblk V c 0 t := by dsimp only [dat]
/-- What window 1 holds after a grid point. -/
theorem after1 (c : Dev nD) (t : Fin cfg1.N) : (dat V c).after 1 t = iblk V c 1 t := by dsimp only [dat]
/-- What window 2 holds after a grid point. -/
theorem after2 (c : Dev nD) (t : Fin cfg1.N) : (dat V c).after 2 t = iblk V c 2 t := by dsimp only [dat]
/-- What window 3 holds after a grid point. -/
theorem after3 (c : Dev nD) (t : Fin cfg1.N) : (dat V c).after 3 t = iblk V c 3 t := by dsimp only [dat]
/-- What window 4 holds after a grid point. -/
theorem after4 (c : Dev nD) (t : Fin cfg1.N) : (dat V c).after 4 t = iblk V c 4 t := by dsimp only [dat]
/-- What window 5 holds after a grid point. -/
theorem after5 (c : Dev nD) (t : Fin cfg1.N) : (dat V c).after 5 t = iblk V c 5 t := by dsimp only [dat]
/-- What window 6 holds after a grid point. -/
theorem after6 (c : Dev nD) (t : Fin cfg1.N) : (dat V c).after 6 t = iblk V c 6 t := by dsimp only [dat]
/-- What window 7 holds after a grid point. -/
theorem after7 (c : Dev nD) (t : Fin cfg1.N) : (dat V c).after 7 t = iblk V c 7 t := by dsimp only [dat]
/-- What window 8 holds after a grid point. -/
theorem after8 (c : Dev nD) (t : Fin cfg1.N) : (dat V c).after 8 t = iblk V c 8 t := by dsimp only [dat]
/-- What window 9 holds after a grid point. -/
theorem after9 (c : Dev nD) (t : Fin cfg1.N) : (dat V c).after 9 t = iblk V c 9 t := by dsimp only [dat]
/-- What window 10 holds after a grid point. -/
theorem after10 (c : Dev nD) (t : Fin cfg1.N) : (dat V c).after 10 t = iblk V c 10 t := by dsimp only [dat]
/-- What window 11 holds after a grid point. -/
theorem after11 (c : Dev nD) (t : Fin cfg1.N) : (dat V c).after 11 t = iblk V c 11 t := by dsimp only [dat]
/-- What window 12 holds after a grid point. -/
theorem after12 (c : Dev nD) (t : Fin cfg1.N) : (dat V c).after 12 t = iblk V c 12 t := by dsimp only [dat]
/-- What window 13 holds after a grid point. -/
theorem after13 (c : Dev nD) (t : Fin cfg1.N) : (dat V c).after 13 t = iblk V c 13 t := by dsimp only [dat]
/-- What window 14 holds after a grid point. -/
theorem after14 (c : Dev nD) (t : Fin cfg1.N) : (dat V c).after 14 t = iblk V c 14 t := by dsimp only [dat]
/-- What window 15 holds after a grid point. -/
theorem after15 (c : Dev nD) (t : Fin cfg1.N) : (dat V c).after 15 t = iblk V c 15 t := by dsimp only [dat]
/-- What window 16 holds after a grid point. -/
theorem after16 (c : Dev nD) (t : Fin cfg1.N) : (dat V c).after 16 t = iblk V c 16 t := by dsimp only [dat]
/-- What window 17 holds after a grid point. -/
theorem after17 (c : Dev nD) (t : Fin cfg1.N) : (dat V c).after 17 t = iblk V c 17 t := by dsimp only [dat]
/-- What window 18 holds after a grid point. -/
theorem after18 (c : Dev nD) (t : Fin cfg1.N) : (dat V c).after 18 t = iblk V c 18 t := by dsimp only [dat]
/-- What window 19 holds after a grid point. -/
theorem after19 (c : Dev nD) (t : Fin cfg1.N) : (dat V c).after 19 t = iblk V c 19 t := by dsimp only [dat]
/-- What window 20 holds after a grid point. -/
theorem after20 (c : Dev nD) (t : Fin cfg1.N) : (dat V c).after 20 t = out20 (iblk V c 0 t) (iblk V c 1 t) (iblk V c 2 t) (iblk V c 3 t) (iblk V c 4 t) (iblk V c 5 t) := by dsimp only [dat]
/-- What window 21 holds after a grid point. -/
theorem after21 (c : Dev nD) (t : Fin cfg1.N) : (dat V c).after 21 t = out21 (iblk V c 0 t) (iblk V c 13 t) (iblk V c 14 t) (iblk V c 15 t) (iblk V c 16 t) (iblk V c 17 t) := by dsimp only [dat]
/-- What window 22 holds after a grid point. -/
theorem after22 (c : Dev nD) (t : Fin cfg1.N) : (dat V c).after 22 t = out22 (iblk V c 0 t) (iblk V c 6 t) (iblk V c 7 t) (iblk V c 8 t) (iblk V c 9 t) (iblk V c 10 t) (iblk V c 11 t) (iblk V c 12 t) (iblk V c 18 t) (iblk V c 19 t) := by dsimp only [dat]

/-! Each input's buffer holds its block at every point, fetched there or not. -/

/-- Window 0 holds its block before a grid point. -/
theorem before0 (c : Dev nD) (t : Fin cfg1.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Window 1 holds its block before a grid point. -/
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Window 2 holds its block before a grid point. -/
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Window 3 holds its block before a grid point. -/
theorem before3 (c : Dev nD) (t : Fin cfg1.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Window 4 holds its block before a grid point. -/
theorem before4 (c : Dev nD) (t : Fin cfg1.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Window 5 holds its block before a grid point. -/
theorem before5 (c : Dev nD) (t : Fin cfg1.N) (d) : (dat V c).before 5 t d = iblk V c 5 t :=
  ((dat V c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
/-- Window 6 holds its block before a grid point. -/
theorem before6 (c : Dev nD) (t : Fin cfg1.N) (d) : (dat V c).before 6 t d = iblk V c 6 t :=
  ((dat V c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
/-- Window 7 holds its block before a grid point. -/
theorem before7 (c : Dev nD) (t : Fin cfg1.N) (d) : (dat V c).before 7 t d = iblk V c 7 t :=
  ((dat V c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
/-- Window 8 holds its block before a grid point. -/
theorem before8 (c : Dev nD) (t : Fin cfg1.N) (d) : (dat V c).before 8 t d = iblk V c 8 t :=
  ((dat V c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)
/-- Window 9 holds its block before a grid point. -/
theorem before9 (c : Dev nD) (t : Fin cfg1.N) (d) : (dat V c).before 9 t d = iblk V c 9 t :=
  ((dat V c).before_in_eq_fetched 9 rfl (fun _ => rfl) (fun _ _ _ => rfl)
    (fun t => by rw [after9]; unfold Dat.blockOf iblk; rw [A_eq]; try rfl) t d).trans
    (by unfold Dat.fetched Dat.blockOf iblk; rw [A_eq]; try rfl)
/-- Window 10 holds its block before a grid point. -/
theorem before10 (c : Dev nD) (t : Fin cfg1.N) (d) : (dat V c).before 10 t d = iblk V c 10 t :=
  ((dat V c).before_in_eq_fetched 10 rfl (fun _ => rfl) (fun _ _ _ => rfl)
    (fun t => by rw [after10]; unfold Dat.blockOf iblk; rw [A_eq]; try rfl) t d).trans
    (by unfold Dat.fetched Dat.blockOf iblk; rw [A_eq]; try rfl)
/-- Window 11 holds its block before a grid point. -/
theorem before11 (c : Dev nD) (t : Fin cfg1.N) (d) : (dat V c).before 11 t d = iblk V c 11 t :=
  ((dat V c).before_in_eq_fetched 11 rfl (fun _ => rfl) (fun _ _ _ => rfl)
    (fun t => by rw [after11]; unfold Dat.blockOf iblk; rw [A_eq]; try rfl) t d).trans
    (by unfold Dat.fetched Dat.blockOf iblk; rw [A_eq]; try rfl)
/-- Window 12 holds its block before a grid point. -/
theorem before12 (c : Dev nD) (t : Fin cfg1.N) (d) : (dat V c).before 12 t d = iblk V c 12 t :=
  ((dat V c).before_in_eq_fetched 12 rfl (fun _ => rfl) (fun _ _ _ => rfl)
    (fun t => by rw [after12]; unfold Dat.blockOf iblk; rw [A_eq]; try rfl) t d).trans
    (by unfold Dat.fetched Dat.blockOf iblk; rw [A_eq]; try rfl)
/-- Window 13 holds its block before a grid point. -/
theorem before13 (c : Dev nD) (t : Fin cfg1.N) (d) : (dat V c).before 13 t d = iblk V c 13 t :=
  ((dat V c).before_in_eq_fetched 13 rfl (fun _ => rfl) (fun _ _ _ => rfl)
    (fun t => by rw [after13]; unfold Dat.blockOf iblk; rw [A_eq]; try rfl) t d).trans
    (by unfold Dat.fetched Dat.blockOf iblk; rw [A_eq]; try rfl)
/-- Window 14 holds its block before a grid point. -/
theorem before14 (c : Dev nD) (t : Fin cfg1.N) (d) : (dat V c).before 14 t d = iblk V c 14 t :=
  ((dat V c).before_in_eq_fetched 14 rfl (fun _ => rfl) (fun _ _ _ => rfl)
    (fun t => by rw [after14]; unfold Dat.blockOf iblk; rw [A_eq]; try rfl) t d).trans
    (by unfold Dat.fetched Dat.blockOf iblk; rw [A_eq]; try rfl)
/-- Window 15 holds its block before a grid point. -/
theorem before15 (c : Dev nD) (t : Fin cfg1.N) (d) : (dat V c).before 15 t d = iblk V c 15 t :=
  ((dat V c).before_in_eq_fetched 15 rfl (fun _ => rfl) (fun _ _ _ => rfl)
    (fun t => by rw [after15]; unfold Dat.blockOf iblk; rw [A_eq]; try rfl) t d).trans
    (by unfold Dat.fetched Dat.blockOf iblk; rw [A_eq]; try rfl)
/-- Window 16 holds its block before a grid point. -/
theorem before16 (c : Dev nD) (t : Fin cfg1.N) (d) : (dat V c).before 16 t d = iblk V c 16 t :=
  ((dat V c).before_in_eq_fetched 16 rfl (fun _ => rfl) (fun _ _ _ => rfl)
    (fun t => by rw [after16]; unfold Dat.blockOf iblk; rw [A_eq]; try rfl) t d).trans
    (by unfold Dat.fetched Dat.blockOf iblk; rw [A_eq]; try rfl)
/-- Window 17 holds its block before a grid point. -/
theorem before17 (c : Dev nD) (t : Fin cfg1.N) (d) : (dat V c).before 17 t d = iblk V c 17 t :=
  ((dat V c).before_in_eq_fetched 17 rfl (fun _ => rfl) (fun _ _ _ => rfl)
    (fun t => by rw [after17]; unfold Dat.blockOf iblk; rw [A_eq]; try rfl) t d).trans
    (by unfold Dat.fetched Dat.blockOf iblk; rw [A_eq]; try rfl)
/-- Window 18 holds its block before a grid point. -/
theorem before18 (c : Dev nD) (t : Fin cfg1.N) (d) : (dat V c).before 18 t d = iblk V c 18 t :=
  ((dat V c).before_in_eq_fetched 18 rfl (fun _ => rfl) (fun _ _ _ => rfl)
    (fun t => by rw [after18]; unfold Dat.blockOf iblk; rw [A_eq]; try rfl) t d).trans
    (by unfold Dat.fetched Dat.blockOf iblk; rw [A_eq]; try rfl)
/-- Window 19 holds its block before a grid point. -/
theorem before19 (c : Dev nD) (t : Fin cfg1.N) (d) : (dat V c).before 19 t d = iblk V c 19 t :=
  ((dat V c).before_in_eq_fetched 19 rfl (fun _ => rfl) (fun _ _ _ => rfl)
    (fun t => by rw [after19]; unfold Dat.blockOf iblk; rw [A_eq]; try rfl) t d).trans
    (by unfold Dat.fetched Dat.blockOf iblk; rw [A_eq]; try rfl)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d))
    ∗ (∃ d, owns (c : Thread nD τ) (st1_10 t) fullShare ((dat V c).before 10 t d))
    ∗ (∃ d, owns (c : Thread nD τ) (st1_11 t) fullShare ((dat V c).before 11 t d))
    ∗ (∃ d, owns (c : Thread nD τ) (st1_12 t) fullShare ((dat V c).before 12 t d))
    ∗ (∃ d, owns (c : Thread nD τ) (st1_13 t) fullShare ((dat V c).before 13 t d))
    ∗ (∃ d, owns (c : Thread nD τ) (st1_14 t) fullShare ((dat V c).before 14 t d))
    ∗ (∃ d, owns (c : Thread nD τ) (st1_15 t) fullShare ((dat V c).before 15 t d))
    ∗ (∃ d, owns (c : Thread nD τ) (st1_16 t) fullShare ((dat V c).before 16 t d))
    ∗ (∃ d, owns (c : Thread nD τ) (st1_17 t) fullShare ((dat V c).before 17 t d))
    ∗ (∃ d, owns (c : Thread nD τ) (st1_18 t) fullShare ((dat V c).before 18 t d))
    ∗ (∃ d, owns (c : Thread nD τ) (st1_19 t) fullShare ((dat V c).before 19 t d))
    ∗ (∃ d, owns (c : Thread nD τ) (st1_20 t) fullShare ((dat V c).before 20 t d))
    ∗ (∃ d, owns (c : Thread nD τ) (st1_21 t) fullShare ((dat V c).before 21 t d))
    ∗ (∃ d, owns (c : Thread nD τ) (st1_22 t) fullShare ((dat V c).before 22 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t)
    ∗ owns (c : Thread nD τ) (st1_10 t) fullShare ((dat V c).after 10 t)
    ∗ owns (c : Thread nD τ) (st1_11 t) fullShare ((dat V c).after 11 t)
    ∗ owns (c : Thread nD τ) (st1_12 t) fullShare ((dat V c).after 12 t)
    ∗ owns (c : Thread nD τ) (st1_13 t) fullShare ((dat V c).after 13 t)
    ∗ owns (c : Thread nD τ) (st1_14 t) fullShare ((dat V c).after 14 t)
    ∗ owns (c : Thread nD τ) (st1_15 t) fullShare ((dat V c).after 15 t)
    ∗ owns (c : Thread nD τ) (st1_16 t) fullShare ((dat V c).after 16 t)
    ∗ owns (c : Thread nD τ) (st1_17 t) fullShare ((dat V c).after 17 t)
    ∗ owns (c : Thread nD τ) (st1_18 t) fullShare ((dat V c).after 18 t)
    ∗ owns (c : Thread nD τ) (st1_19 t) fullShare ((dat V c).after 19 t)
    ∗ owns (c : Thread nD τ) (st1_20 t) fullShare ((dat V c).after 20 t)
    ∗ owns (c : Thread nD τ) (st1_21 t) fullShare ((dat V c).after 21 t)
    ∗ owns (c : Thread nD τ) (st1_22 t) fullShare ((dat V c).after 22 t))

set_option maxHeartbeats 4000000 in
/-- The body at any point, from its triple. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8, before9, before10, before11, before12, before13, before14, before15, before16, before17, before18, before19]
  rw [show (dat V c).Φ t.succ = (dat V c).Φ t.castSucc from rfl,
    show (dat V c).owesAt () t.succ = (dat V c).owesAt () t.castSucc from rfl,
    after0, after1, after2, after3, after4, after5, after6, after7, after8, after9, after10, after11, after12, after13, after14, after15, after16, after17, after18, after19, after20, after21, after22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid1.coords t) _ _ _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body that a grid point runs. -/
theorem defs₀_row (t : Fin cfg1.N) :
    defs₀ (F := F) .tc cfg1.body (cfg1.bodyArgs t (cfg1.slots t)) = bodyAt1 t := by
  unfold defs₀; rw [Defs.onTc_tc]

set_option maxHeartbeats 4000000 in
/-- The obligation of the launch's body at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Heads

end
-- ==== Proof.Ideal.Outer.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! The third launch: the products of the triangular factors with their transposes. Its body, its data and its obligation. -/

@[expose] public section

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off its array as the launch finds it. -/
def iblk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev rS512x32x32 := Rect.unit (s := S512x32x32) ![0, 0, 0] S512x32x32.size inb_S512x32x32_S512x32x32_0_0_0
abbrev rS32x16x32x32 := Rect.unit (s := S32x16x32x32) ![0, 0, 0, 0] S32x16x32x32.size inb_S32x16x32x32_S32x16x32x32_0_0_0_0

/-- What the body leaves in window 1's buffer, from the blocks it reads. -/
def out1 (x0 : Vec F S512x32x32 .f32) : Vec F S32x16x32x32 .f32 :=
  View.canon [⟨rS32x16x32x32, k2_pay1 (View.ld x0 rS512x32x32)⟩]

/-- The one store of window 1 fills its buffer. -/
theorem cover1 (p : Vec F S32x16x32x32 .f32) (y : S32x16x32x32.Idx) :
    ∃ pc ∈ ([⟨rS32x16x32x32, p⟩] : List (View.Piece (Elt F) S32x16x32x32 .f32)), y ∈ pc.1.set :=
  View.cover_of_tiled [⟨rS32x16x32x32, p⟩] S32x16x32x32.size (by rfl) y

set_option maxHeartbeats 4000000 in
/-- The body, run on whole buffers holding `x…` in the inputs and anything in the outputs, returns the inputs as they
    were and each output at `out…` of them. -/
theorem sound_kernel (c : Dev nD) (E : Set ℕ) (i : grid2.Coords) (arg1 : Memref sig .tc .vmem S512x32x32 .f32) (harg1 : arg1.IsWhole) (arg2 : Memref sig .tc .vmem S32x16x32x32 .f32) (harg2 : arg2.IsWhole)
    (x0 : Vec F S512x32x32 .f32) (K : PUnit → sProp 𝕄) :
    iprop(owns (c : Thread nD τ) arg1 fullShare x0
        ∗ (∃ d, owns (c : Thread nD τ) arg2 fullShare d)
        ∗ (iprop(owns (c : Thread nD τ) arg1 fullShare x0
        ∗ owns (c : Thread nD τ) arg2 fullShare (out1 x0)) -∗ K ⟨⟩))
      ⊢ wp frame (wpE (defs₀ (F := F)) Variants.none c none) E (cc2__llt_kernel i arg1 harg1 arg2 harg2) K := by
  simp only [cc2__llt_kernel_eq_skeleton]; unfold cc2__llt_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr; swap; · iexact H1
  ipureintro; exact View.read_writes_eq_canon _ _ _ (cover1 _)

/-- The data of the launch: arrays as found, inputs' buffers left at their blocks, outputs' at `out…` of the blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => out1 (iblk V c 0 t)
  Φ _ := Pipeline.scopedRest spec2 c
  q _ := fullShare
  owed _ := 0

/-- Each window's array is the one found at the region's entry. -/
theorem A_eq (c : Dev nD) (w : Fin cfg2.W) : (dat V c).A w = V c (Pipeline.arrRef spec2 w) := by dsimp only [dat]

/-- What window 0 holds after a grid point. -/
theorem after0 (c : Dev nD) (t : Fin cfg2.N) : (dat V c).after 0 t = iblk V c 0 t := by dsimp only [dat]
/-- What window 1 holds after a grid point. -/
theorem after1 (c : Dev nD) (t : Fin cfg2.N) : (dat V c).after 1 t = out1 (iblk V c 0 t) := by dsimp only [dat]

/-! Each input's buffer holds its block at every point, fetched there or not. -/

/-- Window 0 holds its block before a grid point. -/
theorem before0 (c : Dev nD) (t : Fin cfg2.N) (d) : (dat V c).before 0 t d = iblk V c 0 t :=
  ((dat V c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t))

set_option maxHeartbeats 4000000 in
/-- The body at any point, from its triple. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0]
  rw [show (dat V c).Φ t.succ = (dat V c).Φ t.castSucc from rfl,
    show (dat V c).owesAt () t.succ = (dat V c).owesAt () t.castSucc from rfl,
    after0, after1]
  iintro ⟨HΦ, Ho, ⟨%d0, H0⟩, ⟨%d1, H1⟩⟩
  iapply (sound_kernel c Set.univ (grid2.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that a grid point runs. -/
theorem defs₀_row (t : Fin cfg2.N) :
    defs₀ (F := F) .tc cfg2.body (cfg2.bodyArgs t (cfg2.slots t)) = bodyAt2 t := by
  unfold defs₀; rw [Defs.onTc_tc]

set_option maxHeartbeats 4000000 in
/-- The obligation of the launch's body at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Outer

end
-- ==== Proof.Ideal.Run.lean ====
module

public import proofs.«01_k».proof.Proof.Gen.KernelIdeal.Regions
public import proofs.«01_k».proof.Proof.Ideal.Recur
public import proofs.«01_k».proof.Proof.Ideal.Heads
public import proofs.«01_k».proof.Proof.Ideal.Outer
public import Idealize.ShloMosaic.Lib.Pipeline.Frame
public import Idealize.ShloMosaic.Lib.Pipeline.Regions
public import Idealize.ShloMosaic.Lib.Pipeline.RegionArraysS

@[expose] public section

set_option maxRecDepth 4096

noncomputable section

/-! # The whole run: four host stretches and three pipelined regions, from any memory -/

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
def U0 (c : Dev nD) : Valuation τ sig (Elt F) := fun b => m (c, b)
/-- after the host operations before the recurrence, -/
def U1 (c : Dev nD) : Valuation τ sig (Elt F) := StableHlo.after hostOps0 (U0 m c)
/-- after the recurrence, -/
def U2 (c : Dev nD) : Valuation τ sig (Elt F) := afterRegion (Recur.dat (fun c b => U1 m c b) c) (U1 m c)
/-- after the host operations that cut the heads' weights, -/
def U3 (c : Dev nD) : Valuation τ sig (Elt F) := StableHlo.after hostOps1 (U2 m c)
/-- after the heads, -/
def U4 (c : Dev nD) : Valuation τ sig (Elt F) := afterRegion (Heads.dat (fun c b => U3 m c b) c) (U3 m c)
/-- after the reshape of the factors, -/
def U5 (c : Dev nD) : Valuation τ sig (Elt F) := StableHlo.after hostOps2 (U4 m c)
/-- after the products of the factors, -/
def U6 (c : Dev nD) : Valuation τ sig (Elt F) := afterRegion (Outer.dat (fun c b => U5 m c b) c) (U5 m c)
/-- and at the end. -/
def U7 (c : Dev nD) : Valuation τ sig (Elt F) := StableHlo.after hostOps3 (U6 m c)

/-- The proof data of the three regions, each entered at the contents the items before it leave. -/
def pdats (p : Fin 3) (c : Dev nD) : Dat τ (Elt F) Unit ℕ (UR sig nD τ) ℕ (cfgs p) c :=
  match p with
  | ⟨0, _⟩ => Recur.dat (fun c b => U1 m c b) c
  | ⟨1, _⟩ => Heads.dat (fun c b => U3 m c b) c
  | ⟨2, _⟩ => Outer.dat (fun c b => U5 m c b) c

/-- Every TensorCore's cells carry the one index, at the one level; -/
abbrev L : GSem nD τ sig → Finset Unit := fun g => if g.1.2 = .tc then {()} else ∅
abbrev lv : GSem nD τ sig → Unit → ℕ := fun _ _ => 0
abbrev 𝒱₀ : Variants := Variants.none

/-- so a core that owes nothing may wait at any staging cell. -/
theorem cut (p : Fin 3) : Pipeline.LevelCut (pcfgs (F := F)) adm () L lv p (fun _ => 0) (fun _ => 0) where
  hι c w s := by simp [L]
  hιb c w s := le_refl _
  hD c g i h := absurd h (lt_irrefl 0)

/-- What rides beside the buffers: the core owes nothing. -/
abbrev E (c : Dev nD) : sProp 𝕄 :=
  iprop((∃ W, owes (c : Thread nD τ) (0 : CellTallies nD τ sig Unit) W) ∗ BI.emp ∗ BI.emp)

set_option backward.isDefEq.respectTransparency.types false in
/-- Each grid point of the recurrence region keeps the region's invariant. -/
theorem body0 (c : Dev nD) : Pipeline.BodyObligationLoose (pdats m 0 c) (defs₀ (F := F)) 𝒱₀ () Set.univ :=
  (Recur.body_obligation (fun c b => U1 m c b) c).loose
set_option backward.isDefEq.respectTransparency.types false in
/-- What the recurrence region is handed gives its invariant. -/
theorem in0 (c : Dev nD) : iprop(Pipeline.scopedRest (Pipeline.pin (pcfgs (F := F)) adm 0).spec c ∗ BI.emp) ⊢ (pdats m 0 c).Φ 0 := by
  show iprop(Pipeline.scopedRest spec0 c ∗ BI.emp) ⊢ Recur.Inv (fun c b => U1 m c b) c 0
  iintro ⟨H, -⟩
  iapply (Recur.inv_in (fun c b => U1 m c b) c)
  iexact H
set_option backward.isDefEq.respectTransparency.types false in
/-- The last invariant of the recurrence region gives back what it was handed. -/
theorem out_0 (c : Dev nD) : (pdats m 0 c).Φ (Fin.last (Pipeline.pin (pcfgs (F := F)) adm 0).N) ⊢ iprop(Pipeline.scopedRest (Pipeline.pin (pcfgs (F := F)) adm 0).spec c ∗ BI.emp) := by
  show Recur.Inv (fun c b => U1 m c b) c cfg0.N ⊢ iprop(Pipeline.scopedRest spec0 c ∗ BI.emp)
  iintro H
  isplitl [H]
  · iapply (Recur.inv_out (fun c b => U1 m c b) c cfg0.N)
    iexact H
  iempintro
set_option backward.isDefEq.respectTransparency.types false in
/-- The recurrence region holds its arrays whole. -/
theorem share0 (c : Dev nD) (w : Fin (Pipeline.pin (pcfgs (F := F)) adm 0).W) : (pdats m 0 c).share w = fullShare :=
  (pdats m 0 c).share_full (fun _ => rfl) w
set_option backward.isDefEq.respectTransparency.types false in
/-- The recurrence region finds its arrays as the operations before it left them. -/
theorem entry0 (c : Dev nD) (w : Fin (Pipeline.pin (pcfgs (F := F)) adm 0).W) :
    (pdats m 0 c).arrAt w 0 = U1 m c (Proc.devRef .tc (Pipeline.arrRef (Pipeline.pin (pcfgs (F := F)) adm 0).spec w)) := rfl
set_option backward.isDefEq.respectTransparency.types false in
/-- The recurrence region owes no signal. -/
theorem owed0 (c : Dev nD) (t : Fin ((Pipeline.pin (pcfgs (F := F)) adm 0).N + 1)) : (pdats m 0 c).owed t = 0 := rfl
set_option backward.isDefEq.respectTransparency.types false in
/-- The recurrence region's record starts as the full set. -/
theorem rec0 (c : Dev nD) : (pdats m 0 c).recorded 0 = Set.univ := rfl

set_option backward.isDefEq.respectTransparency.types false in
/-- Region 0, the recurrence: the two scratch buffers enter and leave at anything. -/
def reg0 : RegionSeg (pcfgs (F := F)) adm (pdats m) () defs₀ 𝒱₀ L lv 0 :=
  Pipeline.RegionSeg.ofHeldIn (pcfgs (F := F)) adm (pdats m) () defs₀ 𝒱₀ L lv 0 (fun _ => 0) (Pipeline.ucRefs τ sig)
    (fun _ => BI.emp) (fun _ => BI.emp) (launch0.toP (Val := Elt F)) rfl
    (body0 m) (owed0 m) (rec0 m)
    (share0 m)
    (in0 m)
    (out_0 m)
    (fun _ => 0) (cut 0) (fun _ => BI.emp) (U1 m) (entry0 m)

set_option backward.isDefEq.respectTransparency.types false in
/-- Each grid point of the heads region keeps the region's invariant. -/
theorem body1 (c : Dev nD) : Pipeline.BodyObligationLoose (pdats m 1 c) (defs₀ (F := F)) 𝒱₀ () Set.univ :=
  (Heads.body_obligation (fun c b => U3 m c b) c).loose
set_option backward.isDefEq.respectTransparency.types false in
/-- What the heads region is handed gives its invariant. -/
theorem in1 (c : Dev nD) : iprop(Pipeline.scopedRest (Pipeline.pin (pcfgs (F := F)) adm 1).spec c ∗ BI.emp) ⊢ (pdats m 1 c).Φ 0 := by
  show iprop(Pipeline.scopedRest spec1 c ∗ BI.emp) ⊢ Pipeline.scopedRest spec1 c
  iintro ⟨H, -⟩
  iexact H
set_option backward.isDefEq.respectTransparency.types false in
/-- The last invariant of the heads region gives back what it was handed. -/
theorem out_1 (c : Dev nD) : (pdats m 1 c).Φ (Fin.last (Pipeline.pin (pcfgs (F := F)) adm 1).N) ⊢ iprop(Pipeline.scopedRest (Pipeline.pin (pcfgs (F := F)) adm 1).spec c ∗ BI.emp) := by
  show Pipeline.scopedRest spec1 c ⊢ iprop(Pipeline.scopedRest spec1 c ∗ BI.emp)
  iintro H
  isplitl [H]
  · iexact H
  iempintro
set_option backward.isDefEq.respectTransparency.types false in
/-- The heads region holds its arrays whole. -/
theorem share1 (c : Dev nD) (w : Fin (Pipeline.pin (pcfgs (F := F)) adm 1).W) : (pdats m 1 c).share w = fullShare :=
  (pdats m 1 c).share_full (fun _ => rfl) w
set_option backward.isDefEq.respectTransparency.types false in
/-- The heads region finds its arrays as the operations before it left them. -/
theorem entry1 (c : Dev nD) (w : Fin (Pipeline.pin (pcfgs (F := F)) adm 1).W) :
    (pdats m 1 c).arrAt w 0 = U3 m c (Proc.devRef .tc (Pipeline.arrRef (Pipeline.pin (pcfgs (F := F)) adm 1).spec w)) := rfl
set_option backward.isDefEq.respectTransparency.types false in
/-- The heads region owes no signal. -/
theorem owed1 (c : Dev nD) (t : Fin ((Pipeline.pin (pcfgs (F := F)) adm 1).N + 1)) : (pdats m 1 c).owed t = 0 := rfl
set_option backward.isDefEq.respectTransparency.types false in
/-- The heads region's record starts as the full set. -/
theorem rec1 (c : Dev nD) : (pdats m 1 c).recorded 0 = Set.univ := rfl

set_option backward.isDefEq.respectTransparency.types false in
/-- Region 1, the heads. -/
def reg1 : RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun _ => BI.emp) (fun _ => BI.emp) (launch1.toP (Val := Elt F)) rfl
    (body1 m) (owed1 m) (rec1 m)
    (share1 m)
    (in1 m)
    (out_1 m)
    (fun _ => 0) (cut 1) (fun _ => BI.emp) (U3 m) (entry1 m)

set_option backward.isDefEq.respectTransparency.types false in
/-- Each grid point of the products region keeps the region's invariant. -/
theorem body2 (c : Dev nD) : Pipeline.BodyObligationLoose (pdats m 2 c) (defs₀ (F := F)) 𝒱₀ () Set.univ :=
  (Outer.body_obligation (fun c b => U5 m c b) c).loose
set_option backward.isDefEq.respectTransparency.types false in
/-- What the products region is handed gives its invariant. -/
theorem in2 (c : Dev nD) : iprop(Pipeline.scopedRest (Pipeline.pin (pcfgs (F := F)) adm 2).spec c ∗ BI.emp) ⊢ (pdats m 2 c).Φ 0 := by
  show iprop(Pipeline.scopedRest spec2 c ∗ BI.emp) ⊢ Pipeline.scopedRest spec2 c
  iintro ⟨H, -⟩
  iexact H
set_option backward.isDefEq.respectTransparency.types false in
/-- The last invariant of the products region gives back what it was handed. -/
theorem out_2 (c : Dev nD) : (pdats m 2 c).Φ (Fin.last (Pipeline.pin (pcfgs (F := F)) adm 2).N) ⊢ iprop(Pipeline.scopedRest (Pipeline.pin (pcfgs (F := F)) adm 2).spec c ∗ BI.emp) := by
  show Pipeline.scopedRest spec2 c ⊢ iprop(Pipeline.scopedRest spec2 c ∗ BI.emp)
  iintro H
  isplitl [H]
  · iexact H
  iempintro
set_option backward.isDefEq.respectTransparency.types false in
/-- The products region holds its arrays whole. -/
theorem share2 (c : Dev nD) (w : Fin (Pipeline.pin (pcfgs (F := F)) adm 2).W) : (pdats m 2 c).share w = fullShare :=
  (pdats m 2 c).share_full (fun _ => rfl) w
set_option backward.isDefEq.respectTransparency.types false in
/-- The products region finds its arrays as the operations before it left them. -/
theorem entry2 (c : Dev nD) (w : Fin (Pipeline.pin (pcfgs (F := F)) adm 2).W) :
    (pdats m 2 c).arrAt w 0 = U5 m c (Proc.devRef .tc (Pipeline.arrRef (Pipeline.pin (pcfgs (F := F)) adm 2).spec w)) := rfl
set_option backward.isDefEq.respectTransparency.types false in
/-- The products region owes no signal. -/
theorem owed2 (c : Dev nD) (t : Fin ((Pipeline.pin (pcfgs (F := F)) adm 2).N + 1)) : (pdats m 2 c).owed t = 0 := rfl
set_option backward.isDefEq.respectTransparency.types false in
/-- The products region's record starts as the full set. -/
theorem rec2 (c : Dev nD) : (pdats m 2 c).recorded 0 = Set.univ := rfl

set_option backward.isDefEq.respectTransparency.types false in
/-- Region 2, the products of the factors with their transposes. -/
def reg2 : RegionSeg (pcfgs (F := F)) adm (pdats m) () defs₀ 𝒱₀ L lv 2 :=
  Pipeline.RegionSeg.ofHeldIn (pcfgs (F := F)) adm (pdats m) () defs₀ 𝒱₀ L lv 2 (fun _ => 0) (Pipeline.ucRefs τ sig)
    (fun _ => BI.emp) (fun _ => BI.emp) (launch2.toP (Val := Elt F)) rfl
    (body2 m) (owed2 m) (rec2 m)
    (share2 m)
    (in2 m)
    (out_2 m)
    (fun _ => 0) (cut 2) (fun _ => BI.emp) (U5 m) (entry2 m)

/-- A host stretch as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W E

/-- @main as its seven segments. -/
abbrev segs : List (Seg (pcfgs (F := F)) adm (pdats m) () defs₀ 𝒱₀ L lv) :=
  [.host (hseg hostOps0 hostOps0_sub hostOps0_fresh (U0 m)), .region (reg0 m),
   .host (hseg hostOps1 hostOps1_sub hostOps1_fresh (U2 m)), .region (reg1 m),
   .host (hseg hostOps2 hostOps2_sub hostOps2_fresh (U4 m)), .region (reg2 m),
   .host (hseg hostOps3 hostOps3_sub hostOps3_fresh (U6 m))]

/-- The recurrence region's arrays are among the arrays that outlive it. -/
theorem arr0 : Pipeline.arrRefs (τ := τ) (pcfgs (F := F) 0).spec ⊆ Pipeline.ucRefs τ sig :=
  Pipeline.arrRefs_sub_ucRefs spec0 (by decide)
/-- The heads region's arrays are among the arrays that outlive it. -/
theorem arr1 : Pipeline.arrRefs (τ := τ) (pcfgs (F := F) 1).spec ⊆ Pipeline.ucRefs τ sig :=
  Pipeline.arrRefs_sub_ucRefs spec1 (by decide)
/-- The products region's arrays are among the arrays that outlive it. -/
theorem arr2 : Pipeline.arrRefs (τ := τ) (pcfgs (F := F) 2).spec ⊆ Pipeline.ucRefs τ sig :=
  Pipeline.arrRefs_sub_ucRefs spec2 (by decide)

set_option backward.isDefEq.respectTransparency.types false in
/-- The state before the recurrence region, as the region wants it. -/
theorem reg0_pre (c : Dev nD) :
    iprop(StableHlo.held (c : Thread nD τ) (Pipeline.ucRefs τ sig) (U1 m c) ∗ E c) ⊢ (reg0 m).pre c := by
  unfold reg0
  exact Pipeline.RegionSeg.ofHeldIn_pre (pcs := pcfgs (F := F)) (a := adm) (pdats := pdats m) (ι := ()) (defs₀ := defs₀) (𝒱₀ := 𝒱₀) (L := L) (lv := lv)
    (p := 0) (D := fun _ => 0) (S := Pipeline.ucRefs τ sig) (arr0 (F := F)) (Y := fun _ => BI.emp) (X := fun _ => BI.emp) (R := fun _ => BI.emp) (W := U1 m) (hW := entry0 m)
    (kit := launch0.toP (Val := Elt F)) (hK := rfl) (hbody := body0 m) (howed := owed0 m) (hrec := rec0 m) (hshare := share0 m)
    (hin := in0 m) (hout := out_0 m) (b := fun _ => 0) (hcut := cut 0) c
set_option backward.isDefEq.respectTransparency.types false in
/-- The state after the recurrence region, as the operations after it want it. -/
theorem reg0_post (c : Dev nD) :
    (reg0 m).post c ⊢ iprop(StableHlo.held (c : Thread nD τ) (Pipeline.ucRefs τ sig) (U2 m c) ∗ E c) := by
  rw [show U2 m c = afterRegion (pdats m 0 c) (U1 m c) from rfl]
  unfold reg0
  exact Pipeline.RegionSeg.ofHeldIn_post (arr0 (F := F)) (Y := fun _ => BI.emp) (R := fun _ => BI.emp) (W := U1 m) c
set_option backward.isDefEq.respectTransparency.types false in
/-- The state before the heads region, as the region wants it. -/
theorem reg1_pre (c : Dev nD) :
    iprop(StableHlo.held (c : Thread nD τ) (Pipeline.ucRefs τ sig) (U3 m c) ∗ E c) ⊢ (reg1 m).pre c := by
  unfold reg1
  exact Pipeline.RegionSeg.ofHeldIn_pre (pcs := pcfgs (F := F)) (a := adm) (pdats := pdats m) (ι := ()) (defs₀ := defs₀) (𝒱₀ := 𝒱₀) (L := L) (lv := lv)
    (p := 1) (D := fun _ => 0) (S := Pipeline.ucRefs τ sig) (arr1 (F := F)) (Y := fun _ => BI.emp) (X := fun _ => BI.emp) (R := fun _ => BI.emp) (W := U3 m) (hW := entry1 m)
    (kit := launch1.toP (Val := Elt F)) (hK := rfl) (hbody := body1 m) (howed := owed1 m) (hrec := rec1 m) (hshare := share1 m)
    (hin := in1 m) (hout := out_1 m) (b := fun _ => 0) (hcut := cut 1) c
set_option backward.isDefEq.respectTransparency.types false in
/-- The state after the heads region, as the operations after it want it. -/
theorem reg1_post (c : Dev nD) :
    (reg1 m).post c ⊢ iprop(StableHlo.held (c : Thread nD τ) (Pipeline.ucRefs τ sig) (U4 m c) ∗ E c) := by
  rw [show U4 m c = afterRegion (pdats m 1 c) (U3 m c) from rfl]
  unfold reg1
  exact Pipeline.RegionSeg.ofHeldIn_post (arr1 (F := F)) (Y := fun _ => BI.emp) (R := fun _ => BI.emp) (W := U3 m) c
set_option backward.isDefEq.respectTransparency.types false in
/-- The state before the products region, as the region wants it. -/
theorem reg2_pre (c : Dev nD) :
    iprop(StableHlo.held (c : Thread nD τ) (Pipeline.ucRefs τ sig) (U5 m c) ∗ E c) ⊢ (reg2 m).pre c := by
  unfold reg2
  exact Pipeline.RegionSeg.ofHeldIn_pre (pcs := pcfgs (F := F)) (a := adm) (pdats := pdats m) (ι := ()) (defs₀ := defs₀) (𝒱₀ := 𝒱₀) (L := L) (lv := lv)
    (p := 2) (D := fun _ => 0) (S := Pipeline.ucRefs τ sig) (arr2 (F := F)) (Y := fun _ => BI.emp) (X := fun _ => BI.emp) (R := fun _ => BI.emp) (W := U5 m) (hW := entry2 m)
    (kit := launch2.toP (Val := Elt F)) (hK := rfl) (hbody := body2 m) (howed := owed2 m) (hrec := rec2 m) (hshare := share2 m)
    (hin := in2 m) (hout := out_2 m) (b := fun _ => 0) (hcut := cut 2) c
set_option backward.isDefEq.respectTransparency.types false in
/-- The state after the products region, as the operations after it want it. -/
theorem reg2_post (c : Dev nD) :
    (reg2 m).post c ⊢ iprop(StableHlo.held (c : Thread nD τ) (Pipeline.ucRefs τ sig) (U6 m c) ∗ E c) := by
  rw [show U6 m c = afterRegion (pdats m 2 c) (U5 m c) from rfl]
  unfold reg2
  exact Pipeline.RegionSeg.ofHeldIn_post (arr2 (F := F)) (Y := fun _ => BI.emp) (R := fun _ => BI.emp) (W := U5 m) c

set_option backward.isDefEq.respectTransparency.types false in
/-- The run, for any float values, from any memory with zero counters: every weakly fair execution of @main ends, every
    unscoped buffer of every device at `U7` and every semaphore counter at zero. -/
theorem main_run :
    θ_run defs (onTc (τ := τ) (main (F := F))) ⟨m, fun _ => 0, ρ⟩ (fun r =>
      (∀ c : Dev nD, ∀ b ∈ Pipeline.ucRefs τ sig, r.2.mem (((c : Thread nD τ)).1, b) = U7 m c b)
      ∧ r.2.sem = fun _ => 0) := by
  refine Pipeline.θ_run_regions_kit_dev_sems (pcfgs (F := F)) adm (pdats m) () cellOf_inj emb₁ defs₀ 𝒱₀ L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0)
    (hL := fun g h => if_neg h)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (U0 m c) ∗ E c))
    (Tₙ := fun c => StableHlo.held (c : Thread nD τ) (Pipeline.ucRefs τ sig) (U7 m c))
    (hch := fun c => ⟨.rfl,
      reg0_pre m c, reg0_post m c,
      reg1_pre m c, reg1_post m c,
      reg2_pre m c, reg2_post m c, ?_⟩)
    (hinit := ?_) (QY := fun c s => ∀ b ∈ Pipeline.ucRefs τ sig, s.mem ((c : Thread nD τ).1, b) = U7 m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U7 m c) ∗ E c) ⊢ _
    iintro ⟨Hh, HO, -, -⟩
    isplitl [Hh] <;> iassumption
  · refine Pipeline.initEach L lv fun c => ?_
    rw [show unscopedBufs c (fun b => m ((c.tc : Thread nD τ).loc b)) = StableHlo.held (c : Thread nD τ) (Pipeline.ucRefs τ sig) (U0 m c)
        from Pipeline.unscopedBufs_held (Ix := Unit) (Name := ℕ) (U := UR sig nD τ) (Lvl := ℕ) c (U0 m c)]
    iintro ⟨⟨Hh, -, HO, -, -, -⟩, -⟩
    imodintro
    isplitl [Hh]
    · iexact Hh
    isplitl [HO]
    · iexists ∅
      iexact HO
    isplitr
    · iempintro
    iempintro
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    imodintro
    iexact Hr

/-! ## What no item writes reaches the end as launched -/

/-- Which arrays the recurrence region writes. -/
theorem out0 : ∀ w, (cfg0.win w).isOut = false ∨ Pipeline.arrRef spec0 w = main_v25 := by decide
/-- Which arrays the heads region writes. -/
theorem out1 : ∀ w, (cfg1.win w).isOut = false ∨ Pipeline.arrRef spec1 w ∈ [main_v43_0, main_v43_1, main_v43_2] := by decide
/-- Which arrays the products region writes. -/
theorem out2 : ∀ w, (cfg2.win w).isOut = false ∨ Pipeline.arrRef spec2 w = main_v45 := by decide

/-- What stage 1 of the program does not write is as stage 0 left it. -/
theorem U1_of (c : Dev nD) (r : Ref sig .tc) (h : r ∉ hostOps0_W) : U1 m c r = U0 m c r :=
  StableHlo.after_of_writes_sub hostOps0 _ hostOps0_writes h
/-- What stage 2 of the program does not write is as stage 1 left it. -/
theorem U2_of (c : Dev nD) (r : Ref sig .tc) (h : r ≠ main_v25) : U2 m c r = U1 m c r :=
  Pipeline.afterRegion_keeps _ _ launch0.win.arr_inj (Recur.A_eq _ c) r fun w e =>
    (out0 w).resolve_right fun e' => h (e.symm.trans e')
/-- What stage 3 of the program does not write is as stage 2 left it. -/
theorem U3_of (c : Dev nD) (r : Ref sig .tc) (h : r ∉ hostOps1_W) : U3 m c r = U2 m c r :=
  StableHlo.after_of_writes_sub hostOps1 _ hostOps1_writes h
/-- What stage 4 of the program does not write is as stage 3 left it. -/
theorem U4_of (c : Dev nD) (r : Ref sig .tc) (h : r ∉ [main_v43_0, main_v43_1, main_v43_2]) : U4 m c r = U3 m c r :=
  Pipeline.afterRegion_keeps _ _ launch1.win.arr_inj (Heads.A_eq _ c) r fun w e =>
    (out1 w).resolve_right fun e' => h (e ▸ e')
/-- What stage 5 of the program does not write is as stage 4 left it. -/
theorem U5_of (c : Dev nD) (r : Ref sig .tc) (h : r ∉ hostOps2_W) : U5 m c r = U4 m c r :=
  StableHlo.after_of_writes_sub hostOps2 _ hostOps2_writes h
/-- What stage 6 of the program does not write is as stage 5 left it. -/
theorem U6_of (c : Dev nD) (r : Ref sig .tc) (h : r ≠ main_v45) : U6 m c r = U5 m c r :=
  Pipeline.afterRegion_keeps _ _ launch2.win.arr_inj (Outer.A_eq _ c) r fun w e =>
    (out2 w).resolve_right fun e' => h (e.symm.trans e')
/-- What stage 7 of the program does not write is as stage 6 left it. -/
theorem U7_of (c : Dev nD) (r : Ref sig .tc) (h : r ∉ hostOps3_W) : U7 m c r = U6 m c r :=
  StableHlo.after_of_writes_sub hostOps3 _ hostOps3_writes h

/-- The references some item writes. -/
def written : List (Ref sig .tc) :=
  hostOps0_W ++ [main_v25] ++ hostOps1_W ++ [main_v43_0, main_v43_1, main_v43_2] ++ hostOps2_W ++ [main_v45] ++ hostOps3_W

/-- A reference no item writes ends as launched. -/
theorem U7_kept (c : Dev nD) (r : Ref sig .tc) (h : r ∉ written) : U7 m c r = m ((c : Thread nD τ).loc r) := by
  simp only [written, List.mem_append, not_or] at h
  obtain ⟨⟨⟨⟨⟨⟨h0, h1⟩, h2⟩, h3⟩, h4⟩, h5⟩, h6⟩ := h
  rw [U7_of m c r h6, U6_of m c r (List.ne_of_not_mem_cons h5), U5_of m c r h4, U4_of m c r h3, U3_of m c r h2,
    U2_of m c r (List.ne_of_not_mem_cons h1), U1_of m c r h0]
  rfl

/-- An unscoped reference read off a final state of the run. -/
theorem read_end {M : (ℓ : Loc nD τ sig) → Buf (Elt F) ℓ} {c : Dev nD}
    (h : ∀ b ∈ Pipeline.ucRefs τ sig, M ((c : Thread nD τ).1, b) = U7 m c b) (r : Ref sig .tc) (hr : r.isScoped = false) :
    M ((c.tc : Thread nD τ).loc r) = U7 m c r :=
  h _ (Pipeline.devRef_mem_ucRefs hr)

/-- Each argument array ends as launched. -/
theorem args_kept {M : (ℓ : Loc nD τ sig) → Buf (Elt F) ℓ} {c : Dev nD}
    (h : ∀ b ∈ Pipeline.ucRefs τ sig, M ((c : Thread nD τ).1, b) = U7 m c b) (r : Ref sig .tc) (hr : r.isScoped = false)
    (hw : r ∉ written) : M ((c.tc : Thread nD τ).loc r) = m ((c.tc : Thread nD τ).loc r) :=
  (read_end m h r hr).trans (U7_kept m c r hw)

/-- The frame: every execution ends, the argument arrays unchanged and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (main_run m ρ).mono fun r h => ⟨fun c =>
    ⟨args_kept m (h.1 c) main_arg0 (by decide) (by decide),
     args_kept m (h.1 c) main_arg1 (by decide) (by decide),
     args_kept m (h.1 c) main_arg2 (by decide) (by decide),
     args_kept m (h.1 c) main_arg3 (by decide) (by decide),
     args_kept m (h.1 c) main_arg4 (by decide) (by decide),
     args_kept m (h.1 c) main_arg5 (by decide) (by decide),
     args_kept m (h.1 c) main_arg6 (by decide) (by decide),
     args_kept m (h.1 c) main_arg7 (by decide) (by decide),
     args_kept m (h.1 c) main_arg8 (by decide) (by decide),
     args_kept m (h.1 c) main_arg9 (by decide) (by decide),
     args_kept m (h.1 c) main_arg10 (by decide) (by decide),
     args_kept m (h.1 c) main_arg11 (by decide) (by decide),
     args_kept m (h.1 c) main_arg12 (by decide) (by decide),
     args_kept m (h.1 c) main_arg13 (by decide) (by decide),
     args_kept m (h.1 c) main_arg14 (by decide) (by decide),
     args_kept m (h.1 c) main_arg15 (by decide) (by decide),
     args_kept m (h.1 c) main_arg16 (by decide) (by decide),
     args_kept m (h.1 c) main_arg17 (by decide) (by decide),
     args_kept m (h.1 c) main_arg18 (by decide) (by decide),
     args_kept m (h.1 c) main_arg19 (by decide) (by decide),
     args_kept m (h.1 c) main_arg20 (by decide) (by decide),
     args_kept m (h.1 c) main_arg21 (by decide) (by decide),
     args_kept m (h.1 c) main_arg22 (by decide) (by decide),
     args_kept m (h.1 c) main_arg23 (by decide) (by decide),
     args_kept m (h.1 c) main_arg24 (by decide) (by decide)⟩, h.2⟩

end Cert.KernelIdeal.Whole

end
-- ==== Proof.Value.Host.lean ====
/- What the host operations between the launches leave, entry by entry. -/
module

public import proofs.«01_k».proof.Proof.Ideal.Run
public import Idealize.ShloMosaic.Lib.Pointwise
public import Idealize.ShloMosaic.Lib.StableHlo.RunRead

@[expose] public section

noncomputable section

namespace Cert.KernelIdeal.Host

open Idealize.ShloMosaic Idealize.ShloMosaic.TcCoe Cert.KernelIdeal Cert.KernelIdeal.Gen

variable (U : Valuation τ sig (Elt Ideal))

/-- The input with time first, in rows. -/
theorem v1_read (t : Fin 512) (b : Fin 32) (i : Fin 128) :
    StableHlo.after hostOps0 U main_v1 (ix2 ⟨t.val * 32 + b.val, by omega⟩ i : S16384x128.Idx)
      = U main_arg0 (ix3 b t i : S32x512x128.Idx) := by
  have e : StableHlo.after hostOps0 U main_v1 = shapeCast S16384x128 (transpose S512x32x128 [1, 0, 2] (U main_arg0)
      transposes_S32x512x128_S512x32x128_1_0_2) shapeCasts_S512x32x128_S16384x128 := by
    after_reads_simp
    rfl
  rw [e]
  pointwise []

/-- An entry of host value 4, from the arrays that it is made of. -/
theorem v4_read (d : Fin 2) (r : Fin 512) (i : Fin 1536) :
    StableHlo.after hostOps0 U main_v4 (ix3 d r i : S2x512x1536.Idx) = if d = 1 then U main_arg9 (ix2 r i : S512x1536.Idx) else U main_arg5 (ix2 r i : S512x1536.Idx) := by
  after_reads_simp
  rcases (by omega : d = 0 ∨ d = 1) with rfl | rfl <;> pointwise []

/-- An entry of host value 8, from the arrays that it is made of. -/
theorem v8_read (d : Fin 2) (i : Fin 1536) :
    StableHlo.after hostOps0 U main_v8 (ix3 d 0 i : S2x1x1536.Idx) = if d = 1 then U main_arg10 (ix1 i : S1536.Idx) else U main_arg6 (ix1 i : S1536.Idx) := by
  after_reads_simp
  rcases (by omega : d = 0 ∨ d = 1) with rfl | rfl <;> pointwise [] <;> after_reads_simp <;> pointwise []

/-- An entry of host value 11, from the arrays that it is made of. -/
theorem v11_read (d : Fin 2) (r : Fin 512) (i : Fin 1536) :
    StableHlo.after hostOps0 U main_v11 (ix3 d r i : S2x512x1536.Idx) = if d = 1 then U main_arg11 (ix2 r i : S512x1536.Idx) else U main_arg7 (ix2 r i : S512x1536.Idx) := by
  after_reads_simp
  rcases (by omega : d = 0 ∨ d = 1) with rfl | rfl <;> pointwise []

/-- An entry of host value 15, from the arrays that it is made of. -/
theorem v15_read (d : Fin 2) (i : Fin 512) :
    StableHlo.after hostOps0 U main_v15 (ix3 d 0 i : S2x1x512.Idx) = if d = 1 then U main_arg12 (ix1 i : S512.Idx) else U main_arg8 (ix1 i : S512.Idx) := by
  after_reads_simp
  rcases (by omega : d = 0 ∨ d = 1) with rfl | rfl <;> pointwise [] <;> after_reads_simp <;> pointwise []

/-- An entry of host value 23, from the arrays that it is made of. -/
theorem v23_read (i : Fin 256) :
    StableHlo.after hostOps0 U main_v23 (ix2 0 i : S1x256.Idx) = U main_arg2 (ix1 i : S256.Idx) := by
  after_reads_simp
  pointwise []

/-- An entry of host value 24, from the arrays that it is made of. -/
theorem v24_read (i : Fin 512) :
    StableHlo.after hostOps0 U main_v24 (ix2 0 i : S1x512.Idx) = U main_arg4 (ix1 i : S512.Idx) := by
  after_reads_simp
  pointwise []

/-- An entry of the diagonal's table. -/
theorem cst_read (k : Fin 32) (i : Fin 1024) :
    StableHlo.after hostOps0 U main_cst (ix2 k i : S32x1024.Idx) = Ideal.ofBits .f32 (lit1 (S32x1024.rowMajor (ix2 k i))) := by
  after_reads_simp
  rfl

/-- An entry of host value 22, from the arrays that it is made of. -/
theorem v22_read (k : Fin 496) (i : Fin 1024) :
    StableHlo.after hostOps0 U main_v22 (ix2 k i : S496x1024.Idx)
      = if lit0 k = BitVec.ofNat 32 i.val then (1 : EReal) else 0 := by
  after_reads_simp
  pointwise []
  have e : S496.rowMajor (ix1 k) = k := Fin.ext (Shape.rowMajor_val_one _)
  rw [e]
  by_cases h : lit0 k = BitVec.ofNat 32 i.val
  · rw [h, if_pos rfl]
    simp [IntOp.cmpi, FloatOps.uitofp]
  · rw [if_neg h]
    simp [IntOp.cmpi, FloatOps.uitofp, beq_eq_false_iff_ne.mpr h]

/-- An entry of host value 26, from the arrays that it is made of. -/
theorem v26_read (k : Fin 512) (j : Fin 256) :
    StableHlo.after hostOps1 U main_v26 (ix2 k j : S512x256.Idx) = U main_arg13 (ix2 ⟨k.val, by omega⟩ j : S1024x256.Idx) := by
  after_reads_simp
  pointwise []

/-- An entry of host value 27, from the arrays that it is made of. -/
theorem v27_read (k : Fin 512) (j : Fin 256) :
    StableHlo.after hostOps1 U main_v27 (ix2 k j : S512x256.Idx) = U main_arg13 (ix2 ⟨512 + k.val, by omega⟩ j : S1024x256.Idx) := by
  after_reads_simp
  pointwise []

/-- An entry of host value 30, from the arrays that it is made of. -/
theorem v30_read (k : Fin 512) (j : Fin 256) :
    StableHlo.after hostOps1 U main_v30 (ix2 k j : S512x256.Idx) = U main_arg17 (ix2 ⟨k.val, by omega⟩ j : S1024x256.Idx) := by
  after_reads_simp
  pointwise []

/-- An entry of host value 31, from the arrays that it is made of. -/
theorem v31_read (k : Fin 512) (j : Fin 256) :
    StableHlo.after hostOps1 U main_v31 (ix2 k j : S512x256.Idx) = U main_arg17 (ix2 ⟨512 + k.val, by omega⟩ j : S1024x256.Idx) := by
  after_reads_simp
  pointwise []

/-- An entry of host value 39, from the arrays that it is made of. -/
theorem v39_read (k : Fin 512) (j : Fin 256) :
    StableHlo.after hostOps1 U main_v39 (ix2 k j : S512x256.Idx) = U main_arg21 (ix2 ⟨k.val, by omega⟩ j : S1024x256.Idx) := by
  after_reads_simp
  pointwise []

/-- An entry of host value 40, from the arrays that it is made of. -/
theorem v40_read (k : Fin 512) (j : Fin 256) :
    StableHlo.after hostOps1 U main_v40 (ix2 k j : S512x256.Idx) = U main_arg21 (ix2 ⟨512 + k.val, by omega⟩ j : S1024x256.Idx) := by
  after_reads_simp
  pointwise []

/-- An entry of host value 28, from the arrays that it is made of. -/
theorem v28_read (i : Fin 256) :
    StableHlo.after hostOps1 U main_v28 (ix2 0 i : S1x256.Idx) = U main_arg14 (ix1 i : S256.Idx) := by
  after_reads_simp
  pointwise []

/-- An entry of host value 29, from the arrays that it is made of. -/
theorem v29_read (i : Fin 32) :
    StableHlo.after hostOps1 U main_v29 (ix2 0 i : S1x32.Idx) = U main_arg16 (ix1 i : S32.Idx) := by
  after_reads_simp
  pointwise []

/-- An entry of host value 32, from the arrays that it is made of. -/
theorem v32_read (i : Fin 256) :
    StableHlo.after hostOps1 U main_v32 (ix2 0 i : S1x256.Idx) = U main_arg18 (ix1 i : S256.Idx) := by
  after_reads_simp
  pointwise []

/-- An entry of host value 41, from the arrays that it is made of. -/
theorem v41_read (i : Fin 256) :
    StableHlo.after hostOps1 U main_v41 (ix2 0 i : S1x256.Idx) = U main_arg22 (ix1 i : S256.Idx) := by
  after_reads_simp
  pointwise []

/-- An entry of host value 42, from the arrays that it is made of. -/
theorem v42_read (i : Fin 1024) :
    StableHlo.after hostOps1 U main_v42 (ix2 0 i : S1x1024.Idx) = U main_arg24 (ix1 i : S1024.Idx) := by
  after_reads_simp
  pointwise []

/-- An entry of host value 33, from the arrays that it is made of. -/
theorem v33_read (k : Fin 256) (j : Fin 32) :
    StableHlo.after hostOps1 U main_v33 (ix2 k j : S256x32.Idx) = U main_arg19 (ix2 k ⟨j.val, by omega⟩ : S256x528.Idx) := by
  after_reads_simp
  pointwise []

/-- An entry of host value 36, from the arrays that it is made of. -/
theorem v36_read (k : Fin 256) (j : Fin 496) :
    StableHlo.after hostOps1 U main_v36 (ix2 k j : S256x496.Idx) = U main_arg19 (ix2 k ⟨32 + j.val, by omega⟩ : S256x528.Idx) := by
  after_reads_simp
  pointwise []

/-- An entry of host value 35, from the arrays that it is made of. -/
theorem v35_read (j : Fin 32) :
    StableHlo.after hostOps1 U main_v35 (ix2 0 j : S1x32.Idx) = U main_arg20 (ix1 ⟨j.val, by omega⟩ : S528.Idx) := by
  after_reads_simp
  pointwise []

/-- An entry of host value 38, from the arrays that it is made of. -/
theorem v38_read (j : Fin 496) :
    StableHlo.after hostOps1 U main_v38 (ix2 0 j : S1x496.Idx) = U main_arg20 (ix1 ⟨32 + j.val, by omega⟩ : S528.Idx) := by
  after_reads_simp
  pointwise []

/-- An entry of host value 44, from the arrays that it is made of. -/
theorem v44_read (r : Fin 16384) (i j : Fin 32) :
    StableHlo.after hostOps2 U main_v44 (ix3 r i j : S16384x32x32.Idx)
      = U main_v43_2 (ix2 r ⟨i.val * 32 + j.val, by omega⟩ : S16384x1024.Idx) := by
  have e : StableHlo.after hostOps2 U main_v44 = shapeCast S16384x32x32 (U main_v43_2) shapeCasts_S16384x1024_S16384x32x32 := by
    after_reads_simp
    rfl
  rw [e]
  pointwise []

/-- An entry of host value 46, from the arrays that it is made of. -/
theorem v46_read (b : Fin 32) (t : Fin 512) (i j : Fin 32) :
    StableHlo.after hostOps3 U main_v46 (ix4 b t i j : S32x512x32x32.Idx)
      = U main_v43_1 (ix3 b t ⟨i.val * 32 + j.val, by omega⟩ : S32x512x1024.Idx) := by
  have e : StableHlo.after hostOps3 U main_v46 = shapeCast S32x512x32x32 (U main_v43_1) shapeCasts_S32x512x1024_S32x512x32x32 := by
    after_reads_simp
    rfl
  rw [e]
  pointwise []

end Cert.KernelIdeal.Host

end
-- ==== Proof.Value.Spec.lean ====
/- The network over the extended reals, entry by entry: a bidirectional gated recurrence over the features a two-layer
   perceptron makes of each time step, three perceptron heads, and the product of a lower triangular matrix with its
   transpose. Every quantity is a function of natural coordinates; nothing is said of blocks or chunks. -/
module

public import Idealize.ShloMosaic.Lib.Pointwise

@[expose] public section

noncomputable section

namespace Cert.Spec

open Idealize.ShloMosaic

/-- A row times a matrix, plus a row. -/
def dense {K N : ℕ} (x : Fin K → EReal) (W : Fin K → Fin N → EReal) (b : Fin N → EReal) (c : Fin N) : EReal :=
  (∑ k, x k * W k c) + b c

/-- A dense layer, the maximum with zero, a dense layer. -/
def mlp {K M N : ℕ} (x : Fin K → EReal) (W₁ : Fin K → Fin M → EReal) (b₁ : Fin M → EReal) (W₂ : Fin M → Fin N → EReal)
    (b₂ : Fin N → EReal) : Fin N → EReal :=
  dense (fun j => max (dense x W₁ b₁ j) 0) W₂ b₂

/-- The sum of two rows times two matrices, plus a row. -/
def dense2 {K N : ℕ} (x y : Fin K → EReal) (W W' : Fin K → Fin N → EReal) (b : Fin N → EReal) (c : Fin N) : EReal :=
  ((∑ k, x k * W k c) + ∑ k, y k * W' k c) + b c

/-- The reset column of a hidden unit among the three times 512 gate columns. -/
def gr (k : Fin 512) : Fin 1536 := ⟨k.val, by omega⟩
/-- Its update column. -/
def gz (k : Fin 512) : Fin 1536 := ⟨512 + k.val, by omega⟩
/-- Its candidate column. -/
def gn (k : Fin 512) : Fin 1536 := ⟨1024 + k.val, by omega⟩

/-- The state times one column of the recurrent weights. -/
def rec (h : Fin 512 → EReal) (W : Fin 512 → Fin 1536 → EReal) (c : Fin 1536) : EReal := ∑ k, h k * W k c

/-- One step of the recurrence: the next hidden state from the input projection `g` and the state `h`. -/
def cell (g : Fin 1536 → EReal) (h : Fin 512 → EReal) (W : Fin 512 → Fin 1536 → EReal) (bn : Fin 512 → EReal)
    (k : Fin 512) : EReal :=
  (1 - Ideal.logistic (g (gz k) + rec h W (gz k)))
      * Ideal.tanh (g (gn k) + Ideal.logistic (g (gr k) + rec h W (gr k)) * (rec h W (gn k) + bn k))
    + Ideal.logistic (g (gz k) + rec h W (gz k)) * h k

/-- The twenty-five arguments, as arrays of extended reals. -/
structure Args where
  a0 : (⟨3, ![32, 512, 128]⟩ : Shape).Idx → EReal
  a1 : (⟨2, ![128, 256]⟩ : Shape).Idx → EReal
  a2 : (⟨1, ![256]⟩ : Shape).Idx → EReal
  a3 : (⟨2, ![256, 512]⟩ : Shape).Idx → EReal
  a4 : (⟨1, ![512]⟩ : Shape).Idx → EReal
  a5 : (⟨2, ![512, 1536]⟩ : Shape).Idx → EReal
  a6 : (⟨1, ![1536]⟩ : Shape).Idx → EReal
  a7 : (⟨2, ![512, 1536]⟩ : Shape).Idx → EReal
  a8 : (⟨1, ![512]⟩ : Shape).Idx → EReal
  a9 : (⟨2, ![512, 1536]⟩ : Shape).Idx → EReal
  a10 : (⟨1, ![1536]⟩ : Shape).Idx → EReal
  a11 : (⟨2, ![512, 1536]⟩ : Shape).Idx → EReal
  a12 : (⟨1, ![512]⟩ : Shape).Idx → EReal
  a13 : (⟨2, ![1024, 256]⟩ : Shape).Idx → EReal
  a14 : (⟨1, ![256]⟩ : Shape).Idx → EReal
  a15 : (⟨2, ![256, 32]⟩ : Shape).Idx → EReal
  a16 : (⟨1, ![32]⟩ : Shape).Idx → EReal
  a17 : (⟨2, ![1024, 256]⟩ : Shape).Idx → EReal
  a18 : (⟨1, ![256]⟩ : Shape).Idx → EReal
  a19 : (⟨2, ![256, 528]⟩ : Shape).Idx → EReal
  a20 : (⟨1, ![528]⟩ : Shape).Idx → EReal
  a21 : (⟨2, ![1024, 256]⟩ : Shape).Idx → EReal
  a22 : (⟨1, ![256]⟩ : Shape).Idx → EReal
  a23 : (⟨2, ![256, 1024]⟩ : Shape).Idx → EReal
  a24 : (⟨1, ![1024]⟩ : Shape).Idx → EReal

/-- A matrix by its row and column. -/
def m2 {K N : ℕ} (W : (⟨2, ![K, N]⟩ : Shape).Idx → EReal) (k : Fin K) (c : Fin N) : EReal := W (ix2 k c)
/-- A vector by its entry. -/
def m1 {N : ℕ} (b : (⟨1, ![N]⟩ : Shape).Idx → EReal) (c : Fin N) : EReal := b (ix1 c)

variable (P : Args)

/-- The features of one sequence at one time. -/
def feat (b : Fin 32) (t : Fin 512) : Fin 512 → EReal :=
  mlp (fun i => P.a0 (ix3 b t i)) (m2 P.a1) (m1 P.a2) (m2 P.a3) (m1 P.a4)

/-- The input weights of a direction. -/
def wi (d : Bool) : Fin 512 → Fin 1536 → EReal := if d then m2 P.a9 else m2 P.a5
/-- The input bias of a direction. -/
def bi (d : Bool) : Fin 1536 → EReal := if d then m1 P.a10 else m1 P.a6
/-- The recurrent weights of a direction. -/
def wh (d : Bool) : Fin 512 → Fin 1536 → EReal := if d then m2 P.a11 else m2 P.a7
/-- The candidate's bias of a direction. -/
def bn (d : Bool) : Fin 512 → EReal := if d then m1 P.a12 else m1 P.a8

/-- The input projection. -/
def gin (d : Bool) (b : Fin 32) (t : Fin 512) : Fin 1536 → EReal := dense (feat P b t) (wi P d) (bi P d)

/-- The time a direction reaches at a step. -/
def tm (d : Bool) (s : Fin 512) : Fin 512 := if d then s.rev else s

/-- The hidden state after a number of steps. -/
def hid (d : Bool) (b : Fin 32) : ℕ → Fin 512 → EReal
  | 0 => fun _ => 0
  | s + 1 => if h : s < 512 then cell (gin P d b (tm d ⟨s, h⟩)) (hid d b s) (wh P d) (bn P d) else hid d b s

/-- The hidden state after one more step. -/
theorem hid_succ (d : Bool) (b : Fin 32) (s : Fin 512) :
    hid P d b (s.val + 1) = cell (gin P d b (tm d s)) (hid P d b s.val) (wh P d) (bn P d) := by
  rw [hid, dif_pos s.isLt]

/-- The hidden state a direction has at a time, that time's input taken in. -/
def hat (d : Bool) (b : Fin 32) (t : Fin 512) : Fin 512 → EReal := hid P d b ((tm d t).val + 1)

/-- The two directions' hidden states at a time side by side. -/
def both (b : Fin 32) (t : Fin 512) (k : Fin 1024) : EReal :=
  if h : k.val < 512 then hat P false b t ⟨k.val, h⟩ else hat P true b t ⟨k.val - 512, by omega⟩

/-- The first head. -/
def outB (b : Fin 32) (t : Fin 512) : Fin 32 → EReal :=
  mlp (both P b t) (m2 P.a13) (m1 P.a14) (m2 P.a15) (m1 P.a16)
/-- The second head. -/
def outA (b : Fin 32) (t : Fin 512) : Fin 1024 → EReal :=
  mlp (both P b t) (m2 P.a21) (m1 P.a22) (m2 P.a23) (m1 P.a24)
/-- The third head: a triangle's entries in a row. -/
def flat (b : Fin 32) (t : Fin 512) : Fin 528 → EReal :=
  mlp (both P b t) (m2 P.a17) (m1 P.a18) (m2 P.a19) (m1 P.a20)

/-- The place of the entry in row `r` and column `c` under the diagonal, the rows written one after another. -/
def below (r c : Fin 32) (h : c < r) : Fin 496 :=
  ⟨r.val * (r.val - 1) / 2 + c.val, by
    have : ∀ r c : Fin 32, c < r → r.val * (r.val - 1) / 2 + c.val < 496 := by decide +kernel
    exact this r c h⟩

/-- The lower triangular matrix: the strict part from `o`, the diagonal from `e`. -/
def tri (o : Fin 496 → EReal) (e : Fin 32 → EReal) (r c : Fin 32) : EReal :=
  if h : c < r then o (below r c h) else if r = c then e r else 0

/-- The number added to the diagonal. -/
def eps : EReal := Ideal.ofBits .f32 0x38D1B717#32

/-- The lower triangular matrix of one sequence at one time. -/
def low (b : Fin 32) (t : Fin 512) : Fin 32 → Fin 32 → EReal :=
  tri (fun k => flat P b t ⟨32 + k.val, by omega⟩) (fun r => Ideal.exp (flat P b t ⟨r.val, by omega⟩) + eps)

/-- The product of the triangle with its transpose. -/
def outQ (b : Fin 32) (t : Fin 512) (r c : Fin 32) : EReal := ∑ k, low P b t r k * low P b t c k

/-- A sum over 1024 entries is the sum over the first 512 and the sum over the last 512. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.Spec

end
-- ==== Proof.Value.Cells.lean ====
/- What the kernel's compiled bodies compute, entry by entry: one step of the recurrence, a row of the input projection, a
   row of each head, an entry of the factor and of its product with its transpose. -/
module

public import proofs.«01_k».proof.Proof.Ideal.Heads
public import proofs.«01_k».proof.Proof.Ideal.Outer
public import proofs.«01_k».proof.Proof.Ideal.Recur
public import proofs.«01_k».proof.Proof.Value.Spec

@[expose] public section

noncomputable section

namespace Cert.KernelIdeal.Cells

open Idealize.ShloMosaic Cert.KernelIdeal Cert.KernelIdeal.Gen Cert.Spec

/-- One step of the recurrence. -/
theorem step_apply (W : FVec Ideal S512x1536 .f32) (bn : FVec Ideal S1x512 .f32) (h : Vec Ideal S32x512 .f32)
    (g : Vec Ideal S32x1536 .f32) (b : Fin 32) (k : Fin 512) :
    k0_pay20 W bn h g (ix2 b k) = cell (fun c => g (ix2 b c)) (fun k => h (ix2 b k)) (m2 W) (fun k => bn (ix2 0 k)) k := by
  pointwise [k0_pay20, cell, Spec.rec, m2, gr, gz, gn]

/-- The row of a step, with a leading axis. -/
theorem step_row (W : FVec Ideal S512x1536 .f32) (bn : FVec Ideal S1x512 .f32) (h : Vec Ideal S32x512 .f32)
    (g : Vec Ideal S32x1536 .f32) (b : Fin 32) (k : Fin 512) :
    k0_pay21 W bn h g (ix3 0 b k) = k0_pay20 W bn h g (ix2 b k) := by
  pointwise [k0_pay21, k0_pay20]

/-- The row of the block of 16 times 32 rows for a time and a sequence. -/
def row (s : Fin 16) (b : Fin 32) : Fin 512 := ⟨s.val * 32 + b.val, by omega⟩

open Heads in
/-- The first head's block. -/
theorem out20_apply (x0 : Vec Ideal S2x512x512 .f32) (x1 x2 : Vec Ideal S512x256 .f32) (x3 : Vec Ideal S1x256 .f32)
    (x4 : Vec Ideal S256x32 .f32) (x5 : Vec Ideal S1x32 .f32) (b : Fin 32) (s : Fin 16) (c : Fin 32) :
    out20 x0 x1 x2 x3 x4 x5 (ix3 b s c)
      = dense (fun j => max (dense2 (fun k => x0 (ix3 0 (row s b) k)) (fun k => x0 (ix3 1 (row s b) k)) (m2 x1) (m2 x2)
          (fun c => x3 (ix2 0 c)) j) 0) (m2 x4) (fun c => x5 (ix2 0 c)) c := by
  rw [out20, View.canon_unit_zero (by decide)]
  pointwise [k1_pay4, k1_pay2, k1_pay3, dense, dense2, m2, row]
  done

open Heads in
/-- The second head's block. -/
theorem out21_apply (x0 : Vec Ideal S2x512x512 .f32) (x1 x2 : Vec Ideal S512x256 .f32) (x3 : Vec Ideal S1x256 .f32)
    (x4 : Vec Ideal S256x1024 .f32) (x5 : Vec Ideal S1x1024 .f32) (b : Fin 32) (s : Fin 16) (c : Fin 1024) :
    out21 x0 x1 x2 x3 x4 x5 (ix3 b s c)
      = dense (fun j => max (dense2 (fun k => x0 (ix3 0 (row s b) k)) (fun k => x0 (ix3 1 (row s b) k)) (m2 x1) (m2 x2)
          (fun c => x3 (ix2 0 c)) j) 0) (m2 x4) (fun c => x5 (ix2 0 c)) c := by
  rw [out21, View.canon_unit_zero (by decide)]
  pointwise [k1_pay2, k1_pay3, k1_pay5, k1_pay6, dense, dense2, m2, row]
  done

open Heads in
/-- The factor's block, from the tables `x19` of the strict part and `x18` of the diagonal. -/
theorem out22_apply (x0 : Vec Ideal S2x512x512 .f32) (x6 x7 : Vec Ideal S512x256 .f32) (x8 : Vec Ideal S1x256 .f32)
    (x9 : Vec Ideal S256x32 .f32) (x10 : Vec Ideal S1x32 .f32) (x11 : Vec Ideal S256x496 .f32) (x12 : Vec Ideal S1x496 .f32)
    (x18 : Vec Ideal S32x1024 .f32) (x19 : Vec Ideal S496x1024 .f32) (r : Fin 512) (c : Fin 1024) :
    out22 x0 x6 x7 x8 x9 x10 x11 x12 x18 x19 (ix2 r c)
      = (∑ k, dense (fun j => max (dense2 (fun k => x0 (ix3 0 r k)) (fun k => x0 (ix3 1 r k)) (m2 x6) (m2 x7)
            (fun c => x8 (ix2 0 c)) j) 0) (m2 x11) (fun c => x12 (ix2 0 c)) k * x19 (ix2 k c))
        + ∑ k, (Ideal.exp (dense (fun j => max (dense2 (fun k => x0 (ix3 0 r k)) (fun k => x0 (ix3 1 r k)) (m2 x6) (m2 x7)
            (fun c => x8 (ix2 0 c)) j) 0) (m2 x9) (fun c => x10 (ix2 0 c)) k) + eps) * x18 (ix2 k c) := by
  rw [out22, View.canon_unit_zero (by decide)]
  pointwise [k1_pay1, k1_pay2, k1_pay3, k1_pay7, k1_pay8, dense, dense2, m2, eps]
  done

open Outer in
/-- The product's block. -/
theorem out1_apply (x0 : Vec Ideal S512x32x32 .f32) (b : Fin 32) (s : Fin 16) (r c : Fin 32) :
    out1 x0 (ix4 b s r c) = ∑ k, x0 (ix3 (row s b) r k) * x0 (ix3 (row s b) c k) := by
  rw [out1, View.canon_unit_zero (by decide)]
  pointwise [k2_pay1, row]
  done

/-- The input projection of one row. -/
def proj (x : Fin 128 → EReal) (x1 : Vec Ideal S128x256 .f32) (x2 : Vec Ideal S1x256 .f32) (x3 : Vec Ideal S256x512 .f32)
    (x4 : Vec Ideal S1x512 .f32) (x5 : Vec Ideal S1x512x1536 .f32) (x6 : Vec Ideal S1x1x1536 .f32) : Fin 1536 → EReal :=
  dense (mlp x (m2 x1) (fun c => x2 (ix2 0 c)) (m2 x3) (fun c => x4 (ix2 0 c))) (fun k c => x5 (ix3 0 k c))
    (fun c => x6 (ix3 0 0 c))

open Recur in
/-- The projection of a whole block, row by row. -/
theorem xp_apply (x0 : Vec Ideal S2048x128 .f32) (x1 : Vec Ideal S128x256 .f32) (x2 : Vec Ideal S1x256 .f32)
    (x3 : Vec Ideal S256x512 .f32) (x4 : Vec Ideal S1x512 .f32) (x5 : Vec Ideal S1x512x1536 .f32)
    (x6 : Vec Ideal S1x1x1536 .f32) (r : Fin 2048) (c : Fin 1536) :
    xp x0 x1 x2 x3 x4 x5 x6 (ix2 r c) = proj (fun i => x0 (ix2 r i)) x1 x2 x3 x4 x5 x6 c := by
  have H := View.canon_apply_of_pieces (Val := Elt Ideal) (e := .f32)
    (fun y : S2048x1536.Idx => proj (fun i => x0 (ix2 (y 0) i)) x1 x2 x3 x4 x5 x6 (y 1)) (xpPieces x0 x1 x2 x3 x4 x5 x6)
  have hG : ∀ p ∈ xpPieces x0 x1 x2 x3 x4 x5 x6, ∀ y : p.1.shape.Idx,
      p.2 y = proj (fun i => x0 (ix2 (p.1.idx y 0) i)) x1 x2 x3 x4 x5 x6 (p.1.idx y 1) := by
    intro p hp
    simp only [xpPieces, List.mem_cons, List.not_mem_nil, or_false] at hp
    rcases hp with rfl | rfl | rfl | rfl | rfl | rfl | rfl | rfl <;> intro y <;>
      pointwise [k0_pay3, k0_pay4, k0_pay7, k0_pay8, k0_pay9, k0_pay10, k0_pay11, k0_pay12, k0_pay13, k0_pay14, k0_pay15,
        k0_pay16, k0_pay17, k0_pay18, k0_pay19, proj, dense, mlp, m2]
  exact H hG _ (xp_cover x0 x1 x2 x3 x4 x5 x6 (ix2 r c))

end Cert.KernelIdeal.Cells

end
-- ==== Proof.Value.Block.lean ====
/- The first launch's blocks: the steps of a block are steps of the recurrence, the states carried from block to block are
   its states at the blocks' ends, and so the array the launch leaves holds the state of every direction at every time. -/
module

public import proofs.«01_k».proof.Proof.Value.Cells

@[expose] public section

noncomputable section

namespace Cert.KernelIdeal.Block

open Idealize.ShloMosaic Idealize.ShloMosaic.TcCoe Cert.KernelIdeal Cert.KernelIdeal.Gen Cert.Spec Cert.KernelIdeal.Recur
open Cert.KernelIdeal.Cells (proj)
open Idealize.ShloMosaic.Pipeline (Dat)

/-- The row of a block of 64 times 32 rows that step `k` of a direction reads and writes, for a sequence. -/
def brow (d : ℕ) (k : Fin 64) (b : Fin 32) : Fin 2048 :=
  ⟨Recur.row d k.val * 32 + b.val, by unfold Recur.row; split <;> omega⟩

/-- What a step reads of the projection. -/
theorem ld_apply (i : grid0.Coords) (X : Vec Ideal S2048x1536 .f32) (k : ℕ) (hk : k < k0_t1_loop.trips) (hk' : k < 64)
    (b : Fin 32) (c : Fin 1536) :
    View.ld X (Rect.unit (s := S2048x1536) (k0_off1 i ⟨k, hk⟩) S32x1536.size (k0_off1_inb i ⟨k, hk⟩)) (ix2 b c)
      = X (ix2 (brow (i 0).val ⟨k, hk'⟩ b) c) := by
  show X ((Rect.unit (s := S2048x1536) (k0_off1 i ⟨k, hk⟩) S32x1536.size (k0_off1_inb i ⟨k, hk⟩)).idx (ix2 b c : S32x1536.Idx)) = _
  congr 1
  funext a
  apply Fin.ext
  show k0_off1 i ⟨k, hk⟩ a + 1 * ((ix2 b c : S32x1536.Idx) a).val = _
  rw [off1_eq]
  fin_cases a
  · show Recur.row (i 0).val k * 32 + 1 * b.val = Recur.row (i 0).val k * 32 + b.val; omega
  · show 0 + 1 * c.val = c.val; omega

/-- The steps of a block are steps of the recurrence. -/
theorem hst_apply (P : Args) (d : Bool) (s₀ : ℕ) (hs : s₀ + 64 ≤ 512) (i : grid0.Coords) (W : FVec Ideal S512x1536 .f32)
    (bb : FVec Ideal S1x512 .f32) (X : Vec Ideal S2048x1536 .f32) (h : Vec Ideal S32x512 .f32)
    (hW : m2 W = wh P d) (hb : (fun k => bb (ix2 0 k)) = Spec.bn P d)
    (hX : ∀ (k : Fin 64) (b : Fin 32), (fun c => X (ix2 (brow (i 0).val k b) c)) = gin P d b (tm d ⟨s₀ + k.val, by omega⟩))
    (hh : ∀ b, (fun u => h (ix2 b u)) = hid P d b s₀) (b : Fin 32) :
    ∀ k, k ≤ 64 → (fun u => hst i W bb X h k (ix2 b u)) = hid P d b (s₀ + k) := by
  intro k
  induction k with
  | zero => intro _; exact hh b
  | succ k ih =>
    intro hk
    have hk' : k < 64 := hk
    have hkt : k < k0_t1_loop.trips := by rw [trips_eq]; exact hk'
    have e := hid_succ P d b ⟨s₀ + k, by omega⟩
    refine Eq.trans ?_ e.symm
    funext u
    rw [hst, dif_pos hkt, Cells.step_apply, hW, hb, ih (by omega)]
    congr 1
    rw [← hX ⟨k, hk'⟩ b]
    funext c
    exact ld_apply i X k hkt hk' b c

/-- Where a step's rows go. -/
theorem idx_apply (i : grid0.Coords) (k : ℕ) (hk : k < k0_t1_loop.trips) (hk' : k < 64) (b : Fin 32) (u : Fin 512) :
    (Rect.unit (s := S1x2048x512) (k0_off2 i ⟨k, hk⟩) S1x32x512.size (k0_off2_inb i ⟨k, hk⟩)).idx
        (ix3 0 b u : S1x32x512.Idx) = (ix3 0 (brow (i 0).val ⟨k, hk'⟩ b) u : S1x2048x512.Idx) := by
  funext a
  apply Fin.ext
  show k0_off2 i ⟨k, hk⟩ a + 1 * ((ix3 0 b u : S1x32x512.Idx) a).val = _
  rw [off2_eq]
  fin_cases a
  · rfl
  · show Recur.row (i 0).val k * 32 + 1 * b.val = Recur.row (i 0).val k * 32 + b.val; omega
  · show 0 + 1 * u.val = u.val; omega

/-- The states of a block by row, the row naming the step. -/
def rows (P : Args) (d : Bool) (s₀ dd : ℕ) (y : S1x2048x512.Idx) : EReal :=
  hid P d ⟨(y 1).val % 32, Nat.mod_lt _ (by decide)⟩ (s₀ + Recur.row dd ((y 1).val / 32) + 1) (y 2)

/-- An entry of the rows of hidden states, by trip, sequence and unit. -/
theorem rows_apply (P : Args) (d : Bool) (s₀ dd : ℕ) (hd : dd < 2) (k : Fin 64) (b : Fin 32) (u : Fin 512) :
    rows P d s₀ dd (ix3 0 (brow dd k b) u) = hid P d b (s₀ + k.val + 1) u := by
  have hb' := b.isLt
  have hk' := k.isLt
  have e1 : (Recur.row dd k.val * 32 + b.val) % 32 = b.val := by omega
  have e2 : Recur.row dd ((Recur.row dd k.val * 32 + b.val) / 32) = k.val := by
    rw [show (Recur.row dd k.val * 32 + b.val) / 32 = Recur.row dd k.val by omega]
    unfold Recur.row; split <;> omega
  show hid P d ⟨(Recur.row dd k.val * 32 + b.val) % 32, _⟩
    (s₀ + Recur.row dd ((Recur.row dd k.val * 32 + b.val) / 32) + 1) u = _
  have e3 : (⟨(Recur.row dd k.val * 32 + b.val) % 32, Nat.mod_lt _ (by decide)⟩ : Fin 32) = b := Fin.ext e1
  rw [e2, e3]

/-- The states a block leaves are the recurrence's, each at its step's row. -/
theorem out_apply (P : Args) (d : Bool) (s₀ : ℕ) (hs : s₀ + 64 ≤ 512) (i : grid0.Coords) (W : FVec Ideal S512x1536 .f32)
    (bb : FVec Ideal S1x512 .f32) (X : Vec Ideal S2048x1536 .f32) (h : Vec Ideal S32x512 .f32)
    (hW : m2 W = wh P d) (hb : (fun k => bb (ix2 0 k)) = Spec.bn P d)
    (hX : ∀ (k : Fin 64) (b : Fin 32), (fun c => X (ix2 (brow (i 0).val k b) c)) = gin P d b (tm d ⟨s₀ + k.val, by omega⟩))
    (hh : ∀ b, (fun u => h (ix2 b u)) = hid P d b s₀) (k : Fin 64) (b : Fin 32) (u : Fin 512) :
    View.canon (hpc i W bb X h k0_t1_loop.trips) (ix3 0 (brow (i 0).val k b) u) = hid P d b (s₀ + k.val + 1) u := by
  have hd : (i 0).val < 2 := (i 0).isLt
  have key : ∀ n, n ≤ 64 → ∀ p ∈ hpc i W bb X h n, ∀ y : p.1.shape.Idx, p.2 y = rows P d s₀ (i 0).val (p.1.idx y) := by
    intro n
    induction n with
    | zero => intro _ p hp; rw [hpc] at hp; exact absurd hp List.not_mem_nil
    | succ n ih =>
      intro hn p hp
      have hn' : n < 64 := hn
      have hnt : n < k0_t1_loop.trips := by rw [trips_eq]; exact hn'
      rw [hpc, dif_pos hnt] at hp
      rcases List.mem_cons.mp hp with rfl | hp
      · intro y
        obtain ⟨y0, y1, y2, rfl⟩ : ∃ (a : Fin 1) (b : Fin 32) (c : Fin 512), y = (ix3 a b c : S1x32x512.Idx) :=
          ⟨y 0, y 1, y 2, by funext a; fin_cases a <;> rfl⟩
        obtain rfl : y0 = 0 := Subsingleton.elim _ _
        have e := congrFun (hst_apply P d s₀ hs i W bb X h hW hb hX hh y1 (n + 1) hn) y2
        rw [hst, dif_pos hnt] at e
        refine (Cells.step_row W bb (hst i W bb X h n) _ y1 y2).trans (e.trans ?_)
        refine Eq.trans ?_ (congrArg (rows P d s₀ (i 0).val) (idx_apply i n hnt hn' y1 y2)).symm
        exact (rows_apply P d s₀ _ hd ⟨n, hn'⟩ y1 y2).symm
      · exact ih (by omega) p hp
  refine (View.canon_apply_of_pieces (Val := Elt Ideal) (e := .f32) (rows P d s₀ (i 0).val)
    (hpc i W bb X h k0_t1_loop.trips) (key _ (by rw [trips_eq])) _ (hpc_cover i W bb X h (ix3 0 (brow (i 0).val k b) u))).trans ?_
  exact rows_apply P d s₀ _ hd k b u

end Cert.KernelIdeal.Block

end
-- ==== Proof.Value.Region0.lean ====
/- The array the first launch leaves: both directions' hidden states at every time of every sequence. -/
module

public import proofs.«01_k».proof.Proof.Value.Block

@[expose] public section

noncomputable section

namespace Cert.KernelIdeal.Region0

open Idealize.ShloMosaic Idealize.ShloMosaic.TcCoe Cert.KernelIdeal Cert.KernelIdeal.Gen Cert.Spec Cert.KernelIdeal.Recur
open Cert.KernelIdeal.Cells (proj)
open Cert.KernelIdeal.Block (brow)
open Idealize.ShloMosaic.Pipeline (Dat)

variable (V : (c : Dev nD) → (b : Ref sig .tc) → Buf (Elt Ideal) ((c : Thread nD τ).loc b))

/-- The block of 64 times a point of the grid works on. -/
def bk (t : ℕ) : ℕ := if t < 8 then t else 15 - t

/-- Whether a point belongs to the second direction. -/
def dirB (t : ℕ) : Bool := decide (8 ≤ t)

/-- Where window 0 stands at each grid point. -/
theorem index0 : ∀ t : Fin cfg0.N, win0_0.index t = ![bk t.val, 0] :=
  (by decide +kernel : ∀ t : Fin grid0.N, win0_0.index t = ![bk t.val, 0])
/-- Where window 1 stands at each grid point. -/
theorem index1 : ∀ t : Fin cfg0.N, win0_1.index t = ![0, 0] :=
  (by decide +kernel : ∀ t : Fin grid0.N, win0_1.index t = ![0, 0])
/-- Where window 2 stands at each grid point. -/
theorem index2 : ∀ t : Fin cfg0.N, win0_2.index t = ![0, 0] :=
  (by decide +kernel : ∀ t : Fin grid0.N, win0_2.index t = ![0, 0])
/-- Where window 3 stands at each grid point. -/
theorem index3 : ∀ t : Fin cfg0.N, win0_3.index t = ![0, 0] :=
  (by decide +kernel : ∀ t : Fin grid0.N, win0_3.index t = ![0, 0])
/-- Where window 4 stands at each grid point. -/
theorem index4 : ∀ t : Fin cfg0.N, win0_4.index t = ![0, 0] :=
  (by decide +kernel : ∀ t : Fin grid0.N, win0_4.index t = ![0, 0])
/-- Where window 5 stands at each grid point. -/
theorem index5 : ∀ t : Fin cfg0.N, win0_5.index t = ![t.val / 8, 0, 0] :=
  (by decide +kernel : ∀ t : Fin grid0.N, win0_5.index t = ![t.val / 8, 0, 0])
/-- Where window 6 stands at each grid point. -/
theorem index6 : ∀ t : Fin cfg0.N, win0_6.index t = ![t.val / 8, 0, 0] :=
  (by decide +kernel : ∀ t : Fin grid0.N, win0_6.index t = ![t.val / 8, 0, 0])
/-- Where window 7 stands at each grid point. -/
theorem index7 : ∀ t : Fin cfg0.N, win0_7.index t = ![t.val / 8, 0, 0] :=
  (by decide +kernel : ∀ t : Fin grid0.N, win0_7.index t = ![t.val / 8, 0, 0])
/-- Where window 8 stands at each grid point. -/
theorem index8 : ∀ t : Fin cfg0.N, win0_8.index t = ![t.val / 8, 0, 0] :=
  (by decide +kernel : ∀ t : Fin grid0.N, win0_8.index t = ![t.val / 8, 0, 0])
/-- Where window 9 stands at each grid point. -/
theorem index9 : ∀ t : Fin cfg0.N, win0_9.index t = ![t.val / 8, bk t.val, 0] :=
  (by decide +kernel : ∀ t : Fin grid0.N, win0_9.index t = ![t.val / 8, bk t.val, 0])
/-- A grid point's direction. -/
theorem coord0 : ∀ t : Fin cfg0.N, (grid0.coords t 0).val = t.val / 8 :=
  (by decide +kernel : ∀ t : Fin grid0.N, (grid0.coords t 0).val = t.val / 8)
/-- Window 9 is written back at every grid point. -/
theorem flush9 : ∀ t : Fin cfg0.N, win0_9.flush t = true :=
  (by decide +kernel : ∀ t : Fin grid0.N, win0_9.flush t = true)
/-- Two grid points at which window 9 stands at the same place are equal. -/
theorem idx_inj9 : ∀ t t' : Fin cfg0.N, win0_9.index t = win0_9.index t' → t = t' :=
  (by decide +kernel : ∀ t t' : Fin grid0.N, win0_9.index t = win0_9.index t' → t = t')

/-- The blocks of window 9 at two grid points do not meet. -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- A time block is one of eight. -/
theorem bk_lt (t : Fin 16) : bk t.val < 8 := by unfold bk; split <;> omega

/-- The block of the time-major input. -/
theorem iblk0 (c : Dev nD) (t : Fin cfg0.N) (ht : t.val < 16) (r : Fin 2048) (i : Fin 128) :
    iblk V c 0 t (ix2 r i : S2048x128.Idx)
      = V c main_v1 (ix2 ⟨bk t.val * 2048 + r.val, by have := bk_lt ⟨t.val, ht⟩; simp only at this; omega⟩ i : S16384x128.Idx) := by
  show V c main_v1 (((cfg0.win 0).blk t).view.emb (ix2 r i : S2048x128.Idx)) = _
  congr 1
  funext a
  apply Fin.ext
  refine (win0_0.rect_emb_val t (ix2 r i : S2048x128.Idx) a).trans ?_
  rw [index0]
  fin_cases a
  · rfl
  · show 0 * 128 + i.val = i.val; omega

/-- An entry of block 1 in the array that it is cut from. -/
theorem iblk1 (c : Dev nD) (t : Fin cfg0.N) (r : Fin 128) (i : Fin 256) :
    iblk V c 1 t (ix2 r i : S128x256.Idx) = V c main_arg1 (ix2 r i : S128x256.Idx) := by
  show V c main_arg1 (((cfg0.win 1).blk t).view.emb (ix2 r i : S128x256.Idx)) = _
  congr 1; funext a; apply Fin.ext
  refine (win0_1.rect_emb_val t (ix2 r i : S128x256.Idx) a).trans ?_
  rw [index1]
  fin_cases a
  · show 0 * 128 + r.val = r.val; omega
  · show 0 * 256 + i.val = i.val; omega

/-- An entry of block 2 in the array that it is cut from. -/
theorem iblk2 (c : Dev nD) (t : Fin cfg0.N) (r : Fin 1) (i : Fin 256) :
    iblk V c 2 t (ix2 r i : S1x256.Idx) = V c main_v23 (ix2 r i : S1x256.Idx) := by
  show V c main_v23 (((cfg0.win 2).blk t).view.emb (ix2 r i : S1x256.Idx)) = _
  congr 1; funext a; apply Fin.ext
  refine (win0_2.rect_emb_val t (ix2 r i : S1x256.Idx) a).trans ?_
  rw [index2]
  fin_cases a
  · show 0 * 1 + r.val = r.val; omega
  · show 0 * 256 + i.val = i.val; omega

/-- An entry of block 3 in the array that it is cut from. -/
theorem iblk3 (c : Dev nD) (t : Fin cfg0.N) (r : Fin 256) (i : Fin 512) :
    iblk V c 3 t (ix2 r i : S256x512.Idx) = V c main_arg3 (ix2 r i : S256x512.Idx) := by
  show V c main_arg3 (((cfg0.win 3).blk t).view.emb (ix2 r i : S256x512.Idx)) = _
  congr 1; funext a; apply Fin.ext
  refine (win0_3.rect_emb_val t (ix2 r i : S256x512.Idx) a).trans ?_
  rw [index3]
  fin_cases a
  · show 0 * 256 + r.val = r.val; omega
  · show 0 * 512 + i.val = i.val; omega

/-- An entry of block 4 in the array that it is cut from. -/
theorem iblk4 (c : Dev nD) (t : Fin cfg0.N) (r : Fin 1) (i : Fin 512) :
    iblk V c 4 t (ix2 r i : S1x512.Idx) = V c main_v24 (ix2 r i : S1x512.Idx) := by
  show V c main_v24 (((cfg0.win 4).blk t).view.emb (ix2 r i : S1x512.Idx)) = _
  congr 1; funext a; apply Fin.ext
  refine (win0_4.rect_emb_val t (ix2 r i : S1x512.Idx) a).trans ?_
  rw [index4]
  fin_cases a
  · show 0 * 1 + r.val = r.val; omega
  · show 0 * 512 + i.val = i.val; omega

/-- The direction of a point. -/
def dir (t : Fin cfg0.N) : Fin 2 := ⟨t.val / 8, by have h : t.val < 16 := t.isLt; omega⟩

/-- An entry of block 5 in the array that it is cut from. -/
theorem iblk5 (c : Dev nD) (t : Fin cfg0.N) (r : Fin 512) (i : Fin 1536) :
    iblk V c 5 t (ix3 0 r i : S1x512x1536.Idx) = V c main_v4 (ix3 (dir t) r i : S2x512x1536.Idx) := by
  show V c main_v4 (((cfg0.win 5).blk t).view.emb (ix3 0 r i : S1x512x1536.Idx)) = _
  congr 1; funext a; apply Fin.ext
  refine (win0_5.rect_emb_val t (ix3 0 r i : S1x512x1536.Idx) a).trans ?_
  rw [index5]
  fin_cases a
  · show t.val / 8 * 1 + 0 = t.val / 8; omega
  · show 0 * 512 + r.val = r.val; omega
  · show 0 * 1536 + i.val = i.val; omega

/-- An entry of block 6 in the array that it is cut from. -/
theorem iblk6 (c : Dev nD) (t : Fin cfg0.N) (i : Fin 1536) :
    iblk V c 6 t (ix3 0 0 i : S1x1x1536.Idx) = V c main_v8 (ix3 (dir t) 0 i : S2x1x1536.Idx) := by
  show V c main_v8 (((cfg0.win 6).blk t).view.emb (ix3 0 0 i : S1x1x1536.Idx)) = _
  congr 1; funext a; apply Fin.ext
  refine (win0_6.rect_emb_val t (ix3 0 0 i : S1x1x1536.Idx) a).trans ?_
  rw [index6]
  fin_cases a
  · show t.val / 8 * 1 + 0 = t.val / 8; omega
  · rfl
  · show 0 * 1536 + i.val = i.val; omega

/-- An entry of block 7 in the array that it is cut from. -/
theorem iblk7 (c : Dev nD) (t : Fin cfg0.N) (r : Fin 512) (i : Fin 1536) :
    iblk V c 7 t (ix3 0 r i : S1x512x1536.Idx) = V c main_v11 (ix3 (dir t) r i : S2x512x1536.Idx) := by
  show V c main_v11 (((cfg0.win 7).blk t).view.emb (ix3 0 r i : S1x512x1536.Idx)) = _
  congr 1; funext a; apply Fin.ext
  refine (win0_7.rect_emb_val t (ix3 0 r i : S1x512x1536.Idx) a).trans ?_
  rw [index7]
  fin_cases a
  · show t.val / 8 * 1 + 0 = t.val / 8; omega
  · show 0 * 512 + r.val = r.val; omega
  · show 0 * 1536 + i.val = i.val; omega

/-- An entry of block 8 in the array that it is cut from. -/
theorem iblk8 (c : Dev nD) (t : Fin cfg0.N) (i : Fin 512) :
    iblk V c 8 t (ix3 0 0 i : S1x1x512.Idx) = V c main_v15 (ix3 (dir t) 0 i : S2x1x512.Idx) := by
  show V c main_v15 (((cfg0.win 8).blk t).view.emb (ix3 0 0 i : S1x1x512.Idx)) = _
  congr 1; funext a; apply Fin.ext
  refine (win0_8.rect_emb_val t (ix3 0 0 i : S1x1x512.Idx) a).trans ?_
  rw [index8]
  fin_cases a
  · show t.val / 8 * 1 + 0 = t.val / 8; omega
  · rfl
  · show 0 * 512 + i.val = i.val; omega

/-- What the launch finds in the arrays it reads. -/
structure Found (P : Args) (c : Dev nD) : Prop where
  x : ∀ (t : Fin 512) (b : Fin 32) (i : Fin 128),
    V c main_v1 (ix2 ⟨t.val * 32 + b.val, by omega⟩ i : S16384x128.Idx) = P.a0 (ix3 b t i)
  w₁ : ∀ r i, V c main_arg1 (ix2 r i : S128x256.Idx) = m2 P.a1 r i
  b₁ : ∀ i, V c main_v23 (ix2 0 i : S1x256.Idx) = m1 P.a2 i
  w₂ : ∀ r i, V c main_arg3 (ix2 r i : S256x512.Idx) = m2 P.a3 r i
  b₂ : ∀ i, V c main_v24 (ix2 0 i : S1x512.Idx) = m1 P.a4 i
  wi : ∀ (d : Fin 2) r i, V c main_v4 (ix3 d r i : S2x512x1536.Idx) = wi P (d = 1) r i
  bi : ∀ (d : Fin 2) i, V c main_v8 (ix3 d 0 i : S2x1x1536.Idx) = bi P (d = 1) i
  wh : ∀ (d : Fin 2) r i, V c main_v11 (ix3 d r i : S2x512x1536.Idx) = wh P (d = 1) r i
  bn : ∀ (d : Fin 2) i, V c main_v15 (ix3 d 0 i : S2x1x512.Idx) = Spec.bn P (d = 1) i

variable {V} {P : Args} {c : Dev nD}

/-- The projection a point computes, at the row a step reads. -/
theorem xp_row (H : Found V P c) (t : Fin cfg0.N) (k : Fin 64) (b : Fin 32) :
    (fun i => xp (iblk V c 0 t) (iblk V c 1 t) (iblk V c 2 t) (iblk V c 3 t) (iblk V c 4 t) (iblk V c 5 t) (iblk V c 6 t)
        (ix2 (brow (grid0.coords t 0).val k b) i))
      = gin P (dir t = 1) b (tm (dir t = 1) ⟨t.val % 8 * 64 + k.val, by omega⟩) := by
  have ht : t.val < 16 := t.isLt
  have hx : (fun i => iblk V c 0 t (ix2 (brow (grid0.coords t 0).val k b) i : S2048x128.Idx))
      = fun i => P.a0 (ix3 b (tm (dir t = 1) ⟨t.val % 8 * 64 + k.val, by omega⟩) i) := by
    funext i
    rw [iblk0 V c t ht, ← H.x]
    congr 2
    apply Fin.ext
    show bk t.val * 2048 + (Recur.row (grid0.coords t 0).val k.val * 32 + b.val) = _ * 32 + b.val
    rw [coord0]
    have hk := k.isLt
    by_cases h8 : 8 ≤ t.val
    · have e1 : t.val / 8 = 1 := by omega
      have e2 : dir t = 1 := Fin.ext e1
      simp only [e2, tm, decide_true, if_true, Fin.val_rev, Recur.row, e1, bk]
      rw [if_neg (by omega)]
      omega
    · have e1 : t.val / 8 = 0 := by omega
      have e2 : dir t = 0 := Fin.ext e1
      have e3 : ¬ ((0 : Fin 2) = 1) := by decide
      simp only [e2, tm, Recur.row, e1, bk, e3, decide_false]
      rw [if_pos (by omega), if_neg (by decide)]
      simp only [Bool.false_eq_true, if_false]
      omega
  have h1 : m2 (iblk V c 1 t) = m2 P.a1 := by funext r i; exact (iblk1 V c t r i).trans (H.w₁ r i)
  have h2 : (fun i => iblk V c 2 t (ix2 0 i : S1x256.Idx)) = m1 P.a2 := by
    funext i; exact (iblk2 V c t 0 i).trans (H.b₁ i)
  have h3 : m2 (iblk V c 3 t) = m2 P.a3 := by funext r i; exact (iblk3 V c t r i).trans (H.w₂ r i)
  have h4 : (fun i => iblk V c 4 t (ix2 0 i : S1x512.Idx)) = m1 P.a4 := by
    funext i; exact (iblk4 V c t 0 i).trans (H.b₂ i)
  have h5 : (fun r i => iblk V c 5 t (ix3 0 r i : S1x512x1536.Idx)) = Spec.wi P (dir t = 1) := by
    funext r i; exact (iblk5 V c t r i).trans (H.wi (dir t) r i)
  have h6 : (fun i => iblk V c 6 t (ix3 0 0 i : S1x1x1536.Idx)) = Spec.bi P (dir t = 1) := by
    funext i; exact (iblk6 V c t i).trans (H.bi (dir t) i)
  funext i
  refine (Cells.xp_apply _ _ _ _ _ _ _ _ i).trans ?_
  show dense (mlp (fun i => iblk V c 0 t (ix2 (brow (grid0.coords t 0).val k b) i : S2048x128.Idx)) (m2 (iblk V c 1 t))
    (fun i => iblk V c 2 t (ix2 0 i : S1x256.Idx)) (m2 (iblk V c 3 t)) (fun i => iblk V c 4 t (ix2 0 i : S1x512.Idx)))
    (fun r i => iblk V c 5 t (ix3 0 r i : S1x512x1536.Idx)) (fun i => iblk V c 6 t (ix3 0 0 i : S1x1x1536.Idx)) i = _
  rw [hx, h1, h2, h3, h4, h5, h6]
  rfl

/-- The recurrent weights that a grid point uses. -/
theorem pay5_row (H : Found V P c) (t : Fin cfg0.N) :
    m2 (k0_pay5 (F := Ideal) (View.ld (iblk V c 7 t) rS1x512x1536)) = Spec.wh P (dir t = 1) := by
  funext r i
  refine Eq.trans ?_ ((iblk7 V c t r i).trans (H.wh (dir t) r i))
  generalize (iblk V c 7 t : Vec Ideal S1x512x1536 .f32) = x
  pointwise [k0_pay5, m2]

/-- The candidate's bias that a grid point uses. -/
theorem pay6_row (H : Found V P c) (t : Fin cfg0.N) :
    (fun i => k0_pay6 (F := Ideal) (View.ld (iblk V c 8 t) rS1x1x512) (ix2 0 i)) = Spec.bn P (dir t = 1) := by
  funext i
  refine Eq.trans ?_ ((iblk8 V c t i).trans (H.bn (dir t) i))
  generalize (iblk V c 8 t : Vec Ideal S1x1x512 .f32) = x
  pointwise [k0_pay6]

/-- The state that a direction starts from. -/
theorem pay2_row (b : Fin 32) (u : Fin 512) : k0_pay2 (F := Ideal) (ix2 b u) = 0 := by
  pointwise [k0_pay2]

/-- The state is carried unchanged. -/
theorem pay1_eq (h : Vec Ideal S32x512 .f32) : k0_pay1 (F := Ideal) h = h := by
  funext y; pointwise [k0_pay1]

/-- A point hands on the state after its 64 steps. -/
theorem hOut_eq (i : grid0.Coords) (x0 : Vec Ideal S2048x128 .f32) (x1 : Vec Ideal S128x256 .f32) (x2 : Vec Ideal S1x256 .f32)
    (x3 : Vec Ideal S256x512 .f32) (x4 : Vec Ideal S1x512 .f32) (x5 : Vec Ideal S1x512x1536 .f32)
    (x6 : Vec Ideal S1x1x1536 .f32) (x7 : Vec Ideal S1x512x1536 .f32) (x8 : Vec Ideal S1x1x512 .f32)
    (s : Vec Ideal S32x512 .f32) :
    hOut i x0 x1 x2 x3 x4 x5 x6 x7 x8 s = hAt i x0 x1 x2 x3 x4 x5 x6 x7 x8 s 64 := by
  unfold hOut; rw [trips_eq]; exact (canon13 _).trans (pay1_eq _)

/-- The state a point starts from is the recurrence's at the end of the blocks before. -/
theorem h0_row (H : Found V P c) (t : Fin cfg0.N) (hc : t.val % 8 ≠ 0 →
      ∀ b, (fun u => carried V c t.val (ix2 b u)) = hid P (dir t = 1) b (t.val % 8 * 64)) (b : Fin 32) :
    (fun u => h0 (grid0.coords t) (carried V c t.val) (ix2 b u)) = hid P (dir t = 1) b (t.val % 8 * 64) := by
  by_cases h : t.val % 8 = 0
  · rw [h, Nat.zero_mul]
    funext u
    rw [h0, if_pos ((cond_iff t).mpr h), pay2_row]
    rfl
  · rw [h0, if_neg (fun hh => h ((cond_iff t).mp hh))]
    exact hc h b

/-- The state carried into a grid point that is not a direction's first. -/
theorem carried_row (H : Found V P c) : ∀ n, n < 16 → n % 8 ≠ 0 →
    ∀ b, (fun u => carried V c n (ix2 b u)) = hid P (decide (8 ≤ n)) b (n % 8 * 64) := by
  intro n
  induction n with
  | zero => intro _ h; exact absurd rfl h
  | succ n ih =>
    intro hn h8 b
    have ht : n < 16 := by omega
    let t : Fin cfg0.N := ⟨n, ht⟩
    have hdir : decide (dir t = 1) = decide (8 ≤ n + 1) := by
      apply decide_eq_decide.mpr
      constructor
      · intro h; have := congrArg Fin.val h; change n / 8 = 1 at this; omega
      · intro h; apply Fin.ext; show n / 8 = 1; omega
    have hdir' : decide (dir t = 1) = decide (8 ≤ n) := by
      rw [hdir]; apply decide_eq_decide.mpr; omega
    have e := Block.hst_apply P (dir t = 1) (n % 8 * 64) (by omega) (grid0.coords t)
      _ _ _ _ (pay5_row H t) (pay6_row H t) (xp_row H t)
      (h0_row H t (fun h b => by rw [hdir']; exact ih ht h b)) b 64 (le_refl _)
    have e2 : carried V c (n + 1) = _ := carried_succ V c t
    rw [e2, hOut_eq, hAt]
    refine e.trans ?_
    rw [hdir]
    congr 1
    omega

/-- Where a step's row lies in the array. -/
theorem place (d s q b : ℕ) (hd : d < 2) (hs : s < 512) (hq : q = if d = 1 then 511 - s else s) :
    bk (d * 8 + q / 64) * 2048 + (Recur.row d (q % 64) * 32 + b) = s * 32 + b := by
  rcases Nat.lt_succ_iff_lt_or_eq.mp hd with h | rfl
  · obtain rfl : d = 0 := by omega
    rw [if_neg (by decide)] at hq
    unfold bk Recur.row
    rw [if_pos (by omega), if_neg (by decide)]
    omega
  · rw [if_pos rfl] at hq
    unfold bk Recur.row
    rw [if_neg (by omega), if_pos rfl]
    omega

/-- The states a point leaves. -/
theorem out9_row (H : Found V P c) (t : Fin cfg0.N) (k : Fin 64) (b : Fin 32) (u : Fin 512) :
    out9 (grid0.coords t) (iblk V c 0 t) (iblk V c 1 t) (iblk V c 2 t) (iblk V c 3 t) (iblk V c 4 t) (iblk V c 5 t)
        (iblk V c 6 t) (iblk V c 7 t) (iblk V c 8 t) (carried V c t.val) (ix3 0 (brow (grid0.coords t 0).val k b) u)
      = hid P (dir t = 1) b (t.val % 8 * 64 + k.val + 1) u := by
  have ht : t.val < 16 := t.isLt
  have hdir : decide (dir t = 1) = decide (8 ≤ t.val) := by
    apply decide_eq_decide.mpr
    constructor
    · intro h; have := congrArg Fin.val h; change t.val / 8 = 1 at this; omega
    · intro h; apply Fin.ext; show t.val / 8 = 1; omega
  exact Block.out_apply P (dir t = 1) (t.val % 8 * 64) (by omega) (grid0.coords t)
      _ _ _ _ (pay5_row H t) (pay6_row H t) (xp_row H t)
      (h0_row H t (fun h b => by rw [hdir]; exact carried_row H t.val ht h b)) k b u

end Cert.KernelIdeal.Region0

end
-- ==== Proof.Value.Region0b.lean ====
/- The array the first launch leaves, read off its blocks. -/
module

public import proofs.«01_k».proof.Proof.Value.Region0

@[expose] public section

noncomputable section

namespace Cert.KernelIdeal.Region0

open Idealize.ShloMosaic Idealize.ShloMosaic.TcCoe Cert.KernelIdeal Cert.KernelIdeal.Gen Cert.Spec Cert.KernelIdeal.Recur
open Cert.KernelIdeal.Block (brow)
open Idealize.ShloMosaic.Pipeline (Dat)

variable (V : (c : Dev nD) → (b : Ref sig .tc) → Buf (Elt Ideal) ((c : Thread nD τ).loc b)) (P : Args) (c : Dev nD)

/-- The array after the launch. -/
@[irreducible] def arr9 : S2x16384x512.Idx → EReal := (dat V c).arrAt 9 cfg0.N

/-- The array that window 9 fills, under its own name. -/
theorem arr9_eq : (dat V c).arrAt 9 cfg0.N = arr9 V c := by unfold arr9; rfl

variable {V P c}

/-- Zero times a number, plus another. -/
theorem zero_mul_add (n u : ℕ) : 0 * n + u = u := by omega

/-- The block of the array a point leaves. -/
theorem arr9_emb (t : Fin cfg0.N) (y : S1x2048x512.Idx) :
    arr9 V c (((cfg0.win 9).blk t).view.emb y) = (dat V c).after 9 t y := by
  unfold arr9
  exact (dat V c).arrAt_emb_eq_flushed 9 disjoint9 t (flush9 t) y

/-- The array after the launch, at the row point `t`'s step `k` writes. -/
theorem states_at (H : Found V P c) (t : Fin cfg0.N) (k : Fin 64) (b : Fin 32) (u : Fin 512) (r : Fin 16384)
    (hr : bk t.val * 2048 + (Recur.row (t.val / 8) k.val * 32 + b.val) = r.val) :
    arr9 V c (ix3 (dir t) r u : S2x16384x512.Idx) = hid P (dir t = 1) b (t.val % 8 * 64 + k.val + 1) u := by
  have hemb : ((cfg0.win 9).blk t).view.emb (ix3 0 (brow (grid0.coords t 0).val k b) u : S1x2048x512.Idx)
      = (ix3 (dir t) r u : S2x16384x512.Idx) := by
    funext a; apply Fin.ext
    refine (win0_9.rect_emb_val t (ix3 0 (brow (grid0.coords t 0).val k b) u : S1x2048x512.Idx) a).trans ?_
    rw [index9]
    fin_cases a
    · exact Nat.mul_one _
    · show bk t.val * 2048 + (Recur.row (grid0.coords t 0).val k.val * 32 + b.val) = r.val
      rw [coord0]; exact hr
    · exact zero_mul_add 512 u.val
  rw [← hemb]
  rw [arr9_emb]
  rw [after9]
  exact out9_row H t k b u

/-- A direction's time at a step, as a number. -/
theorem tm_val (d : Fin 2) (s : Fin 512) : (tm (d = 1) s).val = if d.val = 1 then 511 - s.val else s.val := by
  unfold tm
  by_cases h : d = 1
  · subst h; simp only [decide_true, if_true, Fin.val_rev, Fin.val_one]; omega
  · rw [if_neg (by simpa using h), if_neg (fun h' : d.val = 1 => h (Fin.ext h'))]

/-- The grid point and the row inside its block at which a direction takes a step. -/
theorem split_time (d q : ℕ) (hd : d < 2) (hq : q < 512) :
    d * 8 + q / 64 < 16 ∧ (d * 8 + q / 64) / 8 = d ∧ (d * 8 + q / 64) % 8 * 64 + q % 64 + 1 = q + 1 ∧ q % 64 < 64 := by
  omega

/-- The array after the launch. -/
theorem states (H : Found V P c) (d : Fin 2) (s : Fin 512) (b : Fin 32) (u : Fin 512) (r : Fin 16384)
    (hr : s.val * 32 + b.val = r.val) :
    arr9 V c (ix3 d r u : S2x16384x512.Idx) = hat P (d = 1) b s u := by
  obtain ⟨h16, h8, hm, h64⟩ := split_time d.val (tm (d = 1) s).val d.isLt (tm (d = 1) s).isLt
  have hpl := place d.val s.val (tm (d = 1) s).val b.val d.isLt s.isLt (tm_val d s)
  have hdir : dir (⟨d.val * 8 + (tm (d = 1) s).val / 64, h16⟩ : Fin cfg0.N) = d := Fin.ext h8
  have e := states_at H (⟨d.val * 8 + (tm (d = 1) s).val / 64, h16⟩ : Fin cfg0.N) ⟨(tm (d = 1) s).val % 64, h64⟩ b u r
    (((congrArg (fun x => bk (d.val * 8 + (tm (d = 1) s).val / 64) * 2048
      + (Recur.row x ((tm (d = 1) s).val % 64) * 32 + b.val)) h8).trans hpl).trans hr)
  rw [hdir] at e
  exact e.trans (congrFun (congrArg (hid P (d = 1) b) hm) u)

end Cert.KernelIdeal.Region0

end
-- ==== Proof.Value.Region2.lean ====
/- The third launch: the block it reads, where its result goes, and the product it leaves. -/
module

public import proofs.«01_k».proof.Proof.Value.Cells

@[expose] public section

noncomputable section

namespace Cert.KernelIdeal.Region2

open Idealize.ShloMosaic Idealize.ShloMosaic.TcCoe Cert.KernelIdeal Cert.KernelIdeal.Gen Cert.Spec Cert.KernelIdeal.Outer
open Cert.KernelIdeal.Cells (row)
open Idealize.ShloMosaic.Pipeline (Dat)

variable (V : (c : Dev nD) → (b : Ref sig .tc) → Buf (Elt Ideal) ((c : Thread nD τ).loc b))

/-- Zero times a number, plus another. -/
theorem zero_mul_add (n u : ℕ) : 0 * n + u = u := by omega

/-- Where window 0 stands at each grid point. -/
theorem index0 : ∀ t : Fin cfg2.N, win2_0.index t = ![t.val, 0, 0] :=
  (by decide +kernel : ∀ t : Fin grid2.N, win2_0.index t = ![t.val, 0, 0])
/-- Where window 1 stands at each grid point. -/
theorem index1 : ∀ t : Fin cfg2.N, win2_1.index t = ![0, t.val, 0, 0] :=
  (by decide +kernel : ∀ t : Fin grid2.N, win2_1.index t = ![0, t.val, 0, 0])
/-- Window 1 is written back at every grid point. -/
theorem flush1 : ∀ t : Fin cfg2.N, win2_1.flush t = true :=
  (by decide +kernel : ∀ t : Fin grid2.N, win2_1.flush t = true)
/-- Two grid points at which window 1 stands at the same place are equal. -/
theorem idx_inj1 : ∀ t t' : Fin cfg2.N, win2_1.index t = win2_1.index t' → t = t' :=
  (by decide +kernel : ∀ t t' : Fin grid2.N, win2_1.index t = win2_1.index t' → t = t')
/-- The blocks of window 1 at two grid points do not meet. -/
theorem disjoint1 : ∀ t t' : Fin cfg2.N, (cfg2.win 1).flush t = true → (cfg2.win 1).flush t' = true → t ≠ t' →
    Disjoint ((cfg2.win 1).blk t).view.set ((cfg2.win 1).blk t').view.set :=
  fun t t' _ _ hne => (cfg2.win 1).disjoint_blk fun h => hne (idx_inj1 t t' h)

/-- The block of the factors. -/
theorem iblk0 (c : Dev nD) (t : Fin cfg2.N) (r : Fin 512) (i j : Fin 32) (r' : Fin 16384)
    (hr : t.val * 512 + r.val = r'.val) :
    iblk V c 0 t (ix3 r i j : S512x32x32.Idx) = V c main_v44 (ix3 r' i j : S16384x32x32.Idx) := by
  show V c main_v44 (((cfg2.win 0).blk t).view.emb (ix3 r i j : S512x32x32.Idx)) = _
  congr 1; funext a; apply Fin.ext
  refine (win2_0.rect_emb_val t (ix3 r i j : S512x32x32.Idx) a).trans ?_
  rw [index0]
  fin_cases a
  · exact hr
  · exact zero_mul_add 32 i.val
  · exact zero_mul_add 32 j.val

/-- The result's array after the launch. -/
@[irreducible] def arr1 (c : Dev nD) : S32x512x32x32.Idx → EReal := (dat V c).arrAt 1 cfg2.N

/-- The array that window 1 fills, under its own name. -/
theorem arr1_eq (c : Dev nD) : (dat V c).arrAt 1 cfg2.N = arr1 V c := by unfold arr1; rfl

/-- The array that window 1 fills holds, inside a grid point's block, what that grid point left. -/
theorem arr1_emb (c : Dev nD) (t : Fin cfg2.N) (y : S32x16x32x32.Idx) :
    arr1 V c (((cfg2.win 1).blk t).view.emb y) = (dat V c).after 1 t y := by
  unfold arr1
  exact (dat V c).arrAt_emb_eq_flushed 1 disjoint1 t (flush1 t) y

/-- The same with the entry given by its coordinates in the array. -/
theorem arr1_at (c : Dev nD) (t : Fin cfg2.N) (b : Fin 32) (s : Fin 16) (i j : Fin 32) (s' : Fin 512)
    (hs : t.val * 16 + s.val = s'.val) :
    arr1 V c (ix4 b s' i j : S32x512x32x32.Idx) = (dat V c).after 1 t (ix4 b s i j : S32x16x32x32.Idx) := by
  rw [← arr1_emb]
  congr 1; funext a; apply Fin.ext
  refine Eq.symm ((win2_1.rect_emb_val t (ix4 b s i j : S32x16x32x32.Idx) a).trans ?_)
  rw [index1]
  fin_cases a
  · exact zero_mul_add 32 b.val
  · exact hs
  · exact zero_mul_add 32 i.val
  · exact zero_mul_add 32 j.val

/-- What the launch finds: the factor of every sequence at every time. -/
def Found (P : Args) (c : Dev nD) : Prop :=
  ∀ (t : Fin 512) (b : Fin 32) (i j : Fin 32) (r : Fin 16384), t.val * 32 + b.val = r.val →
    V c main_v44 (ix3 r i j : S16384x32x32.Idx) = low P b t i j

/-- A time is a block's number and a place in the block. -/
theorem split_time (s : ℕ) (hs : s < 512) : s / 16 < 32 ∧ s % 16 < 16 ∧ s / 16 * 16 + s % 16 = s := by omega
/-- A block's row as a time and a sequence. -/
theorem row_time (t s b : ℕ) : t * 512 + (s * 32 + b) = (t * 16 + s) * 32 + b := by omega
/-- A time and a sequence give a row of the array. -/
theorem row_lt (s b : ℕ) (hs : s < 512) (hb : b < 32) : s * 32 + b < 16384 := by omega

/-- The entries of a block it reads. -/
theorem entry (P : Args) (c : Dev nD) (H : Found V P c) (t : Fin cfg2.N) (r : Fin 512) (i j : Fin 32) (s : Fin 512)
    (b : Fin 32) (hr : t.val * 512 + r.val = s.val * 32 + b.val) :
    iblk V c 0 t (ix3 r i j : S512x32x32.Idx) = low P b s i j := by
  have h := H s b i j ⟨s.val * 32 + b.val, row_lt _ _ s.isLt b.isLt⟩ (Eq.refl _)
  exact (iblk0 V c t r i j ⟨s.val * 32 + b.val, row_lt _ _ s.isLt b.isLt⟩ hr).trans h

/-- The product the launch leaves. -/
theorem product (P : Args) (c : Dev nD) (H : Found V P c) (b : Fin 32) (s : Fin 512) (i j : Fin 32) :
    arr1 V c (ix4 b s i j : S32x512x32x32.Idx) = outQ P b s i j := by
  obtain ⟨h32, h16, hsp⟩ := split_time s.val s.isLt
  refine (arr1_at V c (⟨s.val / 16, h32⟩ : Fin cfg2.N) b ⟨s.val % 16, h16⟩ i j s hsp).trans ?_
  rw [after1]
  refine (Cells.out1_apply _ b ⟨s.val % 16, h16⟩ i j).trans ?_
  have e : ∀ i k : Fin 32, iblk V c 0 (⟨s.val / 16, h32⟩ : Fin cfg2.N) (ix3 (row ⟨s.val % 16, h16⟩ b) i k : S512x32x32.Idx)
      = low P b s i k :=
    fun i k => entry V P c H _ _ i k s b ((row_time _ _ _).trans (congrArg (fun x => x * 32 + b.val) hsp))
  exact Finset.sum_congr rfl fun k _ => congrArg₂ (· * ·) (e i k) (e j k)

end Cert.KernelIdeal.Region2

end
-- ==== Proof.Value.Region1.lean ====
/- The blocks the second launch reads and where its results go. -/
module

public import proofs.«01_k».proof.Proof.Value.Cells

@[expose] public section

noncomputable section

namespace Cert.KernelIdeal.Region1

open Idealize.ShloMosaic Idealize.ShloMosaic.TcCoe Cert.KernelIdeal Cert.KernelIdeal.Gen Cert.Spec Cert.KernelIdeal.Heads
open Cert.KernelIdeal.Cells (row)
open Idealize.ShloMosaic.Pipeline (Dat)

variable (V : (c : Dev nD) → (b : Ref sig .tc) → Buf (Elt Ideal) ((c : Thread nD τ).loc b))

/-- Zero times a number, plus another. -/
theorem zero_mul_add (n u : ℕ) : 0 * n + u = u := by omega

/-- Where window 0 stands at each grid point. -/
theorem index0 : ∀ t : Fin cfg1.N, win1_0.index t = ![0, t.val, 0] :=
  (by decide +kernel : ∀ t : Fin grid1.N, win1_0.index t = ![0, t.val, 0])
/-- Where window 1 stands at each grid point. -/
theorem index1 : ∀ t : Fin cfg1.N, win1_1.index t = ![0, 0] :=
  (by decide +kernel : ∀ t : Fin grid1.N, win1_1.index t = ![0, 0])
/-- Where window 2 stands at each grid point. -/
theorem index2 : ∀ t : Fin cfg1.N, win1_2.index t = ![0, 0] :=
  (by decide +kernel : ∀ t : Fin grid1.N, win1_2.index t = ![0, 0])
/-- Where window 3 stands at each grid point. -/
theorem index3 : ∀ t : Fin cfg1.N, win1_3.index t = ![0, 0] :=
  (by decide +kernel : ∀ t : Fin grid1.N, win1_3.index t = ![0, 0])
/-- Where window 4 stands at each grid point. -/
theorem index4 : ∀ t : Fin cfg1.N, win1_4.index t = ![0, 0] :=
  (by decide +kernel : ∀ t : Fin grid1.N, win1_4.index t = ![0, 0])
/-- Where window 5 stands at each grid point. -/
theorem index5 : ∀ t : Fin cfg1.N, win1_5.index t = ![0, 0] :=
  (by decide +kernel : ∀ t : Fin grid1.N, win1_5.index t = ![0, 0])
/-- Where window 6 stands at each grid point. -/
theorem index6 : ∀ t : Fin cfg1.N, win1_6.index t = ![0, 0] :=
  (by decide +kernel : ∀ t : Fin grid1.N, win1_6.index t = ![0, 0])
/-- Where window 7 stands at each grid point. -/
theorem index7 : ∀ t : Fin cfg1.N, win1_7.index t = ![0, 0] :=
  (by decide +kernel : ∀ t : Fin grid1.N, win1_7.index t = ![0, 0])
/-- Where window 8 stands at each grid point. -/
theorem index8 : ∀ t : Fin cfg1.N, win1_8.index t = ![0, 0] :=
  (by decide +kernel : ∀ t : Fin grid1.N, win1_8.index t = ![0, 0])
/-- Where window 9 stands at each grid point. -/
theorem index9 : ∀ t : Fin cfg1.N, win1_9.index t = ![0, 0] :=
  (by decide +kernel : ∀ t : Fin grid1.N, win1_9.index t = ![0, 0])
/-- Where window 10 stands at each grid point. -/
theorem index10 : ∀ t : Fin cfg1.N, win1_10.index t = ![0, 0] :=
  (by decide +kernel : ∀ t : Fin grid1.N, win1_10.index t = ![0, 0])
/-- Where window 11 stands at each grid point. -/
theorem index11 : ∀ t : Fin cfg1.N, win1_11.index t = ![0, 0] :=
  (by decide +kernel : ∀ t : Fin grid1.N, win1_11.index t = ![0, 0])
/-- Where window 12 stands at each grid point. -/
theorem index12 : ∀ t : Fin cfg1.N, win1_12.index t = ![0, 0] :=
  (by decide +kernel : ∀ t : Fin grid1.N, win1_12.index t = ![0, 0])
/-- Where window 13 stands at each grid point. -/
theorem index13 : ∀ t : Fin cfg1.N, win1_13.index t = ![0, 0] :=
  (by decide +kernel : ∀ t : Fin grid1.N, win1_13.index t = ![0, 0])
/-- Where window 14 stands at each grid point. -/
theorem index14 : ∀ t : Fin cfg1.N, win1_14.index t = ![0, 0] :=
  (by decide +kernel : ∀ t : Fin grid1.N, win1_14.index t = ![0, 0])
/-- Where window 15 stands at each grid point. -/
theorem index15 : ∀ t : Fin cfg1.N, win1_15.index t = ![0, 0] :=
  (by decide +kernel : ∀ t : Fin grid1.N, win1_15.index t = ![0, 0])
/-- Where window 16 stands at each grid point. -/
theorem index16 : ∀ t : Fin cfg1.N, win1_16.index t = ![0, 0] :=
  (by decide +kernel : ∀ t : Fin grid1.N, win1_16.index t = ![0, 0])
/-- Where window 17 stands at each grid point. -/
theorem index17 : ∀ t : Fin cfg1.N, win1_17.index t = ![0, 0] :=
  (by decide +kernel : ∀ t : Fin grid1.N, win1_17.index t = ![0, 0])
/-- Where window 18 stands at each grid point. -/
theorem index18 : ∀ t : Fin cfg1.N, win1_18.index t = ![0, 0] :=
  (by decide +kernel : ∀ t : Fin grid1.N, win1_18.index t = ![0, 0])
/-- Where window 19 stands at each grid point. -/
theorem index19 : ∀ t : Fin cfg1.N, win1_19.index t = ![0, 0] :=
  (by decide +kernel : ∀ t : Fin grid1.N, win1_19.index t = ![0, 0])
/-- Where window 20 stands at each grid point. -/
theorem index20 : ∀ t : Fin cfg1.N, win1_20.index t = ![0, t.val, 0] :=
  (by decide +kernel : ∀ t : Fin grid1.N, win1_20.index t = ![0, t.val, 0])
/-- Window 20 is written back at every grid point. -/
theorem flush20 : ∀ t : Fin cfg1.N, win1_20.flush t = true :=
  (by decide +kernel : ∀ t : Fin grid1.N, win1_20.flush t = true)
/-- Two grid points at which window 20 stands at the same place are equal. -/
theorem idx_inj20 : ∀ t t' : Fin cfg1.N, win1_20.index t = win1_20.index t' → t = t' :=
  (by decide +kernel : ∀ t t' : Fin grid1.N, win1_20.index t = win1_20.index t' → t = t')
/-- The blocks of window 20 at two grid points do not meet. -/
theorem disjoint20 : ∀ t t' : Fin cfg1.N, (cfg1.win 20).flush t = true → (cfg1.win 20).flush t' = true → t ≠ t' →
    Disjoint ((cfg1.win 20).blk t).view.set ((cfg1.win 20).blk t').view.set :=
  fun t t' _ _ hne => (cfg1.win 20).disjoint_blk fun h => hne (idx_inj20 t t' h)
/-- Where window 21 stands at each grid point. -/
theorem index21 : ∀ t : Fin cfg1.N, win1_21.index t = ![0, t.val, 0] :=
  (by decide +kernel : ∀ t : Fin grid1.N, win1_21.index t = ![0, t.val, 0])
/-- Window 21 is written back at every grid point. -/
theorem flush21 : ∀ t : Fin cfg1.N, win1_21.flush t = true :=
  (by decide +kernel : ∀ t : Fin grid1.N, win1_21.flush t = true)
/-- Two grid points at which window 21 stands at the same place are equal. -/
theorem idx_inj21 : ∀ t t' : Fin cfg1.N, win1_21.index t = win1_21.index t' → t = t' :=
  (by decide +kernel : ∀ t t' : Fin grid1.N, win1_21.index t = win1_21.index t' → t = t')
/-- The blocks of window 21 at two grid points do not meet. -/
theorem disjoint21 : ∀ t t' : Fin cfg1.N, (cfg1.win 21).flush t = true → (cfg1.win 21).flush t' = true → t ≠ t' →
    Disjoint ((cfg1.win 21).blk t).view.set ((cfg1.win 21).blk t').view.set :=
  fun t t' _ _ hne => (cfg1.win 21).disjoint_blk fun h => hne (idx_inj21 t t' h)
/-- Where window 22 stands at each grid point. -/
theorem index22 : ∀ t : Fin cfg1.N, win1_22.index t = ![t.val, 0] :=
  (by decide +kernel : ∀ t : Fin grid1.N, win1_22.index t = ![t.val, 0])
/-- Window 22 is written back at every grid point. -/
theorem flush22 : ∀ t : Fin cfg1.N, win1_22.flush t = true :=
  (by decide +kernel : ∀ t : Fin grid1.N, win1_22.flush t = true)
/-- Two grid points at which window 22 stands at the same place are equal. -/
theorem idx_inj22 : ∀ t t' : Fin cfg1.N, win1_22.index t = win1_22.index t' → t = t' :=
  (by decide +kernel : ∀ t t' : Fin grid1.N, win1_22.index t = win1_22.index t' → t = t')
/-- The blocks of window 22 at two grid points do not meet. -/
theorem disjoint22 : ∀ t t' : Fin cfg1.N, (cfg1.win 22).flush t = true → (cfg1.win 22).flush t' = true → t ≠ t' →
    Disjoint ((cfg1.win 22).blk t).view.set ((cfg1.win 22).blk t').view.set :=
  fun t t' _ _ hne => (cfg1.win 22).disjoint_blk fun h => hne (idx_inj22 t t' h)

/-- The block of the hidden states. -/
theorem iblk0 (c : Dev nD) (t : Fin cfg1.N) (d : Fin 2) (r : Fin 512) (u : Fin 512) (r' : Fin 16384)
    (hr : t.val * 512 + r.val = r'.val) :
    iblk V c 0 t (ix3 d r u : S2x512x512.Idx) = V c main_v25 (ix3 d r' u : S2x16384x512.Idx) := by
  show V c main_v25 (((cfg1.win 0).blk t).view.emb (ix3 d r u : S2x512x512.Idx)) = _
  congr 1; funext a; apply Fin.ext
  refine (win1_0.rect_emb_val t (ix3 d r u : S2x512x512.Idx) a).trans ?_
  rw [index0]
  fin_cases a
  · exact zero_mul_add 2 d.val
  · exact hr
  · exact zero_mul_add 512 u.val

/-- An entry of block 1 in the array that it is cut from. -/
theorem iblk1 (c : Dev nD) (t : Fin cfg1.N) (r : Fin 512) (i : Fin 256) :
    iblk V c 1 t (ix2 r i : S512x256.Idx) = V c main_v26 (ix2 r i : S512x256.Idx) := by
  show V c main_v26 (((cfg1.win 1).blk t).view.emb (ix2 r i : S512x256.Idx)) = _
  congr 1; funext a; apply Fin.ext
  refine (win1_1.rect_emb_val t (ix2 r i : S512x256.Idx) a).trans ?_
  rw [index1]
  fin_cases a
  · exact zero_mul_add 512 r.val
  · exact zero_mul_add 256 i.val

/-- An entry of block 2 in the array that it is cut from. -/
theorem iblk2 (c : Dev nD) (t : Fin cfg1.N) (r : Fin 512) (i : Fin 256) :
    iblk V c 2 t (ix2 r i : S512x256.Idx) = V c main_v27 (ix2 r i : S512x256.Idx) := by
  show V c main_v27 (((cfg1.win 2).blk t).view.emb (ix2 r i : S512x256.Idx)) = _
  congr 1; funext a; apply Fin.ext
  refine (win1_2.rect_emb_val t (ix2 r i : S512x256.Idx) a).trans ?_
  rw [index2]
  fin_cases a
  · exact zero_mul_add 512 r.val
  · exact zero_mul_add 256 i.val

/-- An entry of block 3 in the array that it is cut from. -/
theorem iblk3 (c : Dev nD) (t : Fin cfg1.N) (r : Fin 1) (i : Fin 256) :
    iblk V c 3 t (ix2 r i : S1x256.Idx) = V c main_v28 (ix2 r i : S1x256.Idx) := by
  show V c main_v28 (((cfg1.win 3).blk t).view.emb (ix2 r i : S1x256.Idx)) = _
  congr 1; funext a; apply Fin.ext
  refine (win1_3.rect_emb_val t (ix2 r i : S1x256.Idx) a).trans ?_
  rw [index3]
  fin_cases a
  · exact zero_mul_add 1 r.val
  · exact zero_mul_add 256 i.val

/-- An entry of block 4 in the array that it is cut from. -/
theorem iblk4 (c : Dev nD) (t : Fin cfg1.N) (r : Fin 256) (i : Fin 32) :
    iblk V c 4 t (ix2 r i : S256x32.Idx) = V c main_arg15 (ix2 r i : S256x32.Idx) := by
  show V c main_arg15 (((cfg1.win 4).blk t).view.emb (ix2 r i : S256x32.Idx)) = _
  congr 1; funext a; apply Fin.ext
  refine (win1_4.rect_emb_val t (ix2 r i : S256x32.Idx) a).trans ?_
  rw [index4]
  fin_cases a
  · exact zero_mul_add 256 r.val
  · exact zero_mul_add 32 i.val

/-- An entry of block 5 in the array that it is cut from. -/
theorem iblk5 (c : Dev nD) (t : Fin cfg1.N) (r : Fin 1) (i : Fin 32) :
    iblk V c 5 t (ix2 r i : S1x32.Idx) = V c main_v29 (ix2 r i : S1x32.Idx) := by
  show V c main_v29 (((cfg1.win 5).blk t).view.emb (ix2 r i : S1x32.Idx)) = _
  congr 1; funext a; apply Fin.ext
  refine (win1_5.rect_emb_val t (ix2 r i : S1x32.Idx) a).trans ?_
  rw [index5]
  fin_cases a
  · exact zero_mul_add 1 r.val
  · exact zero_mul_add 32 i.val

/-- An entry of block 6 in the array that it is cut from. -/
theorem iblk6 (c : Dev nD) (t : Fin cfg1.N) (r : Fin 512) (i : Fin 256) :
    iblk V c 6 t (ix2 r i : S512x256.Idx) = V c main_v30 (ix2 r i : S512x256.Idx) := by
  show V c main_v30 (((cfg1.win 6).blk t).view.emb (ix2 r i : S512x256.Idx)) = _
  congr 1; funext a; apply Fin.ext
  refine (win1_6.rect_emb_val t (ix2 r i : S512x256.Idx) a).trans ?_
  rw [index6]
  fin_cases a
  · exact zero_mul_add 512 r.val
  · exact zero_mul_add 256 i.val

/-- An entry of block 7 in the array that it is cut from. -/
theorem iblk7 (c : Dev nD) (t : Fin cfg1.N) (r : Fin 512) (i : Fin 256) :
    iblk V c 7 t (ix2 r i : S512x256.Idx) = V c main_v31 (ix2 r i : S512x256.Idx) := by
  show V c main_v31 (((cfg1.win 7).blk t).view.emb (ix2 r i : S512x256.Idx)) = _
  congr 1; funext a; apply Fin.ext
  refine (win1_7.rect_emb_val t (ix2 r i : S512x256.Idx) a).trans ?_
  rw [index7]
  fin_cases a
  · exact zero_mul_add 512 r.val
  · exact zero_mul_add 256 i.val

/-- An entry of block 8 in the array that it is cut from. -/
theorem iblk8 (c : Dev nD) (t : Fin cfg1.N) (r : Fin 1) (i : Fin 256) :
    iblk V c 8 t (ix2 r i : S1x256.Idx) = V c main_v32 (ix2 r i : S1x256.Idx) := by
  show V c main_v32 (((cfg1.win 8).blk t).view.emb (ix2 r i : S1x256.Idx)) = _
  congr 1; funext a; apply Fin.ext
  refine (win1_8.rect_emb_val t (ix2 r i : S1x256.Idx) a).trans ?_
  rw [index8]
  fin_cases a
  · exact zero_mul_add 1 r.val
  · exact zero_mul_add 256 i.val

/-- An entry of block 9 in the array that it is cut from. -/
theorem iblk9 (c : Dev nD) (t : Fin cfg1.N) (r : Fin 256) (i : Fin 32) :
    iblk V c 9 t (ix2 r i : S256x32.Idx) = V c main_v33 (ix2 r i : S256x32.Idx) := by
  show V c main_v33 (((cfg1.win 9).blk t).view.emb (ix2 r i : S256x32.Idx)) = _
  congr 1; funext a; apply Fin.ext
  refine (win1_9.rect_emb_val t (ix2 r i : S256x32.Idx) a).trans ?_
  rw [index9]
  fin_cases a
  · exact zero_mul_add 256 r.val
  · exact zero_mul_add 32 i.val

/-- An entry of block 10 in the array that it is cut from. -/
theorem iblk10 (c : Dev nD) (t : Fin cfg1.N) (r : Fin 1) (i : Fin 32) :
    iblk V c 10 t (ix2 r i : S1x32.Idx) = V c main_v35 (ix2 r i : S1x32.Idx) := by
  show V c main_v35 (((cfg1.win 10).blk t).view.emb (ix2 r i : S1x32.Idx)) = _
  congr 1; funext a; apply Fin.ext
  refine (win1_10.rect_emb_val t (ix2 r i : S1x32.Idx) a).trans ?_
  rw [index10]
  fin_cases a
  · exact zero_mul_add 1 r.val
  · exact zero_mul_add 32 i.val

/-- An entry of block 11 in the array that it is cut from. -/
theorem iblk11 (c : Dev nD) (t : Fin cfg1.N) (r : Fin 256) (i : Fin 496) :
    iblk V c 11 t (ix2 r i : S256x496.Idx) = V c main_v36 (ix2 r i : S256x496.Idx) := by
  show V c main_v36 (((cfg1.win 11).blk t).view.emb (ix2 r i : S256x496.Idx)) = _
  congr 1; funext a; apply Fin.ext
  refine (win1_11.rect_emb_val t (ix2 r i : S256x496.Idx) a).trans ?_
  rw [index11]
  fin_cases a
  · exact zero_mul_add 256 r.val
  · exact zero_mul_add 496 i.val

/-- An entry of block 12 in the array that it is cut from. -/
theorem iblk12 (c : Dev nD) (t : Fin cfg1.N) (r : Fin 1) (i : Fin 496) :
    iblk V c 12 t (ix2 r i : S1x496.Idx) = V c main_v38 (ix2 r i : S1x496.Idx) := by
  show V c main_v38 (((cfg1.win 12).blk t).view.emb (ix2 r i : S1x496.Idx)) = _
  congr 1; funext a; apply Fin.ext
  refine (win1_12.rect_emb_val t (ix2 r i : S1x496.Idx) a).trans ?_
  rw [index12]
  fin_cases a
  · exact zero_mul_add 1 r.val
  · exact zero_mul_add 496 i.val

/-- An entry of block 13 in the array that it is cut from. -/
theorem iblk13 (c : Dev nD) (t : Fin cfg1.N) (r : Fin 512) (i : Fin 256) :
    iblk V c 13 t (ix2 r i : S512x256.Idx) = V c main_v39 (ix2 r i : S512x256.Idx) := by
  show V c main_v39 (((cfg1.win 13).blk t).view.emb (ix2 r i : S512x256.Idx)) = _
  congr 1; funext a; apply Fin.ext
  refine (win1_13.rect_emb_val t (ix2 r i : S512x256.Idx) a).trans ?_
  rw [index13]
  fin_cases a
  · exact zero_mul_add 512 r.val
  · exact zero_mul_add 256 i.val

/-- An entry of block 14 in the array that it is cut from. -/
theorem iblk14 (c : Dev nD) (t : Fin cfg1.N) (r : Fin 512) (i : Fin 256) :
    iblk V c 14 t (ix2 r i : S512x256.Idx) = V c main_v40 (ix2 r i : S512x256.Idx) := by
  show V c main_v40 (((cfg1.win 14).blk t).view.emb (ix2 r i : S512x256.Idx)) = _
  congr 1; funext a; apply Fin.ext
  refine (win1_14.rect_emb_val t (ix2 r i : S512x256.Idx) a).trans ?_
  rw [index14]
  fin_cases a
  · exact zero_mul_add 512 r.val
  · exact zero_mul_add 256 i.val

/-- An entry of block 15 in the array that it is cut from. -/
theorem iblk15 (c : Dev nD) (t : Fin cfg1.N) (r : Fin 1) (i : Fin 256) :
    iblk V c 15 t (ix2 r i : S1x256.Idx) = V c main_v41 (ix2 r i : S1x256.Idx) := by
  show V c main_v41 (((cfg1.win 15).blk t).view.emb (ix2 r i : S1x256.Idx)) = _
  congr 1; funext a; apply Fin.ext
  refine (win1_15.rect_emb_val t (ix2 r i : S1x256.Idx) a).trans ?_
  rw [index15]
  fin_cases a
  · exact zero_mul_add 1 r.val
  · exact zero_mul_add 256 i.val

/-- An entry of block 16 in the array that it is cut from. -/
theorem iblk16 (c : Dev nD) (t : Fin cfg1.N) (r : Fin 256) (i : Fin 1024) :
    iblk V c 16 t (ix2 r i : S256x1024.Idx) = V c main_arg23 (ix2 r i : S256x1024.Idx) := by
  show V c main_arg23 (((cfg1.win 16).blk t).view.emb (ix2 r i : S256x1024.Idx)) = _
  congr 1; funext a; apply Fin.ext
  refine (win1_16.rect_emb_val t (ix2 r i : S256x1024.Idx) a).trans ?_
  rw [index16]
  fin_cases a
  · exact zero_mul_add 256 r.val
  · exact zero_mul_add 1024 i.val

/-- An entry of block 17 in the array that it is cut from. -/
theorem iblk17 (c : Dev nD) (t : Fin cfg1.N) (r : Fin 1) (i : Fin 1024) :
    iblk V c 17 t (ix2 r i : S1x1024.Idx) = V c main_v42 (ix2 r i : S1x1024.Idx) := by
  show V c main_v42 (((cfg1.win 17).blk t).view.emb (ix2 r i : S1x1024.Idx)) = _
  congr 1; funext a; apply Fin.ext
  refine (win1_17.rect_emb_val t (ix2 r i : S1x1024.Idx) a).trans ?_
  rw [index17]
  fin_cases a
  · exact zero_mul_add 1 r.val
  · exact zero_mul_add 1024 i.val

/-- An entry of block 18 in the array that it is cut from. -/
theorem iblk18 (c : Dev nD) (t : Fin cfg1.N) (r : Fin 32) (i : Fin 1024) :
    iblk V c 18 t (ix2 r i : S32x1024.Idx) = V c main_cst (ix2 r i : S32x1024.Idx) := by
  show V c main_cst (((cfg1.win 18).blk t).view.emb (ix2 r i : S32x1024.Idx)) = _
  congr 1; funext a; apply Fin.ext
  refine (win1_18.rect_emb_val t (ix2 r i : S32x1024.Idx) a).trans ?_
  rw [index18]
  fin_cases a
  · exact zero_mul_add 32 r.val
  · exact zero_mul_add 1024 i.val

/-- An entry of block 19 in the array that it is cut from. -/
theorem iblk19 (c : Dev nD) (t : Fin cfg1.N) (r : Fin 496) (i : Fin 1024) :
    iblk V c 19 t (ix2 r i : S496x1024.Idx) = V c main_v22 (ix2 r i : S496x1024.Idx) := by
  show V c main_v22 (((cfg1.win 19).blk t).view.emb (ix2 r i : S496x1024.Idx)) = _
  congr 1; funext a; apply Fin.ext
  refine (win1_19.rect_emb_val t (ix2 r i : S496x1024.Idx) a).trans ?_
  rw [index19]
  fin_cases a
  · exact zero_mul_add 496 r.val
  · exact zero_mul_add 1024 i.val

/-- The first result's array after the launch. -/
@[irreducible] def arr20 (c : Dev nD) : S32x512x32.Idx → EReal := (dat V c).arrAt 20 cfg1.N

/-- The array that window 20 fills, under its own name. -/
theorem arr20_eq (c : Dev nD) : (dat V c).arrAt 20 cfg1.N = arr20 V c := by unfold arr20; rfl

/-- The array that window 20 fills holds, inside a grid point's block, what that grid point left. -/
theorem arr20_emb (c : Dev nD) (t : Fin cfg1.N) (y : S32x16x32.Idx) :
    arr20 V c (((cfg1.win 20).blk t).view.emb y) = (dat V c).after 20 t y := by
  unfold arr20
  exact (dat V c).arrAt_emb_eq_flushed 20 disjoint20 t (flush20 t) y

/-- The second result's array after the launch. -/
@[irreducible] def arr21 (c : Dev nD) : S32x512x1024.Idx → EReal := (dat V c).arrAt 21 cfg1.N

/-- The array that window 21 fills, under its own name. -/
theorem arr21_eq (c : Dev nD) : (dat V c).arrAt 21 cfg1.N = arr21 V c := by unfold arr21; rfl

/-- The array that window 21 fills holds, inside a grid point's block, what that grid point left. -/
theorem arr21_emb (c : Dev nD) (t : Fin cfg1.N) (y : S32x16x1024.Idx) :
    arr21 V c (((cfg1.win 21).blk t).view.emb y) = (dat V c).after 21 t y := by
  unfold arr21
  exact (dat V c).arrAt_emb_eq_flushed 21 disjoint21 t (flush21 t) y

/-- The third result's array after the launch. -/
@[irreducible] def arr22 (c : Dev nD) : S16384x1024.Idx → EReal := (dat V c).arrAt 22 cfg1.N

/-- The array that window 22 fills, under its own name. -/
theorem arr22_eq (c : Dev nD) : (dat V c).arrAt 22 cfg1.N = arr22 V c := by unfold arr22; rfl

/-- The array that window 22 fills holds, inside a grid point's block, what that grid point left. -/
theorem arr22_emb (c : Dev nD) (t : Fin cfg1.N) (y : S512x1024.Idx) :
    arr22 V c (((cfg1.win 22).blk t).view.emb y) = (dat V c).after 22 t y := by
  unfold arr22
  exact (dat V c).arrAt_emb_eq_flushed 22 disjoint22 t (flush22 t) y

/-- The same with the entry given by its coordinates in the array. -/
theorem arr20_at (c : Dev nD) (t : Fin cfg1.N) (b : Fin 32) (s : Fin 16) (i : Fin 32) (s' : Fin 512)
    (hs : t.val * 16 + s.val = s'.val) :
    arr20 V c (ix3 b s' i : S32x512x32.Idx) = (dat V c).after 20 t (ix3 b s i : S32x16x32.Idx) := by
  rw [← arr20_emb]
  congr 1; funext a; apply Fin.ext
  refine Eq.symm ((win1_20.rect_emb_val t (ix3 b s i : S32x16x32.Idx) a).trans ?_)
  rw [index20]
  fin_cases a
  · exact zero_mul_add 32 b.val
  · exact hs
  · exact zero_mul_add 32 i.val

/-- The same with the entry given by its coordinates in the array. -/
theorem arr21_at (c : Dev nD) (t : Fin cfg1.N) (b : Fin 32) (s : Fin 16) (i : Fin 1024) (s' : Fin 512)
    (hs : t.val * 16 + s.val = s'.val) :
    arr21 V c (ix3 b s' i : S32x512x1024.Idx) = (dat V c).after 21 t (ix3 b s i : S32x16x1024.Idx) := by
  rw [← arr21_emb]
  congr 1; funext a; apply Fin.ext
  refine Eq.symm ((win1_21.rect_emb_val t (ix3 b s i : S32x16x1024.Idx) a).trans ?_)
  rw [index21]
  fin_cases a
  · exact zero_mul_add 32 b.val
  · exact hs
  · exact zero_mul_add 1024 i.val

/-- The same with the entry given by its coordinates in the array. -/
theorem arr22_at (c : Dev nD) (t : Fin cfg1.N) (r : Fin 512) (i : Fin 1024) (r' : Fin 16384)
    (hr : t.val * 512 + r.val = r'.val) :
    arr22 V c (ix2 r' i : S16384x1024.Idx) = (dat V c).after 22 t (ix2 r i : S512x1024.Idx) := by
  rw [← arr22_emb]
  congr 1; funext a; apply Fin.ext
  refine Eq.symm ((win1_22.rect_emb_val t (ix2 r i : S512x1024.Idx) a).trans ?_)
  rw [index22]
  fin_cases a
  · exact hr
  · exact zero_mul_add 1024 i.val

end Cert.KernelIdeal.Region1

end
-- ==== Proof.Value.Region1b.lean ====
/- What the second launch leaves: the first two heads, and the triangular factor the third head makes. -/
module

public import proofs.«01_k».proof.Proof.Value.Region1

@[expose] public section

noncomputable section

namespace Cert.KernelIdeal.Region1

open Idealize.ShloMosaic Idealize.ShloMosaic.TcCoe Cert.KernelIdeal Cert.KernelIdeal.Gen Cert.Spec Cert.KernelIdeal.Heads
open Cert.KernelIdeal.Cells (row)

variable (V : (c : Dev nD) → (b : Ref sig .tc) → Buf (Elt Ideal) ((c : Thread nD τ).loc b))

/-- The place of an entry of a 32 by 32 matrix in a row. -/
def col (r c : Fin 32) : Fin 1024 := ⟨r.val * 32 + c.val, by omega⟩
/-- An entry of the first half of 1024, -/
def lo (k : Fin 512) : Fin 1024 := ⟨k.val, by omega⟩
/-- and of the second. -/
def hi (k : Fin 512) : Fin 1024 := ⟨512 + k.val, by omega⟩
/-- A diagonal entry among the 528 of a triangle, -/
def onD (k : Fin 32) : Fin 528 := ⟨k.val, by omega⟩
/-- and one of the rest. -/
def offD (k : Fin 496) : Fin 528 := ⟨32 + k.val, by omega⟩

/-- One hot under the diagonal. -/
def hotOff (k : Fin 496) (i j : Fin 32) : EReal := if h : j < i then (if k = below i j h then 1 else 0) else 0
/-- One hot on the diagonal. -/
def hotOn (k i j : Fin 32) : EReal := if i = j then (if k = i then 1 else 0) else 0

/-- The two sums over the tables place the entries of a triangle. -/
theorem tri_sum (o : Fin 496 → EReal) (e : Fin 32 → EReal) (i j : Fin 32) :
    (∑ k, o k * hotOff k i j) + ∑ k, e k * hotOn k i j = tri o e i j := by
  unfold tri hotOff hotOn
  by_cases h : j < i
  · have hne : i ≠ j := fun h' => absurd h (by rw [h']; exact lt_irrefl _)
    simp only [dif_pos h, if_neg hne, mul_zero, Finset.sum_const_zero, add_zero, mul_ite, mul_one,
      Finset.sum_ite_eq', Finset.mem_univ, if_true]
  · by_cases h2 : i = j
    · simp only [dif_neg h, if_pos h2, mul_zero, Finset.sum_const_zero, zero_add, mul_ite, mul_one,
        Finset.sum_ite_eq', Finset.mem_univ, if_true]
    · simp only [dif_neg h, if_neg h2, mul_zero, Finset.sum_const_zero, zero_add]

/-- What the launch finds in the arrays it reads. -/
structure Found (P : Args) (c : Dev nD) : Prop where
  h : ∀ (d : Fin 2) (s : Fin 512) (b : Fin 32) (u : Fin 512) (r : Fin 16384), s.val * 32 + b.val = r.val →
    V c main_v25 (ix3 d r u : S2x16384x512.Idx) = hat P (d = 1) b s u
  v26 : ∀ k j, V c main_v26 (ix2 k j : S512x256.Idx) = m2 P.a13 (lo k) j
  v27 : ∀ k j, V c main_v27 (ix2 k j : S512x256.Idx) = m2 P.a13 (hi k) j
  v28 : ∀ j, V c main_v28 (ix2 0 j : S1x256.Idx) = m1 P.a14 j
  a15 : ∀ k j, V c main_arg15 (ix2 k j : S256x32.Idx) = m2 P.a15 k j
  v29 : ∀ j, V c main_v29 (ix2 0 j : S1x32.Idx) = m1 P.a16 j
  v30 : ∀ k j, V c main_v30 (ix2 k j : S512x256.Idx) = m2 P.a17 (lo k) j
  v31 : ∀ k j, V c main_v31 (ix2 k j : S512x256.Idx) = m2 P.a17 (hi k) j
  v32 : ∀ j, V c main_v32 (ix2 0 j : S1x256.Idx) = m1 P.a18 j
  v33 : ∀ k j, V c main_v33 (ix2 k j : S256x32.Idx) = m2 P.a19 k (onD j)
  v35 : ∀ j, V c main_v35 (ix2 0 j : S1x32.Idx) = m1 P.a20 (onD j)
  v36 : ∀ k j, V c main_v36 (ix2 k j : S256x496.Idx) = m2 P.a19 k (offD j)
  v38 : ∀ j, V c main_v38 (ix2 0 j : S1x496.Idx) = m1 P.a20 (offD j)
  v39 : ∀ k j, V c main_v39 (ix2 k j : S512x256.Idx) = m2 P.a21 (lo k) j
  v40 : ∀ k j, V c main_v40 (ix2 k j : S512x256.Idx) = m2 P.a21 (hi k) j
  v41 : ∀ j, V c main_v41 (ix2 0 j : S1x256.Idx) = m1 P.a22 j
  a23 : ∀ k j, V c main_arg23 (ix2 k j : S256x1024.Idx) = m2 P.a23 k j
  v42 : ∀ j, V c main_v42 (ix2 0 j : S1x1024.Idx) = m1 P.a24 j
  cst : ∀ k i j, V c main_cst (ix2 k (col i j) : S32x1024.Idx) = hotOn k i j
  v22 : ∀ k i j, V c main_v22 (ix2 k (col i j) : S496x1024.Idx) = hotOff k i j

/-- The layer over both directions is the sum of the layers over each. -/
theorem dense2_both (P : Args) (b : Fin 32) (s : Fin 512) (f g : Fin 512 → EReal) (W W' : Fin 512 → Fin 256 → EReal)
    (b₁ : Fin 256 → EReal) (A : Fin 1024 → Fin 256 → EReal) (B : Fin 256 → EReal)
    (hf : ∀ k, f k = hat P false b s k) (hg : ∀ k, g k = hat P true b s k) (hW : ∀ k j, W k j = A (lo k) j)
    (hW' : ∀ k j, W' k j = A (hi k) j) (hb : ∀ j, b₁ j = B j) :
    (fun j => max (dense2 f g W W' b₁ j) 0) = fun j => max (dense (both P b s) A B j) 0 := by
  funext j
  refine congrArg (max · 0) ?_
  unfold dense2 dense
  rw [sum_halves]
  refine congrArg₂ (· + ·) (congrArg₂ (· + ·) (Finset.sum_congr rfl fun k _ => ?_) (Finset.sum_congr rfl fun k _ => ?_)) (hb j)
  · rw [hf, hW]
    refine congrArg₂ (· * ·) ?_ rfl
    unfold both
    rw [dif_pos k.isLt]
  · rw [hg, hW']
    refine congrArg₂ (· * ·) ?_ rfl
    unfold both
    rw [dif_neg (show ¬ (512 + k.val < 512) from Nat.not_lt.mpr (Nat.le_add_right _ _))]
    congr 1
    exact Fin.ext (Nat.add_sub_cancel_left 512 k.val).symm

/-- Dense layers of equal rows, columns and biases are equal. -/
theorem dense_congr {K N M : ℕ} (x x' : Fin K → EReal) (W : Fin K → Fin N → EReal) (W' : Fin K → Fin M → EReal)
    (b : Fin N → EReal) (b' : Fin M → EReal) (c : Fin N) (c' : Fin M) (hx : x = x') (hW : ∀ k, W k c = W' k c')
    (hb : b c = b' c') : dense x W b c = dense x' W' b' c' := by
  subst hx
  unfold dense
  rw [hb]
  exact congrArg (· + _) (Finset.sum_congr rfl fun k _ => by rw [hW])

variable {V} {P : Args} {c : Dev nD}

/-- A block's row as a time and a sequence. -/
theorem row_time (t s b : ℕ) : t * 512 + (s * 32 + b) = (t * 16 + s) * 32 + b := by omega
/-- A time and a sequence give a row of the array. -/
theorem row_lt (s b : ℕ) (hs : s < 512) (hb : b < 32) : s * 32 + b < 16384 := by omega
/-- A time is a block's number and a place in the block. -/
theorem split_time (s : ℕ) (hs : s < 512) : s / 16 < 32 ∧ s % 16 < 16 ∧ s / 16 * 16 + s % 16 = s := by omega

/-- The hidden states of a block. -/
theorem entry (H : Found V P c) (t : Fin cfg1.N) (d : Fin 2) (r : Fin 512) (u : Fin 512) (s : Fin 512)
    (b : Fin 32) (hr : t.val * 512 + r.val = s.val * 32 + b.val) :
    iblk V c 0 t (ix3 d r u : S2x512x512.Idx) = hat P (d = 1) b s u := by
  have h := H.h d s b u ⟨s.val * 32 + b.val, row_lt _ _ s.isLt b.isLt⟩ (Eq.refl _)
  exact (iblk0 V c t d r u ⟨s.val * 32 + b.val, row_lt _ _ s.isLt b.isLt⟩ hr).trans h

/-- The first head's layer over the states. -/
theorem layer1 (H : Found V P c) (t : Fin cfg1.N) (r : Fin 512) (s : Fin 512) (b : Fin 32)
    (hr : t.val * 512 + r.val = s.val * 32 + b.val) :
    (fun j => max (dense2 (fun k => iblk V c 0 t (ix3 0 r k : S2x512x512.Idx)) (fun k => iblk V c 0 t (ix3 1 r k : S2x512x512.Idx))
        (m2 (iblk V c 1 t)) (m2 (iblk V c 2 t)) (fun j => iblk V c 3 t (ix2 0 j : S1x256.Idx)) j) 0)
      = fun j => max (dense (both P b s) (m2 P.a13) (m1 P.a14) j) 0 :=
  dense2_both P b s _ _ _ _ _ _ _ (fun k => entry H t 0 r k s b hr) (fun k => entry H t 1 r k s b hr)
    (fun k j => (iblk1 V c t k j).trans (H.v26 k j)) (fun k j => (iblk2 V c t k j).trans (H.v27 k j))
    (fun j => (iblk3 V c t 0 j).trans (H.v28 j))

/-- The third head's layer over the states. -/
theorem layer3 (H : Found V P c) (t : Fin cfg1.N) (r : Fin 512) (s : Fin 512) (b : Fin 32)
    (hr : t.val * 512 + r.val = s.val * 32 + b.val) :
    (fun j => max (dense2 (fun k => iblk V c 0 t (ix3 0 r k : S2x512x512.Idx)) (fun k => iblk V c 0 t (ix3 1 r k : S2x512x512.Idx))
        (m2 (iblk V c 6 t)) (m2 (iblk V c 7 t)) (fun j => iblk V c 8 t (ix2 0 j : S1x256.Idx)) j) 0)
      = fun j => max (dense (both P b s) (m2 P.a17) (m1 P.a18) j) 0 :=
  dense2_both P b s _ _ _ _ _ _ _ (fun k => entry H t 0 r k s b hr) (fun k => entry H t 1 r k s b hr)
    (fun k j => (iblk6 V c t k j).trans (H.v30 k j)) (fun k j => (iblk7 V c t k j).trans (H.v31 k j))
    (fun j => (iblk8 V c t 0 j).trans (H.v32 j))

/-- The second head's layer over the states. -/
theorem layer2 (H : Found V P c) (t : Fin cfg1.N) (r : Fin 512) (s : Fin 512) (b : Fin 32)
    (hr : t.val * 512 + r.val = s.val * 32 + b.val) :
    (fun j => max (dense2 (fun k => iblk V c 0 t (ix3 0 r k : S2x512x512.Idx)) (fun k => iblk V c 0 t (ix3 1 r k : S2x512x512.Idx))
        (m2 (iblk V c 13 t)) (m2 (iblk V c 14 t)) (fun j => iblk V c 15 t (ix2 0 j : S1x256.Idx)) j) 0)
      = fun j => max (dense (both P b s) (m2 P.a21) (m1 P.a22) j) 0 :=
  dense2_both P b s _ _ _ _ _ _ _ (fun k => entry H t 0 r k s b hr) (fun k => entry H t 1 r k s b hr)
    (fun k j => (iblk13 V c t k j).trans (H.v39 k j)) (fun k j => (iblk14 V c t k j).trans (H.v40 k j))
    (fun j => (iblk15 V c t 0 j).trans (H.v41 j))

/-- The first result. -/
theorem first (H : Found V P c) (b : Fin 32) (s : Fin 512) (i : Fin 32) :
    arr20 V c (ix3 b s i : S32x512x32.Idx) = outB P b s i := by
  obtain ⟨h32, h16, hsp⟩ := split_time s.val s.isLt
  refine (arr20_at V c (⟨s.val / 16, h32⟩ : Fin cfg1.N) b ⟨s.val % 16, h16⟩ i s hsp).trans ?_
  rw [after20]
  refine (Cells.out20_apply _ _ _ _ _ _ b ⟨s.val % 16, h16⟩ i).trans ?_
  exact dense_congr _ _ _ _ _ _ _ _ (layer1 H _ (row ⟨s.val % 16, h16⟩ b) s b
      ((row_time _ _ _).trans (congrArg (fun x => x * 32 + b.val) hsp)))
    (fun k => (iblk4 V c _ k i).trans (H.a15 k i)) ((iblk5 V c _ 0 i).trans (H.v29 i))

/-- The second result. -/
theorem second (H : Found V P c) (b : Fin 32) (s : Fin 512) (i : Fin 1024) :
    arr21 V c (ix3 b s i : S32x512x1024.Idx) = outA P b s i := by
  obtain ⟨h32, h16, hsp⟩ := split_time s.val s.isLt
  refine (arr21_at V c (⟨s.val / 16, h32⟩ : Fin cfg1.N) b ⟨s.val % 16, h16⟩ i s hsp).trans ?_
  rw [after21]
  refine (Cells.out21_apply _ _ _ _ _ _ b ⟨s.val % 16, h16⟩ i).trans ?_
  exact dense_congr _ _ _ _ _ _ _ _ (layer2 H _ (row ⟨s.val % 16, h16⟩ b) s b
      ((row_time _ _ _).trans (congrArg (fun x => x * 32 + b.val) hsp)))
    (fun k => (iblk16 V c _ k i).trans (H.a23 k i)) ((iblk17 V c _ 0 i).trans (H.v42 i))

/-- A point's block of the third result. -/
theorem third_at (H : Found V P c) (t : Fin cfg1.N) (r : Fin 512) (b : Fin 32) (s : Fin 512) (i j : Fin 32)
    (hr : t.val * 512 + r.val = s.val * 32 + b.val) :
    out22 (iblk V c 0 t) (iblk V c 6 t) (iblk V c 7 t) (iblk V c 8 t) (iblk V c 9 t) (iblk V c 10 t) (iblk V c 11 t)
      (iblk V c 12 t) (iblk V c 18 t) (iblk V c 19 t) (ix2 r (col i j)) = low P b s i j := by
  refine (Cells.out22_apply _ _ _ _ _ _ _ _ _ _ r (col i j)).trans ?_
  unfold low
  rw [← tri_sum]
  refine congrArg₂ (· + ·) (Finset.sum_congr rfl fun k _ => congrArg₂ (· * ·) ?_ ?_)
    (Finset.sum_congr rfl fun k _ => congrArg₂ (· * ·) (congrArg (Ideal.exp · + eps) ?_) ?_)
  · exact dense_congr _ _ _ _ _ _ _ _ (layer3 H t r s b hr) (fun k' => (iblk11 V c t k' k).trans (H.v36 k' k))
      ((iblk12 V c t 0 k).trans (H.v38 k))
  · exact (iblk19 V c t k (col i j)).trans (H.v22 k i j)
  · exact dense_congr _ _ _ _ _ _ _ _ (layer3 H t r s b hr) (fun k' => (iblk9 V c t k' k).trans (H.v33 k' k))
      ((iblk10 V c t 0 k).trans (H.v35 k))
  · exact (iblk18 V c t k (col i j)).trans (H.cst k i j)

/-- The third result. -/
theorem third (H : Found V P c) (b : Fin 32) (s : Fin 512) (i j : Fin 32) (r' : Fin 16384)
    (hr : s.val * 32 + b.val = r'.val) :
    arr22 V c (ix2 r' (col i j) : S16384x1024.Idx) = low P b s i j := by
  obtain ⟨h32, h16, hsp⟩ := split_time s.val s.isLt
  have hrow : s.val / 16 * 512 + (s.val % 16 * 32 + b.val) = s.val * 32 + b.val :=
    (row_time _ _ _).trans (congrArg (fun x => x * 32 + b.val) hsp)
  refine (arr22_at V c (⟨s.val / 16, h32⟩ : Fin cfg1.N) (row ⟨s.val % 16, h16⟩ b) (col i j) r' (hrow.trans hr)).trans ?_
  rw [after22]
  exact third_at H _ _ b s i j hrow

end Cert.KernelIdeal.Region1

end
-- ==== Proof.Value.Diag.lean ====
/- What the table of the diagonal should hold. -/
module

public import proofs.«01_k».proof.KernelIdeal

@[expose] public section

noncomputable section

namespace Cert.KernelIdeal.Tables

open Cert.KernelIdeal

/-- The table of the diagonal is one exactly where the row of the table, the row and the column agree. -/
def okDiag (n : ℕ) : Bool := (lit1t n).toNat == if n / 1024 = n / 32 % 32 ∧ n / 32 % 32 = n % 32 then 0x3F800000 else 0

end Cert.KernelIdeal.Tables

end
-- ==== Proof.Value.Diag0.lean ====
/- A quarter of the table of the diagonal's ones, entry by entry. -/
module

public import proofs.«01_k».proof.Proof.Value.Diag

@[expose] public section

noncomputable section

namespace Cert.KernelIdeal.Tables

open Cert.KernelIdeal

set_option maxRecDepth 100000 in
/-- Rows 0 to 7 of the diagonal's table hold what they should. -/
theorem quarter0 : ∀ r : Fin 8, ∀ n : Fin 1024, okDiag ((0 + r.val) * 1024 + n.val) = true := by decide +kernel

end Cert.KernelIdeal.Tables

end
-- ==== Proof.Value.Diag1.lean ====
/- A quarter of the table of the diagonal's ones, entry by entry. -/
module

public import proofs.«01_k».proof.Proof.Value.Diag

@[expose] public section

noncomputable section

namespace Cert.KernelIdeal.Tables

open Cert.KernelIdeal

set_option maxRecDepth 100000 in
/-- Rows 8 to 15 of the diagonal's table hold what they should. -/
theorem quarter1 : ∀ r : Fin 8, ∀ n : Fin 1024, okDiag ((8 + r.val) * 1024 + n.val) = true := by decide +kernel

end Cert.KernelIdeal.Tables

end
-- ==== Proof.Value.Diag2.lean ====
/- A quarter of the table of the diagonal's ones, entry by entry. -/
module

public import proofs.«01_k».proof.Proof.Value.Diag

@[expose] public section

noncomputable section

namespace Cert.KernelIdeal.Tables

open Cert.KernelIdeal

set_option maxRecDepth 100000 in
/-- Rows 16 to 23 of the diagonal's table hold what they should. -/
theorem quarter2 : ∀ r : Fin 8, ∀ n : Fin 1024, okDiag ((16 + r.val) * 1024 + n.val) = true := by decide +kernel

end Cert.KernelIdeal.Tables

end
-- ==== Proof.Value.Diag3.lean ====
/- A quarter of the table of the diagonal's ones, entry by entry. -/
module

public import proofs.«01_k».proof.Proof.Value.Diag

@[expose] public section

noncomputable section

namespace Cert.KernelIdeal.Tables

open Cert.KernelIdeal

set_option maxRecDepth 100000 in
/-- Rows 24 to 31 of the diagonal's table hold what they should. -/
theorem quarter3 : ∀ r : Fin 8, ∀ n : Fin 1024, okDiag ((24 + r.val) * 1024 + n.val) = true := by decide +kernel

end Cert.KernelIdeal.Tables

end
-- ==== Proof.Value.Tables.lean ====
/- The two tables of the kernel: the places of the entries under the diagonal, and the diagonal's ones. -/
module

public import proofs.«01_k».proof.Proof.Value.Region1b
public import proofs.«01_k».proof.Proof.Value.Diag0
public import proofs.«01_k».proof.Proof.Value.Diag1
public import proofs.«01_k».proof.Proof.Value.Diag2
public import proofs.«01_k».proof.Proof.Value.Diag3

@[expose] public section

noncomputable section

namespace Cert.KernelIdeal.Tables

open Idealize.ShloMosaic Cert.KernelIdeal Cert.KernelIdeal.Gen Cert.Spec Cert.KernelIdeal.Region1

/-- The row and the column of an entry under the diagonal, by its place. -/
def ro (k : ℕ) : ℕ := ((List.range 32).filter (fun r => r * (r - 1) / 2 ≤ k)).length - 1
def co (k : ℕ) : ℕ := k - ro k * (ro k - 1) / 2

set_option maxRecDepth 100000 in
/-- The places under the diagonal, entry by entry: row, column and the word in the table. -/
theorem places : ∀ k : Fin 496, co k.val < ro k.val ∧ ro k.val < 32 ∧ ro k.val * (ro k.val - 1) / 2 + co k.val = k.val
    ∧ lit0 k = BitVec.ofNat 32 (ro k.val * 32 + co k.val) := by decide +kernel

/-- The table of places is one hot under the diagonal. -/
theorem off_hot (k : Fin 496) (i j : Fin 32) :
    (if lit0 k = BitVec.ofNat 32 (col i j).val then (1 : EReal) else 0) = hotOff k i j := by
  obtain ⟨h1, h2, h3, h4⟩ := places k
  have hinj : ∀ a b : ℕ, a < 1024 → b < 1024 → BitVec.ofNat 32 a = BitVec.ofNat 32 b → a = b := by
    intro a b ha hb h
    have := congrArg BitVec.toNat h
    rw [BitVec.toNat_ofNat, BitVec.toNat_ofNat, Nat.mod_eq_of_lt (by omega), Nat.mod_eq_of_lt (by omega)] at this
    exact this
  have hi := i.isLt
  have hj := j.isLt
  rw [h4]
  unfold hotOff
  by_cases h : BitVec.ofNat 32 (ro k.val * 32 + co k.val) = BitVec.ofNat 32 (col i j).val
  · have e : ro k.val * 32 + co k.val = i.val * 32 + j.val := hinj _ _ (by omega) (by omega) h
    have e1 : ro k.val = i.val := by omega
    have e2 : co k.val = j.val := by omega
    have hlt : j < i := by show j.val < i.val; omega
    have hk : k = below i j hlt := Fin.ext (by show k.val = i.val * (i.val - 1) / 2 + j.val; rw [← e1, ← e2]; exact h3.symm)
    rw [if_pos h, dif_pos hlt, if_pos hk]
  · rw [if_neg h]
    by_cases hlt : j < i
    · rw [dif_pos hlt]
      refine (if_neg fun hk => h ?_).symm
      have hk' : k.val = i.val * (i.val - 1) / 2 + j.val := congrArg Fin.val hk
      obtain ⟨e1, e2⟩ : ro k.val = i.val ∧ co k.val = j.val := by
        rw [hk']
        have : ∀ i j : Fin 32, j < i → ro (i.val * (i.val - 1) / 2 + j.val) = i.val ∧ co (i.val * (i.val - 1) / 2 + j.val) = j.val := by
          decide +kernel
        exact this i j hlt
      rw [e1, e2]
      rfl
    · rw [dif_neg hlt]

/-- Every entry of the diagonal's table. -/
theorem diag_all (n : ℕ) (hn : n < 32768) : okDiag n = true := by
  have hc : n / 8192 = 0 ∨ n / 8192 = 1 ∨ n / 8192 = 2 ∨ n / 8192 = 3 := by omega
  rcases hc with h | h | h | h
  · have e : okDiag ((0 + n / 1024 % 8) * 1024 + n % 1024) = true :=
      quarter0 ⟨n / 1024 % 8, Nat.mod_lt _ (by decide)⟩ ⟨n % 1024, Nat.mod_lt _ (by decide)⟩
    rwa [show (0 + n / 1024 % 8) * 1024 + n % 1024 = n by omega] at e
  · have e : okDiag ((8 + n / 1024 % 8) * 1024 + n % 1024) = true :=
      quarter1 ⟨n / 1024 % 8, Nat.mod_lt _ (by decide)⟩ ⟨n % 1024, Nat.mod_lt _ (by decide)⟩
    rwa [show (8 + n / 1024 % 8) * 1024 + n % 1024 = n by omega] at e
  · have e : okDiag ((16 + n / 1024 % 8) * 1024 + n % 1024) = true :=
      quarter2 ⟨n / 1024 % 8, Nat.mod_lt _ (by decide)⟩ ⟨n % 1024, Nat.mod_lt _ (by decide)⟩
    rwa [show (16 + n / 1024 % 8) * 1024 + n % 1024 = n by omega] at e
  · have e : okDiag ((24 + n / 1024 % 8) * 1024 + n % 1024) = true :=
      quarter3 ⟨n / 1024 % 8, Nat.mod_lt _ (by decide)⟩ ⟨n % 1024, Nat.mod_lt _ (by decide)⟩
    rwa [show (24 + n / 1024 % 8) * 1024 + n % 1024 = n by omega] at e

/-- The table of the diagonal is one hot on it. -/
theorem on_hot (k i j : Fin 32) : Ideal.ofBits .f32 (lit1 (S32x1024.rowMajor (ix2 k (col i j)))) = hotOn k i j := by
  have hk := k.isLt
  have hi := i.isLt
  have hj := j.isLt
  have hr : (S32x1024.rowMajor (ix2 k (col i j))).val = k.val * 1024 + (i.val * 32 + j.val) :=
    Shape.rowMajor_val_two _
  have e : lit1 (S32x1024.rowMajor (ix2 k (col i j))) = lit1t (k.val * 1024 + (i.val * 32 + j.val)) := congrArg lit1t hr
  rw [e]
  have h := diag_all (k.val * 1024 + (i.val * 32 + j.val)) (by omega)
  unfold okDiag at h
  have h' := eq_of_beq h
  rw [show (k.val * 1024 + (i.val * 32 + j.val)) / 1024 = k.val by omega,
    show (k.val * 1024 + (i.val * 32 + j.val)) / 32 % 32 = i.val by omega,
    show (k.val * 1024 + (i.val * 32 + j.val)) % 32 = j.val by omega] at h'
  generalize lit1t (k.val * 1024 + (i.val * 32 + j.val)) = x at h'
  unfold hotOn
  by_cases h1 : i = j
  · by_cases h2 : k = i
    · rw [if_pos ⟨congrArg Fin.val h2, congrArg Fin.val h1⟩] at h'
      rw [if_pos h1, if_pos h2, show x = 0x3F800000#32 from BitVec.eq_of_toNat_eq h']
      exact Ideal.ofBits_one_f32
    · rw [if_neg fun hh => h2 (Fin.ext hh.1)] at h'
      rw [if_pos h1, if_neg h2, show x = 0x00000000#32 from BitVec.eq_of_toNat_eq h']
      exact Ideal.ofBits_zero_f32
  · rw [if_neg fun hh => h1 (Fin.ext hh.2)] at h'
    rw [if_neg h1, show x = 0x00000000#32 from BitVec.eq_of_toNat_eq h']
    exact Ideal.ofBits_zero_f32

end Cert.KernelIdeal.Tables

end
-- ==== Proof.Value.Results.lean ====
/- The kernel's three results, from what it is launched with. -/
module

public import proofs.«01_k».proof.Proof.Ideal.Run
public import proofs.«01_k».proof.Proof.Value.Host
public import proofs.«01_k».proof.Proof.Value.Region0b
public import proofs.«01_k».proof.Proof.Value.Region2
public import proofs.«01_k».proof.Proof.Value.Tables

@[expose] public section

noncomputable section

namespace Cert.KernelIdeal.Results

open Idealize.ShloMosaic Idealize.ShloMosaic.TcCoe Cert.KernelIdeal Cert.KernelIdeal.Gen Cert.Spec Cert.KernelIdeal.Whole
open Idealize.ShloMosaic.Pipeline (afterRegion)
open Cert.KernelIdeal.Region1 (col lo hi onD offD)

variable (m : (ℓ : Loc nD τ sig) → Buf (Elt Ideal) ℓ) (c : Dev nD)

/-- The arguments a core is launched with. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)
  a24 := m ((c.tc : Thread nD τ).loc main_arg24)

/-- What the recurrence region finds. -/
theorem found0 : Region0.Found (fun c b => U1 m c b) (args m c) c where
  x t b i := Host.v1_read (U0 m c) t b i
  w₁ r i := congrFun (U1_of m c main_arg1 (by decide)) _
  b₁ i := Host.v23_read (U0 m c) i
  w₂ r i := congrFun (U1_of m c main_arg3 (by decide)) _
  b₂ i := Host.v24_read (U0 m c) i
  wi d r i := by
    refine (Host.v4_read (U0 m c) d r i).trans ?_
    unfold Spec.wi
    by_cases h : d = 1
    · rw [if_pos h, if_pos (by simpa using h)]; rfl
    · rw [if_neg h, if_neg (by simpa using h)]; rfl
  bi d i := by
    refine (Host.v8_read (U0 m c) d i).trans ?_
    unfold Spec.bi
    by_cases h : d = 1
    · rw [if_pos h, if_pos (by simpa using h)]; rfl
    · rw [if_neg h, if_neg (by simpa using h)]; rfl
  wh d r i := by
    refine (Host.v11_read (U0 m c) d r i).trans ?_
    unfold Spec.wh
    by_cases h : d = 1
    · rw [if_pos h, if_pos (by simpa using h)]; rfl
    · rw [if_neg h, if_neg (by simpa using h)]; rfl
  bn d i := by
    refine (Host.v15_read (U0 m c) d i).trans ?_
    unfold Spec.bn
    by_cases h : d = 1
    · rw [if_pos h, if_pos (by simpa using h)]; rfl
    · rw [if_neg h, if_neg (by simpa using h)]; rfl

/-- The states, after the first launch. -/
theorem states (d : Fin 2) (s : Fin 512) (b : Fin 32) (u : Fin 512) (r : Fin 16384) (hr : s.val * 32 + b.val = r.val) :
    U2 m c main_v25 (ix3 d r u : S2x16384x512.Idx) = hat (args m c) (d = 1) b s u := by
  have e : U2 m c main_v25 = Region0.arr9 (fun c b => U1 m c b) c :=
    (Pipeline.afterRegion_arr _ _ launch0.win.arr_inj (9 : Fin cfg0.W)).trans (Region0.arr9_eq _ c)
  rw [e]
  exact Region0.states (found0 m c) d s b u r hr

/-- An argument is unchanged before the second launch. -/
theorem U2_arg (r : Ref sig .tc) (h : r ∉ hostOps0_W) (h' : r ≠ main_v25) : U2 m c r = m ((c.tc : Thread nD τ).loc r) :=
  (U2_of m c r h').trans (U1_of m c r h)

/-- The heads region finds the arguments as launched. -/
theorem U3_arg (r : Ref sig .tc) (h : r ∉ hostOps0_W) (h' : r ≠ main_v25) (h'' : r ∉ hostOps1_W) :
    U3 m c r = m ((c.tc : Thread nD τ).loc r) :=
  (U3_of m c r h'').trans (U2_arg m c r h h')

/-- What the heads region finds. -/
theorem found1 : Region1.Found (fun c b => U3 m c b) (args m c) c where
  h d s b u r hr := (congrFun (U3_of m c main_v25 (by decide)) _).trans (states m c d s b u r hr)
  v26 k j := (Host.v26_read (U2 m c) k j).trans (congrFun (U2_arg m c main_arg13 (by decide) (by decide)) _)
  v27 k j := (Host.v27_read (U2 m c) k j).trans (congrFun (U2_arg m c main_arg13 (by decide) (by decide)) _)
  v28 j := (Host.v28_read (U2 m c) j).trans (congrFun (U2_arg m c main_arg14 (by decide) (by decide)) _)
  a15 k j := congrFun (U3_arg m c main_arg15 (by decide) (by decide) (by decide)) _
  v29 j := (Host.v29_read (U2 m c) j).trans (congrFun (U2_arg m c main_arg16 (by decide) (by decide)) _)
  v30 k j := (Host.v30_read (U2 m c) k j).trans (congrFun (U2_arg m c main_arg17 (by decide) (by decide)) _)
  v31 k j := (Host.v31_read (U2 m c) k j).trans (congrFun (U2_arg m c main_arg17 (by decide) (by decide)) _)
  v32 j := (Host.v32_read (U2 m c) j).trans (congrFun (U2_arg m c main_arg18 (by decide) (by decide)) _)
  v33 k j := (Host.v33_read (U2 m c) k j).trans (congrFun (U2_arg m c main_arg19 (by decide) (by decide)) _)
  v35 j := (Host.v35_read (U2 m c) j).trans (congrFun (U2_arg m c main_arg20 (by decide) (by decide)) _)
  v36 k j := (Host.v36_read (U2 m c) k j).trans (congrFun (U2_arg m c main_arg19 (by decide) (by decide)) _)
  v38 j := (Host.v38_read (U2 m c) j).trans (congrFun (U2_arg m c main_arg20 (by decide) (by decide)) _)
  v39 k j := (Host.v39_read (U2 m c) k j).trans (congrFun (U2_arg m c main_arg21 (by decide) (by decide)) _)
  v40 k j := (Host.v40_read (U2 m c) k j).trans (congrFun (U2_arg m c main_arg21 (by decide) (by decide)) _)
  v41 j := (Host.v41_read (U2 m c) j).trans (congrFun (U2_arg m c main_arg22 (by decide) (by decide)) _)
  a23 k j := congrFun (U3_arg m c main_arg23 (by decide) (by decide) (by decide)) _
  v42 j := (Host.v42_read (U2 m c) j).trans (congrFun (U2_arg m c main_arg24 (by decide) (by decide)) _)
  cst k i j := ((congrFun ((U3_of m c main_cst (by decide)).trans (U2_of m c main_cst (by decide))) _).trans
    (Host.cst_read (U0 m c) k (col i j))).trans (Tables.on_hot k i j)
  v22 k i j := ((congrFun ((U3_of m c main_v22 (by decide)).trans (U2_of m c main_v22 (by decide))) _).trans
    (Host.v22_read (U0 m c) k (col i j))).trans (Tables.off_hot k i j)

/-- The first head, after the second launch. -/
theorem U4_first (b : Fin 32) (s : Fin 512) (i : Fin 32) :
    U4 m c main_v43_0 (ix3 b s i : S32x512x32.Idx) = outB (args m c) b s i := by
  have e : U4 m c main_v43_0 = Region1.arr20 (fun c b => U3 m c b) c :=
    (Pipeline.afterRegion_arr _ _ launch1.win.arr_inj (20 : Fin cfg1.W)).trans (Region1.arr20_eq _ c)
  rw [e]
  exact Region1.first (found1 m c) b s i

/-- The second head, after the second launch. -/
theorem U4_second (b : Fin 32) (s : Fin 512) (i : Fin 1024) :
    U4 m c main_v43_1 (ix3 b s i : S32x512x1024.Idx) = outA (args m c) b s i := by
  have e : U4 m c main_v43_1 = Region1.arr21 (fun c b => U3 m c b) c :=
    (Pipeline.afterRegion_arr _ _ launch1.win.arr_inj (21 : Fin cfg1.W)).trans (Region1.arr21_eq _ c)
  rw [e]
  exact Region1.second (found1 m c) b s i

/-- The factors, after the second launch. -/
theorem U4_third (b : Fin 32) (s : Fin 512) (i j : Fin 32) (r : Fin 16384) (hr : s.val * 32 + b.val = r.val) :
    U4 m c main_v43_2 (ix2 r (col i j) : S16384x1024.Idx) = low (args m c) b s i j := by
  have e : U4 m c main_v43_2 = Region1.arr22 (fun c b => U3 m c b) c :=
    (Pipeline.afterRegion_arr _ _ launch1.win.arr_inj (22 : Fin cfg1.W)).trans (Region1.arr22_eq _ c)
  rw [e]
  exact Region1.third (found1 m c) b s i j r hr

/-- What the products region finds. -/
theorem found2 : Region2.Found (fun c b => U5 m c b) (args m c) c :=
  fun t b i j r hr => (Host.v44_read (U4 m c) r i j).trans (U4_third m c b t i j r hr)

/-- The first result at the end. -/
theorem result_b (b : Fin 32) (s : Fin 512) (i : Fin 32) :
    U7 m c main_v43_0 (ix3 b s i : S32x512x32.Idx) = outB (args m c) b s i := by
  have e : U7 m c main_v43_0 = U4 m c main_v43_0 :=
    (U7_of m c main_v43_0 (by decide)).trans ((U6_of m c main_v43_0 (by decide)).trans (U5_of m c main_v43_0 (by decide)))
  rw [e]
  exact U4_first m c b s i

/-- The second result at the end. -/
theorem result_a (b : Fin 32) (s : Fin 512) (i j : Fin 32) :
    U7 m c main_v46 (ix4 b s i j : S32x512x32x32.Idx) = outA (args m c) b s (col i j) := by
  have e : U6 m c main_v43_1 = U4 m c main_v43_1 :=
    (U6_of m c main_v43_1 (by decide)).trans (U5_of m c main_v43_1 (by decide))
  exact (Host.v46_read (U6 m c) b s i j).trans ((congrFun e _).trans (U4_second m c b s (col i j)))

/-- The third result at the end. -/
theorem result_q (b : Fin 32) (s : Fin 512) (i j : Fin 32) :
    U7 m c main_v45 (ix4 b s i j : S32x512x32x32.Idx) = outQ (args m c) b s i j := by
  have e : U7 m c main_v45 = Region2.arr1 (fun c b => U5 m c b) c :=
    (U7_of m c main_v45 (by decide)).trans
      ((Pipeline.afterRegion_arr _ _ launch2.win.arr_inj (1 : Fin cfg2.W)).trans (Region2.arr1_eq _ c))
  rw [e]
  exact Region2.product _ (args m c) c (found2 m c) b s i j

end Cert.KernelIdeal.Results

end
-- ==== Proof.Value.RefLoop.lean ====
/- The reference's loop: the state after a number of trips, entry by entry. -/
module

public import proofs.«01_k».proof.Proof.Value.Spec
public import proofs.«01_k».proof.Proof.Gen.ReferenceIdeal.Step
public import Idealize.ShloMosaic.Lib.Pointwise

@[expose] public section

noncomputable section

namespace Cert.ReferenceIdeal.Loop

open Idealize.ShloMosaic Cert.ReferenceIdeal Cert.ReferenceIdeal.Gen Cert.ReferenceIdeal.Step Cert.Spec

variable (P : Args)

/-- The features. -/
theorem feat_read (b : Fin 32) (t : Fin 512) (i : Fin 512) :
    A_main_v8 (F := Ideal) P.a0 P.a1 P.a2 P.a3 P.a4 P.a5 P.a6 P.a9 P.a10 (ix3 b t i) = feat P b t i := by
  pointwise [A_main_v8, A_main_v7, A_main_v6, A_main_v5, A_main_v4, A_main_v3, A_main_v2, A_main_v1, A_main_v0,
    K_main_call0_v0, K_main_call0_cst]
  rfl

/-- The forward projection. -/
theorem proj_fwd (t : Fin 512) (b : Fin 32) (g : Fin 1536) :
    A_main_v13 (F := Ideal) P.a0 P.a1 P.a2 P.a3 P.a4 P.a5 P.a6 P.a9 P.a10 (ix3 t b g) = gin P false b t g := by
  pointwise [A_main_v13, A_main_v12, A_main_v11, A_main_v10, A_main_v9]
  exact congrArg (fun x => x + P.a6 (ix1 g)) (Finset.sum_congr rfl fun x _ => by rw [feat_read, mul_comm]; rfl)

/-- The backward projection, the last time first. -/
theorem proj_bwd (t : Fin 512) (b : Fin 32) (g : Fin 1536) :
    A_main_v19 (F := Ideal) P.a0 P.a1 P.a2 P.a3 P.a4 P.a5 P.a6 P.a9 P.a10 (ix3 t b g) = gin P true b t.rev g := by
  pointwise [A_main_v19, A_main_v18, A_main_v17, A_main_v16, A_main_v15, A_main_v14]
  exact congrArg (fun x => x + P.a10 (ix1 g)) (Finset.sum_congr rfl fun x _ => by
    rw [mul_comm]; exact congrArg (fun y => y * P.a9 (ix2 x g)) (feat_read P b t.rev x))

/-- A trip's number read back from its word. -/
theorem trip_word : ∀ j : Fin 512, (BitVec.ofNat 32 j.val).toInt = j.val := by decide +kernel

variable (j : Fin 512) (s : State Ideal)

/-- A trip's row of the projections starts at the trip's number. -/
theorem clamp_row (ht : S1x32x1536.rank = S512x32x1536.rank) :
    Host.clampedStart S512x32x1536 S1x32x1536 ht (fun k => BitVec.toInt ((![constantI S_ 32 (BitVec.ofNat 32 j.val),
      constantI S_ 32 0#32, constantI S_ 32 0#32] : Fin 3 → IVec S_ 32) k (Shape.Idx.first h_S_))) 0 = j.val :=
  Host.clampedStart_of_le ht _ 0 j.val (trip_word j) j.isLt

/-- It has all sequences. -/
theorem clamp_seq (ht : S1x32x1536.rank = S512x32x1536.rank) (j : ℕ) :
    Host.clampedStart S512x32x1536 S1x32x1536 ht (fun k => BitVec.toInt ((![constantI S_ 32 (BitVec.ofNat 32 j),
      constantI S_ 32 0#32, constantI S_ 32 0#32] : Fin 3 → IVec S_ 32) k (Shape.Idx.first h_S_))) 1 = 0 :=
  Host.clampedStart_of_le ht _ 1 0 rfl (Nat.le_refl _)

/-- It has all gate columns. -/
theorem clamp_gate (ht : S1x32x1536.rank = S512x32x1536.rank) (j : ℕ) :
    Host.clampedStart S512x32x1536 S1x32x1536 ht (fun k => BitVec.toInt ((![constantI S_ 32 (BitVec.ofNat 32 j),
      constantI S_ 32 0#32, constantI S_ 32 0#32] : Fin 3 → IVec S_ 32) k (Shape.Idx.first h_S_))) 2 = 0 :=
  Host.clampedStart_of_le ht _ 2 0 rfl (Nat.le_refl _)

/-- A trip writes the row of its number. -/
theorem clamp_row' (ht : S1x32x512.rank = S512x32x512.rank) :
    Host.clampedStart S512x32x512 S1x32x512 ht (fun k => BitVec.toInt ((![constantI S_ 32 (BitVec.ofNat 32 j.val),
      constantI S_ 32 0#32, constantI S_ 32 0#32] : Fin 3 → IVec S_ 32) k (Shape.Idx.first h_S_))) 0 = j.val :=
  Host.clampedStart_of_le ht _ 0 j.val (trip_word j) j.isLt

/-- It writes all sequences. -/
theorem clamp_seq' (ht : S1x32x512.rank = S512x32x512.rank) (j : ℕ) :
    Host.clampedStart S512x32x512 S1x32x512 ht (fun k => BitVec.toInt ((![constantI S_ 32 (BitVec.ofNat 32 j),
      constantI S_ 32 0#32, constantI S_ 32 0#32] : Fin 3 → IVec S_ 32) k (Shape.Idx.first h_S_))) 1 = 0 :=
  Host.clampedStart_of_le ht _ 1 0 rfl (Nat.le_refl _)

/-- It writes all hidden units. -/
theorem clamp_unit' (ht : S1x32x512.rank = S512x32x512.rank) (j : ℕ) :
    Host.clampedStart S512x32x512 S1x32x512 ht (fun k => BitVec.toInt ((![constantI S_ 32 (BitVec.ofNat 32 j),
      constantI S_ 32 0#32, constantI S_ 32 0#32] : Fin 3 → IVec S_ 32) k (Shape.Idx.first h_S_))) 2 = 0 :=
  Host.clampedStart_of_le ht _ 2 0 rfl (Nat.le_refl _)

/-- The trip's row of the fwd projections. -/
theorem row_fwd (b : Fin 32) (g : Fin 1536) : b3 j.val s (ix2 b g) = s.main_v23_0 (ix3 j b g) := by
  pointwise [b3, b2, b1, b0]
  simp only [clamp_row, clamp_seq, clamp_gate, Nat.zero_add]

/-- A trip writes its row of the fwd states and keeps the others. -/
theorem ys_fwd (t : Fin 512) (b : Fin 32) (k : Fin 512) :
    b69 j.val s (ix3 t b k) = if t = j then b36 j.val s (ix2 b k) else s.main_v23_9 (ix3 t b k) := by
  pointwise [b69, b68, b67, b66]
  simp only [clamp_row', clamp_seq', clamp_unit', Nat.sub_zero, Nat.zero_le, and_true]
  by_cases h : t = j
  · rw [dif_pos (by subst h; omega), if_pos h]
  · rw [dif_neg (fun h' => h (Fin.ext (by omega))), if_neg h]

/-- A trip's fwd state. -/
theorem next_fwd (b : Fin 32) (k : Fin 512) :
    b36 j.val s (ix2 b k) = cell (fun g => s.main_v23_0 (ix3 j b g)) (fun k => s.main_v23_7 (ix2 b k)) (m2 s.main_v23_2)
      (m1 s.main_v23_3) k := by
  pointwise [b36, b35, b34, b33, b32, b31, b30, b29, b28, b27, b26, b25, b24, b23, b22, b21, b20, b19, b18, b17, b16, b15, b14, b13, b12, b11, b10, b9, b8]
  simp only [row_fwd]
  rfl

/-- The trip's row of the bwd projections. -/
theorem row_bwd (b : Fin 32) (g : Fin 1536) : b7 j.val s (ix2 b g) = s.main_v23_1 (ix3 j b g) := by
  pointwise [b7, b6, b5, b4]
  simp only [clamp_row, clamp_seq, clamp_gate, Nat.zero_add]

/-- A trip writes its row of the bwd states and keeps the others. -/
theorem ys_bwd (t : Fin 512) (b : Fin 32) (k : Fin 512) :
    b73 j.val s (ix3 t b k) = if t = j then b65 j.val s (ix2 b k) else s.main_v23_10 (ix3 t b k) := by
  pointwise [b73, b72, b71, b70]
  simp only [clamp_row', clamp_seq', clamp_unit', Nat.sub_zero, Nat.zero_le, and_true]
  by_cases h : t = j
  · rw [dif_pos (by subst h; omega), if_pos h]
  · rw [dif_neg (fun h' => h (Fin.ext (by omega))), if_neg h]

/-- A trip's bwd state. -/
theorem next_bwd (b : Fin 32) (k : Fin 512) :
    b65 j.val s (ix2 b k) = cell (fun g => s.main_v23_1 (ix3 j b g)) (fun k => s.main_v23_8 (ix2 b k)) (m2 s.main_v23_4)
      (m1 s.main_v23_5) k := by
  pointwise [b65, b64, b63, b62, b61, b60, b59, b58, b57, b56, b55, b54, b53, b52, b51, b50, b49, b48, b47, b46, b45, b44, b43, b42, b41, b40, b39, b38, b37]
  simp only [row_bwd]
  rfl

/-- The state before a trip: both hidden states and their rows so far, and what the loop keeps. -/
structure At (n : ℕ) (s : State Ideal) : Prop where
  hf : ∀ b k, s.main_v23_7 (ix2 b k) = hid P false b n k
  hb : ∀ b k, s.main_v23_8 (ix2 b k) = hid P true b n k
  yf : ∀ (t : Fin 512) b k, t.val < n → s.main_v23_9 (ix3 t b k) = hid P false b (t.val + 1) k
  yb : ∀ (t : Fin 512) b k, t.val < n → s.main_v23_10 (ix3 t b k) = hid P true b (t.val + 1) k
  xf : ∀ (t : Fin 512) b g, s.main_v23_0 (ix3 t b g) = gin P false b t g
  xb : ∀ (t : Fin 512) b g, s.main_v23_1 (ix3 t b g) = gin P true b t.rev g
  wf : s.main_v23_2 = P.a7
  bf : s.main_v23_3 = P.a8
  wb : s.main_v23_4 = P.a11
  bb : s.main_v23_5 = P.a12

/-- What the loop starts from. -/
theorem at_zero : At P 0 (init (F := Ideal) P.a7 P.a8 P.a11 P.a12 P.a0 P.a1 P.a2 P.a3 P.a4 P.a5 P.a6 P.a9 P.a10) where
  hf b k := by show K_main_v20 (F := Ideal) (ix2 b k) = 0; pointwise [K_main_v20, K_main_cst]
  hb b k := by show K_main_v20 (F := Ideal) (ix2 b k) = 0; pointwise [K_main_v20, K_main_cst]
  yf t b k h := absurd h (Nat.not_lt_zero _)
  yb t b k h := absurd h (Nat.not_lt_zero _)
  xf t b g := proj_fwd P t b g
  xb t b g := proj_bwd P t b g
  wf := rfl
  bf := rfl
  wb := rfl
  bb := rfl

variable {P s}

/-- The forward state a trip makes. -/
theorem made_fwd (h : At P j.val s) (b : Fin 32) (k : Fin 512) :
    b36 j.val s (ix2 b k) = hid P false b (j.val + 1) k := by
  rw [next_fwd, hid_succ, h.wf, h.bf]
  simp only [h.xf, h.hf]
  rfl

/-- The backward state a trip makes. -/
theorem made_bwd (h : At P j.val s) (b : Fin 32) (k : Fin 512) :
    b65 j.val s (ix2 b k) = hid P true b (j.val + 1) k := by
  rw [next_bwd, hid_succ, h.wb, h.bb]
  simp only [h.xb, h.hb]
  rfl

/-- One trip. -/
theorem at_step (h : At P j.val s) : At P (j.val + 1) (step j.val s) where
  hf b k := made_fwd j h b k
  hb b k := made_bwd j h b k
  yf t b k ht := by
    rw [step_main_v23_9, ys_fwd]
    by_cases e : t = j
    · rw [if_pos e, made_fwd j h, e]
    · rw [if_neg e, h.yf t b k (by have := fun q => e (Fin.ext q); omega)]
  yb t b k ht := by
    rw [step_main_v23_10, ys_bwd]
    by_cases e : t = j
    · rw [if_pos e, made_bwd j h, e]
    · rw [if_neg e, h.yb t b k (by have := fun q => e (Fin.ext q); omega)]
  xf := h.xf
  xb := h.xb
  wf := h.wf
  bf := h.bf
  wb := h.wb
  bb := h.bb

/-- The states of any sequence that starts there and goes on trip by trip. -/
theorem at_iter (it : ℕ → State Ideal)
    (h0 : it 0 = init (F := Ideal) P.a7 P.a8 P.a11 P.a12 P.a0 P.a1 P.a2 P.a3 P.a4 P.a5 P.a6 P.a9 P.a10)
    (hs : ∀ n, it (n + 1) = step n (it n)) : ∀ n, n ≤ 512 → At P n (it n)
  | 0, _ => h0 ▸ at_zero P
  | n + 1, hn => by
    rw [hs n]
    exact at_step ⟨n, hn⟩ (at_iter it h0 hs n (Nat.le_of_succ_le hn))

end Cert.ReferenceIdeal.Loop

end
-- ==== Proof.Value.RefHeads.lean ====
/- The reference's results from the loop's last state, entry by entry. -/
module

public import proofs.«01_k».proof.Proof.Value.RefLoop
public import Idealize.ShloMosaic.Lib.ValueIdx

@[expose] public section

noncomputable section

namespace Cert.ReferenceIdeal.Loop

open Idealize.ShloMosaic Cert.ReferenceIdeal Cert.ReferenceIdeal.Gen Cert.ReferenceIdeal.Step Cert.Spec

variable {F : FTy → Type} [FloatOps F]

/-- The third head's rows. -/
def flatArr (s : State F) (main_arg17 : (⟨S1024x256, .f32⟩ : BufTy).Contents (Elt F)) (main_arg18 : (⟨S256, .f32⟩ : BufTy).Contents (Elt F))
    (main_arg19 : (⟨S256x528, .f32⟩ : BufTy).Contents (Elt F)) (main_arg20 : (⟨S528, .f32⟩ : BufTy).Contents (Elt F)) :
    (⟨S32x512x528, .f32⟩ : BufTy).Contents (Elt F) :=
  addf (Host.dotGeneral dot_S32x512x256_S256x528_S32x512x528_2_0_01_1_n_n none (maximumf (addf (Host.dotGeneral dot_S32x512x1024_S1024x256_S32x512x256_2_0_01_1_n_n none (concatenate S32x512x1024 2 [⟨S32x512x512, (transpose S32x512x512 [1, 0, 2] (s.main_v23_9) transposes_S512x32x512_S32x512x512_1_0_2)⟩, ⟨S32x512x512, (transpose S32x512x512 [1, 0, 2] (Host.reverse [0] (s.main_v23_10)) transposes_S512x32x512_S32x512x512_1_0_2)⟩] concatenates_S32x512x512_S32x512x512_S32x512x1024_d2) (main_arg17)) (broadcastInDim S32x512x256 ![0, 1, 2] bcast_S1x1x256_S32x512x256_0_1_2 (broadcastInDim S1x1x256 ![2] bcast_S256_S1x1x256_2 (main_arg18)))) (broadcastInDim S32x512x256 ![] bcast_S_S32x512x256 (constant S_ .f32 0x00000000#32))) (main_arg19)) (broadcastInDim S32x512x528 ![0, 1, 2] bcast_S1x1x528_S32x512x528_0_1_2 (broadcastInDim S1x1x528 ![2] bcast_S528_S1x1x528_2 (main_arg20)))

/-- Where each entry under the diagonal is found. -/
def placeArr : IVec S32x32x1 32 :=
  broadcastInDim S32x32x1 ![0, 1] bcast_S32x32_S32x32x1_0_1 (select (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (addi (broadcastInDim S32x32 ![0, 1] bcast_S32x1_S32x32_0_1 (Host.shrui (muli (broadcastInDim S32x1 ![0] bcast_S32_S32x1_0 (iotaInDim S32 32 0)) (subi (broadcastInDim S32x1 ![0] bcast_S32_S32x1_0 (iotaInDim S32 32 0)) (broadcastInDim S32x1 ![] bcast_S_S32x1 (constantI S_ 32 1#32)))) (broadcastInDim S32x1 ![] bcast_S_S32x1 (constantI S_ 32 1#32)))) (broadcastInDim S32x32 ![0, 1] bcast_S1x32_S32x32_0_1 (broadcastInDim S1x32 ![1] bcast_S32_S1x32_1 (iotaInDim S32 32 0)))) (broadcastInDim S32x32 ![] bcast_S_S32x32 (id (constantI S_ 32 0#32))))

/-- The triangles. -/
def lowArr (s : State F) (main_arg17 : (⟨S1024x256, .f32⟩ : BufTy).Contents (Elt F)) (main_arg18 : (⟨S256, .f32⟩ : BufTy).Contents (Elt F))
    (main_arg19 : (⟨S256x528, .f32⟩ : BufTy).Contents (Elt F)) (main_arg20 : (⟨S528, .f32⟩ : BufTy).Contents (Elt F)) :
    (⟨S32x512x32x32, .f32⟩ : BufTy).Contents (Elt F) :=
  addf (select (broadcastInDim S32x512x32x32 ![2, 3] bcast_S32x32_S32x512x32x32_2_3 (cmpi .slt (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0))))) (Host.gather gather_S32x512x496_S32x32x1_S32x512x32x32_01_2_n_n_2_2_325121 (extractStridedSlice S32x512x496 ![0, 0, 32] (flatArr s main_arg17 main_arg18 main_arg19 main_arg20) slices_S32x512x528_S32x512x496_0_0_32) placeArr) (broadcastInDim S32x512x32x32 ![] bcast_S_S32x512x32x32 (id (constant S_ .f32 0x00000000#32)))) (mulf (broadcastInDim S32x512x32x32 ![0, 1, 2, 3] bcast_S32x512x32x1_S32x512x32x32_0_1_2_3 (broadcastInDim S32x512x32x1 ![0, 1, 2] bcast_S32x512x32_S32x512x32x1_0_1_2 (addf (Host.exp (extractStridedSlice S32x512x32 ![0, 0, 0] (flatArr s main_arg17 main_arg18 main_arg19 main_arg20) slices_S32x512x528_S32x512x32_0_0_0)) (broadcastInDim S32x512x32 ![] bcast_S_S32x512x32 (constant S_ .f32 0x38D1B717#32))))) (broadcastInDim S32x512x32x32 ![0, 1, 2, 3] bcast_S1x1x32x32_S32x512x32x32_0_1_2_3 (broadcastInDim S1x1x32x32 ![2, 3] bcast_S32x32_S1x1x32x32_2_3 (uitofp .f32 (cmpi .eq (addi (iotaInDim S32x32 32 0) (broadcastInDim S32x32 ![] bcast_S_S32x32 (constantI S_ 32 0#32))) (iotaInDim S32x32 32 1))))))

variable {P : Args} {s : State Ideal}

/-- The third result is the triangles' products with themselves. -/
theorem third_eq : R_main_v84 s P.a17 P.a18 P.a19 P.a20 = Host.dotGeneral (φ₁ := .f32) (φ₂ := .f32)
    dot_S32x512x32x32_S32x512x32x32_S32x512x32x32_3_3_2_2_01_01 none (lowArr s P.a17 P.a18 P.a19 P.a20)
    (lowArr s P.a17 P.a18 P.a19 P.a20) := rfl

/-- Entries taken from a row of 496 at the places an index array gives. -/
theorem gather_read (x : S32x512x496.Idx → EReal) (idx : IVec S32x32x1 32) (b : Fin 32) (t : Fin 512) (i j : Fin 32) :
    Host.gather gather_S32x512x496_S32x32x1_S32x512x32x32_01_2_n_n_2_2_325121 x idx (ix4 b t i j)
      = x (ix3 b t ⟨min (idx (ix3 i j 0)).toInt.toNat 495, by omega⟩) := by
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start GatherDims.offCoord
    rw [dif_neg (show ¬ (0 : Fin 3) ∈ gather_S32x512x496_S32x32x1_S32x512x32x32_01_2_n_n_2_2_325121.startIndexMap
        from fun h => absurd (List.mem_singleton.mp h) (by decide)), Nat.zero_add,
      dif_pos ((GatherDims.mem_sKept _ _).mpr ⟨fun h => absurd (List.mem_singleton.mp h) (by decide), List.not_mem_nil⟩)]
    rfl
  · unfold GatherDims.start GatherDims.offCoord
    rw [dif_neg (show ¬ (1 : Fin 3) ∈ gather_S32x512x496_S32x32x1_S32x512x32x32_01_2_n_n_2_2_325121.startIndexMap
        from fun h => absurd (List.mem_singleton.mp h) (by decide)), Nat.zero_add,
      dif_pos ((GatherDims.mem_sKept _ _).mpr ⟨fun h => absurd (List.mem_singleton.mp h) (by decide), List.not_mem_nil⟩)]
    rfl
  · rw [GatherDims.offCoord_eq_zero _ _ _ (fun h => ((GatherDims.mem_sKept _ _).mp h).1 (List.mem_singleton.mpr rfl)),
      Nat.add_zero]
    unfold GatherDims.start
    rw [dif_pos (show (2 : Fin 3) ∈ gather_S32x512x496_S32x32x1_S32x512x32x32_01_2_n_n_2_2_325121.startIndexMap
      from List.mem_singleton.mpr rfl)]
    refine congrArg (fun q => min (BitVec.toInt (idx q)).toNat 495) ?_
    funext c
    refine Fin.ext ?_
    match c with
    | ⟨0, _⟩ => rfl
    | ⟨1, _⟩ => rfl
    | ⟨2, _⟩ => rfl

/-- The words of the places: a row's start is half the product of its number and the number before it. -/
theorem words : ∀ i j : Fin 32, j < i →
    min (Scalar.select (IntOp.cmpi CmpIPredicate.slt (BitVec.ofNat 32 j.val) (BitVec.ofNat 32 i.val))
      (IntOp.addi (IntOp.shrui ArithUnit.host (IntOp.muli (BitVec.ofNat 32 i.val)
        (IntOp.subi (BitVec.ofNat 32 i.val) 1#32)) 1#32) (BitVec.ofNat 32 j.val)) 0#32 : BitVec 32).toInt.toNat 495
      = i.val * (i.val - 1) / 2 + j.val := by decide +kernel

/-- The place of an entry under the diagonal, read from its word. -/
theorem place_word (i j : Fin 32) (h : j < i) : min (placeArr (ix3 i j 0)).toInt.toNat 495 = (below i j h).val := by
  have e : placeArr (ix3 i j 0)
      = Scalar.select (IntOp.cmpi CmpIPredicate.slt (BitVec.ofNat 32 j.val) (BitVec.ofNat 32 i.val))
        (IntOp.addi (IntOp.shrui ArithUnit.host (IntOp.muli (BitVec.ofNat 32 i.val)
          (IntOp.subi (BitVec.ofNat 32 i.val) 1#32)) 1#32) (BitVec.ofNat 32 j.val)) 0#32 := by
    pointwise [placeArr]
    rfl
  rw [e]
  exact words i j h

/-- The word that says an entry is under the diagonal. -/
theorem under : ∀ i j : Fin 32, IntOp.cmpi CmpIPredicate.slt (BitVec.ofNat 32 j.val) (BitVec.ofNat 32 i.val)
    = if j < i then 1#1 else 0#1 := by decide +kernel

/-- The word that says an entry is on the diagonal. -/
theorem onto : ∀ i j : Fin 32, IntOp.cmpi CmpIPredicate.eq (IntOp.addi (BitVec.ofNat 32 i.val) 0#32) (BitVec.ofNat 32 j.val)
    = if i = j then 1#1 else 0#1 := by decide +kernel

/-- A set mask word as a number. -/
theorem one_word : (FloatOps.uitofp FTy.f32 (1#1) : Ideal .f32) = (1 : EReal) := by
  simp [FloatOps.uitofp]

/-- A clear mask word as a number. -/
theorem zero_word : (FloatOps.uitofp FTy.f32 (0#1) : Ideal .f32) = (0 : EReal) := by
  simp [FloatOps.uitofp]

variable (h : At P 512 s)
include h

/-- Both directions' last rows times two halves of a matrix's rows. -/
theorem halves (W : (⟨2, ![1024, 256]⟩ : Shape).Idx → EReal) (b : Fin 32) (t : Fin 512) (c : Fin 256) :
    (∑ x : Fin 512, s.main_v23_9 (ix3 t b x) * W (ix2 (⟨x.val, by omega⟩ : Fin 1024) c))
      + ∑ x : Fin 512, s.main_v23_10 (ix3 t.rev b x) * W (ix2 (⟨512 + x.val, by omega⟩ : Fin 1024) c)
      = ∑ k, both P b t k * m2 W k c := by
  rw [sum_halves]
  refine congrArg₂ (· + ·) (Finset.sum_congr rfl fun k _ => ?_) (Finset.sum_congr rfl fun k _ => ?_)
  · rw [h.yf t b k t.isLt]
    unfold both
    rw [dif_pos k.isLt]
    rfl
  · rw [h.yb t.rev b k t.rev.isLt]
    unfold both
    rw [dif_neg (by simp)]
    have e : (⟨512 + k.val - 512, by omega⟩ : Fin 512) = k := Fin.ext (by simp)
    exact congrArg (fun q => hat P true b t q * W (ix2 (⟨512 + k.val, by omega⟩ : Fin 1024) c)) e.symm

/-- The first result. -/
theorem read_b (b : Fin 32) (t : Fin 512) (i : Fin 32) :
    R_main_v36 s P.a13 P.a14 P.a15 P.a16 (ix3 b t i) = outB P b t i := by
  pointwise [R_main_v36]
  exact congrArg (· + _) (Finset.sum_congr rfl fun x _ => congrArg (fun q => max (q + P.a14 (ix1 x)) 0 * P.a15 (ix2 x i))
    (halves h P.a13 b t x))

/-- The second result. -/
theorem read_a (b : Fin 32) (t : Fin 512) (i j : Fin 32) :
    R_main_v94 s P.a21 P.a22 P.a23 P.a24 (ix4 b t i j) = outA P b t ⟨i.val * 32 + j.val, by omega⟩ := by
  pointwise [R_main_v94]
  exact congrArg (· + _) (Finset.sum_congr rfl fun x _ =>
    congrArg (fun q => max (q + P.a22 (ix1 x)) 0 * P.a23 (ix2 x ⟨i.val * 32 + j.val, by omega⟩)) (halves h P.a21 b t x))

/-- The third head. -/
theorem read_flat (b : Fin 32) (t : Fin 512) (k : Fin 528) :
    flatArr s P.a17 P.a18 P.a19 P.a20 (ix3 b t k) = flat P b t k := by
  pointwise [flatArr]
  exact congrArg (· + _) (Finset.sum_congr rfl fun x _ => congrArg (fun q => max (q + P.a18 (ix1 x)) 0 * P.a19 (ix2 x k))
    (halves h P.a17 b t x))

/-- The triangles. -/
theorem read_low (b : Fin 32) (t : Fin 512) (i j : Fin 32) :
    lowArr s P.a17 P.a18 P.a19 P.a20 (ix4 b t i j) = low P b t i j := by
  pointwise [lowArr]
  rw [gather_read]
  pointwise []
  simp only [read_flat h]
  rw [under, onto]
  unfold low tri
  by_cases hj : j < i
  · have hne : ¬ i = j := fun e => absurd hj (by rw [e]; exact lt_irrefl _)
    rw [if_pos hj, if_neg hne, dif_pos hj, zero_word, mul_zero, add_zero]
    exact congrArg (flat P b t) (Fin.ext (congrArg (32 + ·) (place_word i j hj)))
  · rw [if_neg hj, dif_neg hj]
    have z : (id (constant (F := Ideal) S_ FTy.f32 0#32) ix0) = (0 : EReal) := Ideal.ofBits_zero_f32
    by_cases e : i = j
    · rw [if_pos e, if_pos e, one_word, mul_one]
      exact (congrArg (· + _) z).trans (zero_add _)
    · rw [if_neg e, if_neg e, zero_word, mul_zero, add_zero]
      exact z

/-- The third result. -/
theorem read_q (b : Fin 32) (t : Fin 512) (i j : Fin 32) :
    R_main_v84 s P.a17 P.a18 P.a19 P.a20 (ix4 b t i j) = outQ P b t i j := by
  rw [third_eq]
  pointwise []
  simp only [read_low h]
  rfl

end Cert.ReferenceIdeal.Loop

end
-- ==== Proof.Value.Trips.lean ====
/- The reference's scan: one trip of the loop is `step` of the carried values, and the results are read from the 512th
   state. The text follows the generated statement of the same fact. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v23_7) = s.main_v23_7
  f_8 : V0 (Proc.devRef .tc main_v23_8) = s.main_v23_8
  f_9 : V0 (Proc.devRef .tc main_v23_9) = s.main_v23_9
  f_10 : V0 (Proc.devRef .tc main_v23_10) = s.main_v23_10
  f_0 : V0 (Proc.devRef .tc main_v23_0) = s.main_v23_0
  f_1 : V0 (Proc.devRef .tc main_v23_1) = s.main_v23_1
  f_2 : V0 (Proc.devRef .tc main_v23_2) = s.main_v23_2
  f_3 : V0 (Proc.devRef .tc main_v23_3) = s.main_v23_3
  f_4 : V0 (Proc.devRef .tc main_v23_4) = s.main_v23_4
  f_5 : V0 (Proc.devRef .tc main_v23_5) = s.main_v23_5
  n_6 : V0 (Proc.devRef .tc main_v23_6) = constantI S_ 32 (BitVec.ofNat 32 j)

variable {V0 s j}

set_option maxRecDepth 8192 in
/-- Value 0 of a trip, from what the valuation holds. -/
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
/-- Value 1 of a trip, from what the valuation holds. -/
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
/-- Value 2 of a trip, from what the valuation holds. -/
theorem al_2 (h : Holds V0 s j) : (Host.dynamicSlice S1x32x1536 (V0 (Proc.devRef .tc main_v23_0)) (fun k => (((![V0 (Proc.devRef .tc main_v23_6), constantI S_ 32 0#32, constantI S_ 32 0#32] : Fin 3 → (⟨S_, .i32⟩ : BufTy).Contents (Elt F))) k (Shape.Idx.first h_S_)).toInt) sliceFits_S512x32x1536_S1x32x1536 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_6]
  try rfl
set_option maxRecDepth 8192 in
/-- Value 3 of a trip, from what the valuation holds. -/
theorem al_3 (h : Holds V0 s j) : (res_main_while0b_v95 V0 : (Proc.devRef .tc main_while0b_v95 : DevRef τ sig).ty.Contents (Elt F)) = Cert.ReferenceIdeal.Step.b3 j s := by
  unfold res_main_while0b_v95 Cert.ReferenceIdeal.Step.b3
  rw [← al_2 h]
  try rfl
set_option maxRecDepth 8192 in
/-- Value 4 of a trip, from what the valuation holds. -/
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
/-- Value 5 of a trip, from what the valuation holds. -/
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
/-- Value 6 of a trip, from what the valuation holds. -/
theorem al_6 (h : Holds V0 s j) : (Host.dynamicSlice S1x32x1536 (V0 (Proc.devRef .tc main_v23_1)) (fun k => (((![V0 (Proc.devRef .tc main_v23_6), constantI S_ 32 0#32, constantI S_ 32 0#32] : Fin 3 → (⟨S_, .i32⟩ : BufTy).Contents (Elt F))) k (Shape.Idx.first h_S_)).toInt) sliceFits_S512x32x1536_S1x32x1536 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_6]
  try rfl
set_option maxRecDepth 8192 in
/-- Value 7 of a trip, from what the valuation holds. -/
theorem al_7 (h : Holds V0 s j) : (res_main_while0b_v96 V0 : (Proc.devRef .tc main_while0b_v96 : DevRef τ sig).ty.Contents (Elt F)) = Cert.ReferenceIdeal.Step.b7 j s := by
  unfold res_main_while0b_v96 Cert.ReferenceIdeal.Step.b7
  rw [← al_6 h]
  try rfl
set_option maxRecDepth 8192 in
/-- Value 8 of a trip, from what the valuation holds. -/
theorem al_8 (h : Holds V0 s j) : (extractStridedSlice S512x1024 ![0, 0] (V0 (Proc.devRef .tc main_v23_2)) slices_S512x1536_S512x1024_0_0 : (Proc.devRef .tc main_while0b_v97 : DevRef τ sig).ty.Contents (Elt F)) = Cert.ReferenceIdeal.Step.b8 j s := by
  unfold Cert.ReferenceIdeal.Step.b8
  rw [h.f_2]
  try rfl
set_option maxRecDepth 8192 in
/-- Value 9 of a trip, from what the valuation holds. -/
theorem al_9 (h : Holds V0 s j) : (extractStridedSlice S512x512 ![0, 1024] (V0 (Proc.devRef .tc main_v23_2)) slices_S512x1536_S512x512_0_1024 : (Proc.devRef .tc main_while0b_v98 : DevRef τ sig).ty.Contents (Elt F)) = Cert.ReferenceIdeal.Step.b9 j s := by
  unfold Cert.ReferenceIdeal.Step.b9
  rw [h.f_2]
  try rfl
set_option maxRecDepth 8192 in
/-- Value 10 of a trip, from what the valuation holds. -/
theorem al_10 (h : Holds V0 s j) : (extractStridedSlice S32x1024 ![0, 0] (res_main_while0b_v95 V0) slices_S32x1536_S32x1024_0_0 : (Proc.devRef .tc main_while0b_v99 : DevRef τ sig).ty.Contents (Elt F)) = Cert.ReferenceIdeal.Step.b10 j s := by
  unfold Cert.ReferenceIdeal.Step.b10
  rw [← al_3 h]
  try rfl
set_option maxRecDepth 8192 in
/-- Value 11 of a trip, from what the valuation holds. -/
theorem al_11 (h : Holds V0 s j) : (Host.dotGeneral dot_S32x512_S512x1024_S32x1024_1_0_0_1_n_n none (V0 (Proc.devRef .tc main_v23_7)) (extractStridedSlice S512x1024 ![0, 0] (V0 (Proc.devRef .tc main_v23_2)) slices_S512x1536_S512x1024_0_0) : (Proc.devRef .tc main_while0b_v100 : DevRef τ sig).ty.Contents (Elt F)) = Cert.ReferenceIdeal.Step.b11 j s := by
  unfold Cert.ReferenceIdeal.Step.b11
  rw [← al_8 h, h.f_7]
  try rfl
set_option maxRecDepth 8192 in
/-- Value 12 of a trip, from what the valuation holds. -/
theorem al_12 (h : Holds V0 s j) : (addf (extractStridedSlice S32x1024 ![0, 0] (res_main_while0b_v95 V0) slices_S32x1536_S32x1024_0_0) (Host.dotGeneral dot_S32x512_S512x1024_S32x1024_1_0_0_1_n_n none (V0 (Proc.devRef .tc main_v23_7)) (extractStridedSlice S512x1024 ![0, 0] (V0 (Proc.devRef .tc main_v23_2)) slices_S512x1536_S512x1024_0_0)) : (Proc.devRef .tc main_while0b_v101 : DevRef τ sig).ty.Contents (Elt F)) = Cert.ReferenceIdeal.Step.b12 j s := by
  unfold Cert.ReferenceIdeal.Step.b12
  rw [← al_10 h, ← al_11 h]
  try rfl
set_option maxRecDepth 8192 in
/-- Value 13 of a trip, from what the valuation holds. -/
theorem al_13 (h : Holds V0 s j) : (Host.negf (addf (extractStridedSlice S32x1024 ![0, 0] (res_main_while0b_v95 V0) slices_S32x1536_S32x1024_0_0) (Host.dotGeneral dot_S32x512_S512x1024_S32x1024_1_0_0_1_n_n none (V0 (Proc.devRef .tc main_v23_7)) (extractStridedSlice S512x1024 ![0, 0] (V0 (Proc.devRef .tc main_v23_2)) slices_S512x1536_S512x1024_0_0))) : (Proc.devRef .tc main_while0b_v102 : DevRef τ sig).ty.Contents (Elt F)) = Cert.ReferenceIdeal.Step.b13 j s := by
  unfold Cert.ReferenceIdeal.Step.b13
  rw [← al_12 h]
  try rfl
set_option maxRecDepth 8192 in
/-- Value 14 of a trip, from what the valuation holds. -/
theorem al_14 (h : Holds V0 s j) : (Host.exp (Host.negf (addf (extractStridedSlice S32x1024 ![0, 0] (res_main_while0b_v95 V0) slices_S32x1536_S32x1024_0_0) (Host.dotGeneral dot_S32x512_S512x1024_S32x1024_1_0_0_1_n_n none (V0 (Proc.devRef .tc main_v23_7)) (extractStridedSlice S512x1024 ![0, 0] (V0 (Proc.devRef .tc main_v23_2)) slices_S512x1536_S512x1024_0_0)))) : (Proc.devRef .tc main_while0b_v103 : DevRef τ sig).ty.Contents (Elt F)) = Cert.ReferenceIdeal.Step.b14 j s := by
  unfold Cert.ReferenceIdeal.Step.b14
  rw [← al_13 h]
  try rfl
set_option maxRecDepth 8192 in
/-- Value 15 of a trip, from what the valuation holds. -/
theorem al_15 (h : Holds V0 s j) : (constant S_ .f32 0x3F800000#32 : (Proc.devRef .tc main_while0b_cst_18 : DevRef τ sig).ty.Contents (Elt F)) = Cert.ReferenceIdeal.Step.b15 j s := by
  unfold Cert.ReferenceIdeal.Step.b15
  rfl
set_option maxRecDepth 8192 in
/-- Value 16 of a trip, from what the valuation holds. -/
theorem al_16 (h : Holds V0 s j) : (broadcastInDim S32x1024 ![] bcast_S_S32x1024 (constant S_ .f32 0x3F800000#32) : (Proc.devRef .tc main_while0b_v104 : DevRef τ sig).ty.Contents (Elt F)) = Cert.ReferenceIdeal.Step.b16 j s := by
  unfold Cert.ReferenceIdeal.Step.b16
  rw [← al_15 h]
  try rfl
set_option maxRecDepth 8192 in
/-- Value 17 of a trip, from what the valuation holds. -/
theorem al_17 (h : Holds V0 s j) : (addf (broadcastInDim S32x1024 ![] bcast_S_S32x1024 (constant S_ .f32 0x3F800000#32)) (Host.exp (Host.negf (addf (extractStridedSlice S32x1024 ![0, 0] (res_main_while0b_v95 V0) slices_S32x1536_S32x1024_0_0) (Host.dotGeneral dot_S32x512_S512x1024_S32x1024_1_0_0_1_n_n none (V0 (Proc.devRef .tc main_v23_7)) (extractStridedSlice S512x1024 ![0, 0] (V0 (Proc.devRef .tc main_v23_2)) slices_S512x1536_S512x1024_0_0))))) : (Proc.devRef .tc main_while0b_v105 : DevRef τ sig).ty.Contents (Elt F)) = Cert.ReferenceIdeal.Step.b17 j s := by
  unfold Cert.ReferenceIdeal.Step.b17
  rw [← al_16 h, ← al_14 h]
  try rfl
set_option maxRecDepth 8192 in
/-- Value 18 of a trip, from what the valuation holds. -/
theorem al_18 (h : Holds V0 s j) : (constant S_ .f32 0x3F800000#32 : (Proc.devRef .tc main_while0b_cst_19 : DevRef τ sig).ty.Contents (Elt F)) = Cert.ReferenceIdeal.Step.b18 j s := by
  unfold Cert.ReferenceIdeal.Step.b18
  rfl
set_option maxRecDepth 8192 in
/-- Value 19 of a trip, from what the valuation holds. -/
theorem al_19 (h : Holds V0 s j) : (broadcastInDim S32x1024 ![] bcast_S_S32x1024 (constant S_ .f32 0x3F800000#32) : (Proc.devRef .tc main_while0b_v106 : DevRef τ sig).ty.Contents (Elt F)) = Cert.ReferenceIdeal.Step.b19 j s := by
  unfold Cert.ReferenceIdeal.Step.b19
  rw [← al_18 h]
  try rfl
set_option maxRecDepth 8192 in
/-- Value 20 of a trip, from what the valuation holds. -/
theorem al_20 (h : Holds V0 s j) : (res_main_while0b_v107 V0 : (Proc.devRef .tc main_while0b_v107 : DevRef τ sig).ty.Contents (Elt F)) = Cert.ReferenceIdeal.Step.b20 j s := by
  unfold res_main_while0b_v107 Cert.ReferenceIdeal.Step.b20
  rw [← al_19 h, ← al_17 h]
  try rfl
set_option maxRecDepth 8192 in
/-- Value 21 of a trip, from what the valuation holds. -/
theorem al_21 (h : Holds V0 s j) : (extractStridedSlice S32x512 ![0, 0] (res_main_while0b_v107 V0) slices_S32x1024_S32x512_0_0 : (Proc.devRef .tc main_while0b_v108 : DevRef τ sig).ty.Contents (Elt F)) = Cert.ReferenceIdeal.Step.b21 j s := by
  unfold Cert.ReferenceIdeal.Step.b21
  rw [← al_20 h]
  try rfl
set_option maxRecDepth 8192 in
/-- Value 22 of a trip, from what the valuation holds. -/
theorem al_22 (h : Holds V0 s j) : (res_main_while0b_v109 V0 : (Proc.devRef .tc main_while0b_v109 : DevRef τ sig).ty.Contents (Elt F)) = Cert.ReferenceIdeal.Step.b22 j s := by
  unfold res_main_while0b_v109 Cert.ReferenceIdeal.Step.b22
  rw [← al_20 h]
  try rfl
set_option maxRecDepth 8192 in
/-- Value 23 of a trip, from what the valuation holds. -/
theorem al_23 (h : Holds V0 s j) : (extractStridedSlice S32x512 ![0, 1024] (res_main_while0b_v95 V0) slices_S32x1536_S32x512_0_1024 : (Proc.devRef .tc main_while0b_v110 : DevRef τ sig).ty.Contents (Elt F)) = Cert.ReferenceIdeal.Step.b23 j s := by
  unfold Cert.ReferenceIdeal.Step.b23
  rw [← al_3 h]
  try rfl
set_option maxRecDepth 8192 in
/-- Value 24 of a trip, from what the valuation holds. -/
theorem al_24 (h : Holds V0 s j) : (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024) : (Proc.devRef .tc main_while0b_v111 : DevRef τ sig).ty.Contents (Elt F)) = Cert.ReferenceIdeal.Step.b24 j s := by
  unfold Cert.ReferenceIdeal.Step.b24
  rw [← al_9 h, h.f_7]
  try rfl
set_option maxRecDepth 8192 in
/-- Value 25 of a trip, from what the valuation holds. -/
theorem al_25 (h : Holds V0 s j) : (broadcastInDim S1x512 ![1] bcast_S512_S1x512_1 (V0 (Proc.devRef .tc main_v23_3)) : (Proc.devRef .tc main_while0b_v112 : DevRef τ sig).ty.Contents (Elt F)) = Cert.ReferenceIdeal.Step.b25 j s := by
  unfold Cert.ReferenceIdeal.Step.b25
  rw [h.f_3]
  try rfl
set_option maxRecDepth 8192 in
/-- Value 26 of a trip, from what the valuation holds. -/
theorem al_26 (h : Holds V0 s j) : (broadcastInDim S32x512 ![0, 1] bcast_S1x512_S32x512_0_1 (broadcastInDim S1x512 ![1] bcast_S512_S1x512_1 (V0 (Proc.devRef .tc main_v23_3))) : (Proc.devRef .tc main_while0b_v113 : DevRef τ sig).ty.Contents (Elt F)) = Cert.ReferenceIdeal.Step.b26 j s := by
  unfold Cert.ReferenceIdeal.Step.b26
  rw [← al_25 h]
  try rfl
set_option maxRecDepth 8192 in
/-- Value 27 of a trip, from what the valuation holds. -/
theorem al_27 (h : Holds V0 s j) : (addf (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024)) (broadcastInDim S32x512 ![0, 1] bcast_S1x512_S32x512_0_1 (broadcastInDim S1x512 ![1] bcast_S512_S1x512_1 (V0 (Proc.devRef .tc main_v23_3)))) : (Proc.devRef .tc main_while0b_v114 : DevRef τ sig).ty.Contents (Elt F)) = Cert.ReferenceIdeal.Step.b27 j s := by
  unfold Cert.ReferenceIdeal.Step.b27
  rw [← al_24 h, ← al_26 h]
  try rfl
set_option maxRecDepth 8192 in
/-- Value 28 of a trip, from what the valuation holds. -/
theorem al_28 (h : Holds V0 s j) : (mulf (extractStridedSlice S32x512 ![0, 0] (res_main_while0b_v107 V0) slices_S32x1024_S32x512_0_0) (addf (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024)) (broadcastInDim S32x512 ![0, 1] bcast_S1x512_S32x512_0_1 (broadcastInDim S1x512 ![1] bcast_S512_S1x512_1 (V0 (Proc.devRef .tc main_v23_3))))) : (Proc.devRef .tc main_while0b_v115 : DevRef τ sig).ty.Contents (Elt F)) = Cert.ReferenceIdeal.Step.b28 j s := by
  unfold Cert.ReferenceIdeal.Step.b28
  rw [← al_21 h, ← al_27 h]
  try rfl
set_option maxRecDepth 8192 in
/-- Value 29 of a trip, from what the valuation holds. -/
theorem al_29 (h : Holds V0 s j) : (addf (extractStridedSlice S32x512 ![0, 1024] (res_main_while0b_v95 V0) slices_S32x1536_S32x512_0_1024) (mulf (extractStridedSlice S32x512 ![0, 0] (res_main_while0b_v107 V0) slices_S32x1024_S32x512_0_0) (addf (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024)) (broadcastInDim S32x512 ![0, 1] bcast_S1x512_S32x512_0_1 (broadcastInDim S1x512 ![1] bcast_S512_S1x512_1 (V0 (Proc.devRef .tc main_v23_3)))))) : (Proc.devRef .tc main_while0b_v116 : DevRef τ sig).ty.Contents (Elt F)) = Cert.ReferenceIdeal.Step.b29 j s := by
  unfold Cert.ReferenceIdeal.Step.b29
  rw [← al_23 h, ← al_28 h]
  try rfl
set_option maxRecDepth 8192 in
/-- Value 30 of a trip, from what the valuation holds. -/
theorem al_30 (h : Holds V0 s j) : (Host.tanh (addf (extractStridedSlice S32x512 ![0, 1024] (res_main_while0b_v95 V0) slices_S32x1536_S32x512_0_1024) (mulf (extractStridedSlice S32x512 ![0, 0] (res_main_while0b_v107 V0) slices_S32x1024_S32x512_0_0) (addf (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024)) (broadcastInDim S32x512 ![0, 1] bcast_S1x512_S32x512_0_1 (broadcastInDim S1x512 ![1] bcast_S512_S1x512_1 (V0 (Proc.devRef .tc main_v23_3))))))) : (Proc.devRef .tc main_while0b_v117 : DevRef τ sig).ty.Contents (Elt F)) = Cert.ReferenceIdeal.Step.b30 j s := by
  unfold Cert.ReferenceIdeal.Step.b30
  rw [← al_29 h]
  try rfl
set_option maxRecDepth 8192 in
/-- Value 31 of a trip, from what the valuation holds. -/
theorem al_31 (h : Holds V0 s j) : (constant S_ .f32 0x3F800000#32 : (Proc.devRef .tc main_while0b_cst_20 : DevRef τ sig).ty.Contents (Elt F)) = Cert.ReferenceIdeal.Step.b31 j s := by
  unfold Cert.ReferenceIdeal.Step.b31
  rfl
set_option maxRecDepth 8192 in
/-- Value 32 of a trip, from what the valuation holds. -/
theorem al_32 (h : Holds V0 s j) : (broadcastInDim S32x512 ![] bcast_S_S32x512 (constant S_ .f32 0x3F800000#32) : (Proc.devRef .tc main_while0b_v118 : DevRef τ sig).ty.Contents (Elt F)) = Cert.ReferenceIdeal.Step.b32 j s := by
  unfold Cert.ReferenceIdeal.Step.b32
  rw [← al_31 h]
  try rfl
set_option maxRecDepth 8192 in
/-- Value 33 of a trip, from what the valuation holds. -/
theorem al_33 (h : Holds V0 s j) : (subf (broadcastInDim S32x512 ![] bcast_S_S32x512 (constant S_ .f32 0x3F800000#32)) (res_main_while0b_v109 V0) : (Proc.devRef .tc main_while0b_v119 : DevRef τ sig).ty.Contents (Elt F)) = Cert.ReferenceIdeal.Step.b33 j s := by
  unfold Cert.ReferenceIdeal.Step.b33
  rw [← al_32 h, ← al_22 h]
  try rfl
set_option maxRecDepth 8192 in
/-- Value 34 of a trip, from what the valuation holds. -/
theorem al_34 (h : Holds V0 s j) : (mulf (subf (broadcastInDim S32x512 ![] bcast_S_S32x512 (constant S_ .f32 0x3F800000#32)) (res_main_while0b_v109 V0)) (Host.tanh (addf (extractStridedSlice S32x512 ![0, 1024] (res_main_while0b_v95 V0) slices_S32x1536_S32x512_0_1024) (mulf (extractStridedSlice S32x512 ![0, 0] (res_main_while0b_v107 V0) slices_S32x1024_S32x512_0_0) (addf (Host.dotGeneral dot_S32x512_S512x512_S32x512_1_0_0_1_n_n none (V0 (Proc.devRef .tc main_v23_7)) (extractStridedSlice S512x512 ![0, 1024] (V0 (Proc.devRef .tc main_v23_2)) slices_S512x1536_S512x512_0_1024)) (broadcastInDim S32x512 ![0, 1] bcast_S1x512_S32x512_0_1 (broadcastInDim S1x512 ![1] bcast_S512_S1x512_1 (V0 (Proc.devRef .tc main_v23_3)))))))) : (Proc.devRef .tc main_while0b_v120 : DevRef τ sig).ty.Contents (Elt F)) = Cert.ReferenceIdeal.Step.b34 j s := by
  unfold Cert.ReferenceIdeal.Step.b34
  rw [← al_33 h, ← al_30 h]
  try rfl
set_option maxRecDepth 8192 in
/-- Value 35 of a trip, from what the valuation holds. -/
theorem al_35 (h : Holds V0 s j) : (mulf (res_main_while0b_v109 V0) (V0 (Proc.devRef .tc main_v23_7)) : (Proc.devRef .tc main_while0b_v121 : DevRef τ sig).ty.Contents (Elt F)) = Cert.ReferenceIdeal.Step.b35 j s := by
  unfold Cert.ReferenceIdeal.Step.b35
  rw [← al_22 h, h.f_7]
  try rfl
set_option maxRecDepth 8192 in
/-- Value 36 of a trip, from what the valuation holds. -/
theorem al_36 (h : Holds V0 s j) : (res_main_while0b_v122 V0 : (Proc.devRef .tc main_while0b_v122 : DevRef τ sig).ty.Contents (Elt F)) = Cert.ReferenceIdeal.Step.b36 j s := by
  unfold res_main_while0b_v122 Cert.ReferenceIdeal.Step.b36
  rw [← al_34 h, ← al_35 h]
  try rfl
set_option maxRecDepth 8192 in
/-- Value 37 of a trip, from what the valuation holds. -/
theorem al_37 (h : Holds V0 s j) : (extractStridedSlice S512x1024 ![0, 0] (V0 (Proc.devRef .tc main_v23_4)) slices_S512x1536_S512x1024_0_0 : (Proc.devRef .tc main_while0b_v123 : DevRef τ sig).ty.Contents (Elt F)) = Cert.ReferenceIdeal.Step.b37 j s := by
  unfold Cert.ReferenceIdeal.Step.b37
  rw [h.f_4]
  try rfl
set_option maxRecDepth 8192 in
/-- Value 38 of a trip, from what the valuation holds. -/
theorem al_38 (h : Holds V0 s j) : (extractStridedSlice S512x512 ![0, 1024] (V0 (Proc.devRef .tc main_v23_4)) slices_S512x1536_S512x512_0_1024 : (Proc.devRef .tc main_while0b_v124 : DevRef τ sig).ty.Contents (Elt F)) = Cert.ReferenceIdeal.Step.b38 j s := by
  unfold Cert.ReferenceIdeal.Step.b38
  rw [h.f_4]
  try rfl
set_option maxRecDepth 8192 in
/-- Value 39 of a trip, from what the valuation holds. -/
theorem al_39 (h : Holds V0 s j) : (extractStridedSlice S32x1024 ![0, 0] (res_main_while0b_v96 V0) slices_S32x1536_S32x1024_0_0 : (Proc.devRef .tc main_while0b_v125 : DevRef τ sig).ty.Contents (Elt F)) = Cert.ReferenceIdeal.Step.b39 j s := by
  unfold Cert.ReferenceIdeal.Step.b39
  rw [← al_7 h]
  try rfl
set_option maxRecDepth 8192 in
/-- Value 40 of a trip, from what the valuation holds. -/
theorem al_40 (h : Holds V0 s j) : (Host.dotGeneral dot_S32x512_S512x1024_S32x1024_1_0_0_1_n_n none (V0 (Proc.devRef .tc main_v23_8)) (extractStridedSlice S512x1024 ![0, 0] (V0 (Proc.devRef .tc main_v23_4)) slices_S512x1536_S512x1024_0_0) : (Proc.devRef .tc main_while0b_v126 : DevRef τ sig).ty.Contents (Elt F)) = Cert.ReferenceIdeal.Step.b40 j s := by
  unfold Cert.ReferenceIdeal.Step.b40
  rw [← al_37 h, h.f_8]
  try rfl
set_option maxRecDepth 8192 in
/-- Value 41 of a trip, from what the valuation holds. -/
theorem al_41 (h : Holds V0 s j) : (addf (extractStridedSlice S32x1024 ![0, 0] (res_main_while0b_v96 V0) slices_S32x1536_S32x1024_0_0) (Host.dotGeneral dot_S32x512_S512x1024_S32x1024_1_0_0_1_n_n none (V0 (Proc.devRef .tc main_v23_8)) (extractStridedSlice S512x1024 ![0, 0] (V0 (Proc.devRef .tc main_v23_4)) slices_S512x1536_S512x1024_0_0)) : (Proc.devRef .tc main_while0b_v127 : DevRef τ sig).ty.Contents (Elt F)) = Cert.ReferenceIdeal.Step.b41 j s := by
  unfold Cert.ReferenceIdeal.Step.b41
  rw [← al_39 h, ← al_40 h]
  try rfl
set_option maxRecDepth 8192 in
/-- Value 42 of a trip, from what the valuation holds. -/
theorem al_42 (h : Holds V0 s j) : (Host.negf (addf (extractStridedSlice S32x1024 ![0, 0] (res_main_while0b_v96 V0) slices_S32x1536_S32x1024_0_0) (Host.dotGeneral dot_S32x512_S512x1024_S32x1024_1_0_0_1_n_n none (V0 (Proc.devRef .tc main_v23_8)) (extractStridedSlice S512x1024 ![0, 0] (V0 (Proc.devRef .tc main_v23_4)) slices_S512x1536_S512x1024_0_0))) : (Proc.devRef .tc main_while0b_v128 : DevRef τ sig).ty.Contents (Elt F)) = Cert.ReferenceIdeal.Step.b42 j s := by
  unfold Cert.ReferenceIdeal.Step.b42
  rw [← al_41 h]
  try rfl
set_option maxRecDepth 8192 in
/-- Value 43 of a trip, from what the valuation holds. -/
theorem al_43 (h : Holds V0 s j) : (Host.exp (Host.negf (addf (extractStridedSlice S32x1024 ![0, 0] (res_main_while0b_v96 V0) slices_S32x1536_S32x1024_0_0) (Host.dotGeneral dot_S32x512_S512x1024_S32x1024_1_0_0_1_n_n none (V0 (Proc.devRef .tc main_v23_8)) (extractStridedSlice S512x1024 ![0, 0] (V0 (Proc.devRef .tc main_v23_4)) slices_S512x1536_S512x1024_0_0)))) : (Proc.devRef .tc main_while0b_v129 : DevRef τ sig).ty.Contents (Elt F)) = Cert.ReferenceIdeal.Step.b43 j s := by
  unfold Cert.ReferenceIdeal.Step.b43
  rw [← al_42 h]
  try rfl
set_option maxRecDepth 8192 in
/-- Value 44 of a trip, from what the valuation holds. -/
theorem al_44 (h : Holds V0 s j) : (constant S_ .f32 0x3F800000#32 : (Proc.devRef .tc main_while0b_cst_21 : DevRef τ sig).ty.Contents (Elt F)) = Cert.ReferenceIdeal.Step.b44 j s := by
  unfold Cert.ReferenceIdeal.Step.b44
  rfl
set_option maxRecDepth 8192 in
/-- Value 45 of a trip, from what the valuation holds. -/
theorem al_45 (h : Holds V0 s j) : (broadcastInDim S32x1024 ![] bcast_S_S32x1024 (constant S_ .f32 0x3F800000#32) : (Proc.devRef .tc main_while0b_v130 : DevRef τ sig).ty.Contents (Elt F)) = Cert.ReferenceIdeal.Step.b45 j s := by
  unfold Cert.ReferenceIdeal.Step.b45
  rw [← al_44 h]
  try rfl
set_option maxRecDepth 8192 in
/-- Value 46 of a trip, from what the valuation holds. -/
theorem al_46 (h : Holds V0 s j) : (addf (broadcastInDim S32x1024 ![] bcast_S_S32x1024 (constant S_ .f32 0x3F800000#32)) (Host.exp (Host.negf (addf (extractStridedSlice S32x1024 ![0, 0] (res_main_while0b_v96 V0) slices_S32x1536_S32x1024_0_0) (Host.dotGeneral dot_S32x512_S512x1024_S32x1024_1_0_0_1_n_n none (V0 (Proc.devRef .tc main_v23_8)) (extractStridedSlice S512x1024 ![0, 0] (V0 (Proc.devRef .tc main_v23_4)) slices_S512x1536_S512x1024_0_0))))) : (Proc.devRef .tc main_while0b_v131 : DevRef τ sig).ty.Contents (Elt F)) = Cert.ReferenceIdeal.Step.b46 j s := by
  unfold Cert.ReferenceIdeal.Step.b46
  rw [← al_45 h, ← al_43 h]
  try rfl
set_option maxRecDepth 8192 in
/-- Value 47 of a trip, from what the valuation holds. -/
theorem al_47 (h : Holds V0 s j) : (constant S_ .f32 0x3F800000#32 : (Proc.devRef .tc main_while0b_cst_22 : DevRef τ sig).ty.Contents (Elt F)) = Cert.ReferenceIdeal.Step.b47 j s := by
  unfold Cert.ReferenceIdeal.Step.b47
  rfl
set_option maxRecDepth 8192 in
/-- Value 48 of a trip, from what the valuation holds. -/
theorem al_48 (h : Holds V0 s j) : (broadcastInDim S32x1024 ![] bcast_S_S32x1024 (constant S_ .f32 0x3F800000#32) : (Proc.devRef .tc main_while0b_v132 : DevRef τ sig).ty.Contents (Elt F)) = Cert.ReferenceIdeal.Step.b48 j s := by
  unfold Cert.ReferenceIdeal.Step.b48
  rw [← al_47 h]
  try rfl
set_option maxRecDepth 8192 in
/-- Value 49 of a trip, from what the valuation holds. -/
theorem al_49 (h : Holds V0 s j) : (res_main_while0b_v133 V0 : (Proc.devRef .tc main_while0b_v133 : DevRef τ sig).ty.Contents (Elt F)) = Cert.ReferenceIdeal.Step.b49 j s := by
  unfold res_main_while0b_v133 Cert.ReferenceIdeal.Step.b49
  rw [← al_48 h, ← al_46 h]
  try rfl
set_option maxRecDepth 8192 in
/-- Value 50 of a trip, from what the valuation holds. -/
theorem al_50 (h : Holds V0 s j) : (extractStridedSlice S32x512 ![0, 0] (res_main_while0b_v133 V0) slices_S32x1024_S32x512_0_0 : (Proc.devRef .tc main_while0b_v134 : DevRef τ sig).ty.Contents (Elt F)) = Cert.ReferenceIdeal.Step.b50 j s := by
  unfold Cert.ReferenceIdeal.Step.b50
  rw [← al_49 h]
  try rfl
set_option maxRecDepth 8192 in
/-- Value 51 of a trip, from what the valuation holds. -/
theorem al_51 (h : Holds V0 s j) : (res_main_while0b_v135 V0 : (Proc.devRef .tc main_while0b_v135 : DevRef τ sig).ty.Contents (Elt F)) = Cert.ReferenceIdeal.Step.b51 j s := by
  unfold res_main_while0b_v135 Cert.ReferenceIdeal.Step.b51
  rw [← al_49 h]
  try rfl
set_option maxRecDepth 8192 in
/-- Value 52 of a trip, from what the valuation holds. -/
theorem al_52 (h : Holds V0 s j) : (extractStridedSlice S32x512 ![0, 1024] (res_main_while0b_v96 V0) slices_S32x1536_S32x512_0_1024 : (Proc.devRef .tc main_while0b_v136 : DevRef τ sig).ty.Contents (Elt F)) = Cert.ReferenceIdeal.Step.b52 j s := by
  unfold Cert.ReferenceIdeal.Step.b52
  rw [← al_7 h]
  try rfl
set_option maxRecDepth 8192 in
/-- Value 53 of a trip, from what the valuation holds. -/
theorem al_53 (h : Holds V0 s j) : (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024) : (Proc.devRef .tc main_while0b_v137 : DevRef τ sig).ty.Contents (Elt F)) = Cert.ReferenceIdeal.Step.b53 j s := by
  unfold Cert.ReferenceIdeal.Step.b53
  rw [← al_38 h, h.f_8]
  try rfl
set_option maxRecDepth 8192 in
/-- Value 54 of a trip, from what the valuation holds. -/
theorem al_54 (h : Holds V0 s j) : (broadcastInDim S1x512 ![1] bcast_S512_S1x512_1 (V0 (Proc.devRef .tc main_v23_5)) : (Proc.devRef .tc main_while0b_v138 : DevRef τ sig).ty.Contents (Elt F)) = Cert.ReferenceIdeal.Step.b54 j s := by
  unfold Cert.ReferenceIdeal.Step.b54
  rw [h.f_5]
  try rfl
set_option maxRecDepth 8192 in
/-- Value 55 of a trip, from what the valuation holds. -/
theorem al_55 (h : Holds V0 s j) : (broadcastInDim S32x512 ![0, 1] bcast_S1x512_S32x512_0_1 (broadcastInDim S1x512 ![1] bcast_S512_S1x512_1 (V0 (Proc.devRef .tc main_v23_5))) : (Proc.devRef .tc main_while0b_v139 : DevRef τ sig).ty.Contents (Elt F)) = Cert.ReferenceIdeal.Step.b55 j s := by
  unfold Cert.ReferenceIdeal.Step.b55
  rw [← al_54 h]
  try rfl
set_option maxRecDepth 8192 in
/-- Value 56 of a trip, from what the valuation holds. -/
theorem al_56 (h : Holds V0 s j) : (addf (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024)) (broadcastInDim S32x512 ![0, 1] bcast_S1x512_S32x512_0_1 (broadcastInDim S1x512 ![1] bcast_S512_S1x512_1 (V0 (Proc.devRef .tc main_v23_5)))) : (Proc.devRef .tc main_while0b_v140 : DevRef τ sig).ty.Contents (Elt F)) = Cert.ReferenceIdeal.Step.b56 j s := by
  unfold Cert.ReferenceIdeal.Step.b56
  rw [← al_53 h, ← al_55 h]
  try rfl
set_option maxRecDepth 8192 in
/-- Value 57 of a trip, from what the valuation holds. -/
theorem al_57 (h : Holds V0 s j) : (mulf (extractStridedSlice S32x512 ![0, 0] (res_main_while0b_v133 V0) slices_S32x1024_S32x512_0_0) (addf (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024)) (broadcastInDim S32x512 ![0, 1] bcast_S1x512_S32x512_0_1 (broadcastInDim S1x512 ![1] bcast_S512_S1x512_1 (V0 (Proc.devRef .tc main_v23_5))))) : (Proc.devRef .tc main_while0b_v141 : DevRef τ sig).ty.Contents (Elt F)) = Cert.ReferenceIdeal.Step.b57 j s := by
  unfold Cert.ReferenceIdeal.Step.b57
  rw [← al_50 h, ← al_56 h]
  try rfl
set_option maxRecDepth 8192 in
/-- Value 58 of a trip, from what the valuation holds. -/
theorem al_58 (h : Holds V0 s j) : (addf (extractStridedSlice S32x512 ![0, 1024] (res_main_while0b_v96 V0) slices_S32x1536_S32x512_0_1024) (mulf (extractStridedSlice S32x512 ![0, 0] (res_main_while0b_v133 V0) slices_S32x1024_S32x512_0_0) (addf (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024)) (broadcastInDim S32x512 ![0, 1] bcast_S1x512_S32x512_0_1 (broadcastInDim S1x512 ![1] bcast_S512_S1x512_1 (V0 (Proc.devRef .tc main_v23_5)))))) : (Proc.devRef .tc main_while0b_v142 : DevRef τ sig).ty.Contents (Elt F)) = Cert.ReferenceIdeal.Step.b58 j s := by
  unfold Cert.ReferenceIdeal.Step.b58
  rw [← al_52 h, ← al_57 h]
  try rfl
set_option maxRecDepth 8192 in
/-- Value 59 of a trip, from what the valuation holds. -/
theorem al_59 (h : Holds V0 s j) : (Host.tanh (addf (extractStridedSlice S32x512 ![0, 1024] (res_main_while0b_v96 V0) slices_S32x1536_S32x512_0_1024) (mulf (extractStridedSlice S32x512 ![0, 0] (res_main_while0b_v133 V0) slices_S32x1024_S32x512_0_0) (addf (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024)) (broadcastInDim S32x512 ![0, 1] bcast_S1x512_S32x512_0_1 (broadcastInDim S1x512 ![1] bcast_S512_S1x512_1 (V0 (Proc.devRef .tc main_v23_5))))))) : (Proc.devRef .tc main_while0b_v143 : DevRef τ sig).ty.Contents (Elt F)) = Cert.ReferenceIdeal.Step.b59 j s := by
  unfold Cert.ReferenceIdeal.Step.b59
  rw [← al_58 h]
  try rfl
set_option maxRecDepth 8192 in
/-- Value 60 of a trip, from what the valuation holds. -/
theorem al_60 (h : Holds V0 s j) : (constant S_ .f32 0x3F800000#32 : (Proc.devRef .tc main_while0b_cst_23 : DevRef τ sig).ty.Contents (Elt F)) = Cert.ReferenceIdeal.Step.b60 j s := by
  unfold Cert.ReferenceIdeal.Step.b60
  rfl
set_option maxRecDepth 8192 in
/-- Value 61 of a trip, from what the valuation holds. -/
theorem al_61 (h : Holds V0 s j) : (broadcastInDim S32x512 ![] bcast_S_S32x512 (constant S_ .f32 0x3F800000#32) : (Proc.devRef .tc main_while0b_v144 : DevRef τ sig).ty.Contents (Elt F)) = Cert.ReferenceIdeal.Step.b61 j s := by
  unfold Cert.ReferenceIdeal.Step.b61
  rw [← al_60 h]
  try rfl
set_option maxRecDepth 8192 in
/-- Value 62 of a trip, from what the valuation holds. -/
theorem al_62 (h : Holds V0 s j) : (subf (broadcastInDim S32x512 ![] bcast_S_S32x512 (constant S_ .f32 0x3F800000#32)) (res_main_while0b_v135 V0) : (Proc.devRef .tc main_while0b_v145 : DevRef τ sig).ty.Contents (Elt F)) = Cert.ReferenceIdeal.Step.b62 j s := by
  unfold Cert.ReferenceIdeal.Step.b62
  rw [← al_61 h, ← al_51 h]
  try rfl
set_option maxRecDepth 8192 in
/-- Value 63 of a trip, from what the valuation holds. -/
theorem al_63 (h : Holds V0 s j) : (mulf (subf (broadcastInDim S32x512 ![] bcast_S_S32x512 (constant S_ .f32 0x3F800000#32)) (res_main_while0b_v135 V0)) (Host.tanh (addf (extractStridedSlice S32x512 ![0, 1024] (res_main_while0b_v96 V0) slices_S32x1536_S32x512_0_1024) (mulf (extractStridedSlice S32x512 ![0, 0] (res_main_while0b_v133 V0) slices_S32x1024_S32x512_0_0) (addf (Host.dotGeneral dot_S32x512_S512x512_S32x512_1_0_0_1_n_n none (V0 (Proc.devRef .tc main_v23_8)) (extractStridedSlice S512x512 ![0, 1024] (V0 (Proc.devRef .tc main_v23_4)) slices_S512x1536_S512x512_0_1024)) (broadcastInDim S32x512 ![0, 1] bcast_S1x512_S32x512_0_1 (broadcastInDim S1x512 ![1] bcast_S512_S1x512_1 (V0 (Proc.devRef .tc main_v23_5)))))))) : (Proc.devRef .tc main_while0b_v146 : DevRef τ sig).ty.Contents (Elt F)) = Cert.ReferenceIdeal.Step.b63 j s := by
  unfold Cert.ReferenceIdeal.Step.b63
  rw [← al_62 h, ← al_59 h]
  try rfl
set_option maxRecDepth 8192 in
/-- Value 64 of a trip, from what the valuation holds. -/
theorem al_64 (h : Holds V0 s j) : (mulf (res_main_while0b_v135 V0) (V0 (Proc.devRef .tc main_v23_8)) : (Proc.devRef .tc main_while0b_v147 : DevRef τ sig).ty.Contents (Elt F)) = Cert.ReferenceIdeal.Step.b64 j s := by
  unfold Cert.ReferenceIdeal.Step.b64
  rw [← al_51 h, h.f_8]
  try rfl
set_option maxRecDepth 8192 in
/-- Value 65 of a trip, from what the valuation holds. -/
theorem al_65 (h : Holds V0 s j) : (res_main_while0b_v148 V0 : (Proc.devRef .tc main_while0b_v148 : DevRef τ sig).ty.Contents (Elt F)) = Cert.ReferenceIdeal.Step.b65 j s := by
  unfold res_main_while0b_v148 Cert.ReferenceIdeal.Step.b65
  rw [← al_63 h, ← al_64 h]
  try rfl
set_option maxRecDepth 8192 in
/-- Value 66 of a trip, from what the valuation holds. -/
theorem al_66 (h : Holds V0 s j) : (broadcastInDim S1x32x512 ![1, 2] bcast_S32x512_S1x32x512_1_2 (res_main_while0b_v122 V0) : (Proc.devRef .tc main_while0b_call4_v0 : DevRef τ sig).ty.Contents (Elt F)) = Cert.ReferenceIdeal.Step.b66 j s := by
  unfold Cert.ReferenceIdeal.Step.b66
  rw [← al_36 h]
  try rfl
set_option maxRecDepth 8192 in
/-- Value 67 of a trip, from what the valuation holds. -/
theorem al_67 (h : Holds V0 s j) : (constantI S_ 32 0#32 : (Proc.devRef .tc main_while0b_call4_c : DevRef τ sig).ty.Contents (Elt F)) = Cert.ReferenceIdeal.Step.b67 j s := by
  unfold Cert.ReferenceIdeal.Step.b67
  rfl
set_option maxRecDepth 8192 in
/-- Value 68 of a trip, from what the valuation holds. -/
theorem al_68 (h : Holds V0 s j) : (constantI S_ 32 0#32 : (Proc.devRef .tc main_while0b_call4_c_0 : DevRef τ sig).ty.Contents (Elt F)) = Cert.ReferenceIdeal.Step.b68 j s := by
  unfold Cert.ReferenceIdeal.Step.b68
  rfl
set_option maxRecDepth 8192 in
/-- Value 69 of a trip, from what the valuation holds. -/
theorem al_69 (h : Holds V0 s j) : (Host.dynamicUpdateSlice (V0 (Proc.devRef .tc main_v23_9)) (broadcastInDim S1x32x512 ![1, 2] bcast_S32x512_S1x32x512_1_2 (res_main_while0b_v122 V0)) (fun k => (((![V0 (Proc.devRef .tc main_v23_6), constantI S_ 32 0#32, constantI S_ 32 0#32] : Fin 3 → (⟨S_, .i32⟩ : BufTy).Contents (Elt F))) k (Shape.Idx.first h_S_)).toInt) updateFits_S512x32x512_S1x32x512 : (Proc.devRef .tc main_while0b_v149 : DevRef τ sig).ty.Contents (Elt F)) = Cert.ReferenceIdeal.Step.b69 j s := by
  unfold Cert.ReferenceIdeal.Step.b69
  rw [← al_66 h, ← al_67 h, ← al_68 h, h.f_9, h.n_6]
  try rfl
set_option maxRecDepth 8192 in
/-- Value 70 of a trip, from what the valuation holds. -/
theorem al_70 (h : Holds V0 s j) : (broadcastInDim S1x32x512 ![1, 2] bcast_S32x512_S1x32x512_1_2 (res_main_while0b_v148 V0) : (Proc.devRef .tc main_while0b_call5_v0 : DevRef τ sig).ty.Contents (Elt F)) = Cert.ReferenceIdeal.Step.b70 j s := by
  unfold Cert.ReferenceIdeal.Step.b70
  rw [← al_65 h]
  try rfl
set_option maxRecDepth 8192 in
/-- Value 71 of a trip, from what the valuation holds. -/
theorem al_71 (h : Holds V0 s j) : (constantI S_ 32 0#32 : (Proc.devRef .tc main_while0b_call5_c : DevRef τ sig).ty.Contents (Elt F)) = Cert.ReferenceIdeal.Step.b71 j s := by
  unfold Cert.ReferenceIdeal.Step.b71
  rfl
set_option maxRecDepth 8192 in
/-- Value 72 of a trip, from what the valuation holds. -/
theorem al_72 (h : Holds V0 s j) : (constantI S_ 32 0#32 : (Proc.devRef .tc main_while0b_call5_c_0 : DevRef τ sig).ty.Contents (Elt F)) = Cert.ReferenceIdeal.Step.b72 j s := by
  unfold Cert.ReferenceIdeal.Step.b72
  rfl
set_option maxRecDepth 8192 in
/-- Value 73 of a trip, from what the valuation holds. -/
theorem al_73 (h : Holds V0 s j) : (Host.dynamicUpdateSlice (V0 (Proc.devRef .tc main_v23_10)) (broadcastInDim S1x32x512 ![1, 2] bcast_S32x512_S1x32x512_1_2 (res_main_while0b_v148 V0)) (fun k => (((![V0 (Proc.devRef .tc main_v23_6), constantI S_ 32 0#32, constantI S_ 32 0#32] : Fin 3 → (⟨S_, .i32⟩ : BufTy).Contents (Elt F))) k (Shape.Idx.first h_S_)).toInt) updateFits_S512x32x512_S1x32x512 : (Proc.devRef .tc main_while0b_v150 : DevRef τ sig).ty.Contents (Elt F)) = Cert.ReferenceIdeal.Step.b73 j s := by
  unfold Cert.ReferenceIdeal.Step.b73
  rw [← al_70 h, ← al_71 h, ← al_72 h, h.f_10, h.n_6]
  try rfl

/-! One trip's step of the carried values is `step`, field by field; a counter steps to the next number. -/

/-- Carried value 7 after a trip. -/
theorem step_7 (h : Holds V0 s j) : step_main_v23_7 V0 = (step j s).main_v23_7 := by
  unfold step_main_v23_7 Cert.ReferenceIdeal.Step.step
  show id (res_main_while0b_v122 V0) = _
  rw [al_36 h]
  try rfl
/-- Carried value 8 after a trip. -/
theorem step_8 (h : Holds V0 s j) : step_main_v23_8 V0 = (step j s).main_v23_8 := by
  unfold step_main_v23_8 Cert.ReferenceIdeal.Step.step
  show id (res_main_while0b_v148 V0) = _
  rw [al_65 h]
  try rfl
/-- Carried value 9 after a trip. -/
theorem step_9 (h : Holds V0 s j) : step_main_v23_9 V0 = (step j s).main_v23_9 := by
  unfold step_main_v23_9 Cert.ReferenceIdeal.Step.step
  show id (Host.dynamicUpdateSlice (V0 (Proc.devRef .tc main_v23_9)) (broadcastInDim S1x32x512 ![1, 2] bcast_S32x512_S1x32x512_1_2 (res_main_while0b_v122 V0)) (fun k => (((![V0 (Proc.devRef .tc main_v23_6), constantI S_ 32 0#32, constantI S_ 32 0#32] : Fin 3 → (⟨S_, .i32⟩ : BufTy).Contents (Elt F))) k (Shape.Idx.first h_S_)).toInt) updateFits_S512x32x512_S1x32x512) = _
  exact al_69 h
/-- Carried value 10 after a trip. -/
theorem step_10 (h : Holds V0 s j) : step_main_v23_10 V0 = (step j s).main_v23_10 := by
  unfold step_main_v23_10 Cert.ReferenceIdeal.Step.step
  show id (Host.dynamicUpdateSlice (V0 (Proc.devRef .tc main_v23_10)) (broadcastInDim S1x32x512 ![1, 2] bcast_S32x512_S1x32x512_1_2 (res_main_while0b_v148 V0)) (fun k => (((![V0 (Proc.devRef .tc main_v23_6), constantI S_ 32 0#32, constantI S_ 32 0#32] : Fin 3 → (⟨S_, .i32⟩ : BufTy).Contents (Elt F))) k (Shape.Idx.first h_S_)).toInt) updateFits_S512x32x512_S1x32x512) = _
  exact al_73 h
/-- A trip counts one on. -/
theorem step_6 (h : Holds V0 s j) : step_main_v23_6 V0 = constantI S_ 32 (BitVec.ofNat 32 (j + 1)) := by
  unfold step_main_v23_6
  rw [h.n_6]
  funext i
  show BitVec.ofNat 32 j + 1#32 = BitVec.ofNat 32 (j + 1)
  simp only [BitVec.ofNat_add]

set_option maxRecDepth 8192 in
/-- Result v94 from the last state. -/
theorem out_main_v94_holds (h : Holds V0 s j) {x_main_arg21 : (⟨S1024x256, .f32⟩ : BufTy).Contents (Elt F)} (h_main_arg21 : V0 (Proc.devRef .tc main_arg21) = x_main_arg21) {x_main_arg22 : (⟨S256, .f32⟩ : BufTy).Contents (Elt F)} (h_main_arg22 : V0 (Proc.devRef .tc main_arg22) = x_main_arg22) {x_main_arg23 : (⟨S256x1024, .f32⟩ : BufTy).Contents (Elt F)} (h_main_arg23 : V0 (Proc.devRef .tc main_arg23) = x_main_arg23) {x_main_arg24 : (⟨S1024, .f32⟩ : BufTy).Contents (Elt F)} (h_main_arg24 : V0 (Proc.devRef .tc main_arg24) = x_main_arg24) : out_main_v94 V0 = Cert.ReferenceIdeal.Step.R_main_v94 s x_main_arg21 x_main_arg22 x_main_arg23 x_main_arg24 := by
  unfold out_main_v94 Cert.ReferenceIdeal.Step.R_main_v94
  rw [h.f_9, h.f_10, h_main_arg21, h_main_arg22, h_main_arg23, h_main_arg24]
  try rfl

set_option maxRecDepth 8192 in
/-- Result v36 from the last state. -/
theorem out_main_v36_holds (h : Holds V0 s j) {x_main_arg13 : (⟨S1024x256, .f32⟩ : BufTy).Contents (Elt F)} (h_main_arg13 : V0 (Proc.devRef .tc main_arg13) = x_main_arg13) {x_main_arg14 : (⟨S256, .f32⟩ : BufTy).Contents (Elt F)} (h_main_arg14 : V0 (Proc.devRef .tc main_arg14) = x_main_arg14) {x_main_arg15 : (⟨S256x32, .f32⟩ : BufTy).Contents (Elt F)} (h_main_arg15 : V0 (Proc.devRef .tc main_arg15) = x_main_arg15) {x_main_arg16 : (⟨S32, .f32⟩ : BufTy).Contents (Elt F)} (h_main_arg16 : V0 (Proc.devRef .tc main_arg16) = x_main_arg16) : out_main_v36 V0 = Cert.ReferenceIdeal.Step.R_main_v36 s x_main_arg13 x_main_arg14 x_main_arg15 x_main_arg16 := by
  unfold out_main_v36 Cert.ReferenceIdeal.Step.R_main_v36
  rw [h.f_9, h.f_10, h_main_arg13, h_main_arg14, h_main_arg15, h_main_arg16]
  try rfl

set_option maxRecDepth 8192 in
/-- Result v84 from the last state. -/
theorem out_main_v84_holds (h : Holds V0 s j) {x_main_arg17 : (⟨S1024x256, .f32⟩ : BufTy).Contents (Elt F)} (h_main_arg17 : V0 (Proc.devRef .tc main_arg17) = x_main_arg17) {x_main_arg18 : (⟨S256, .f32⟩ : BufTy).Contents (Elt F)} (h_main_arg18 : V0 (Proc.devRef .tc main_arg18) = x_main_arg18) {x_main_arg19 : (⟨S256x528, .f32⟩ : BufTy).Contents (Elt F)} (h_main_arg19 : V0 (Proc.devRef .tc main_arg19) = x_main_arg19) {x_main_arg20 : (⟨S528, .f32⟩ : BufTy).Contents (Elt F)} (h_main_arg20 : V0 (Proc.devRef .tc main_arg20) = x_main_arg20) : out_main_v84 V0 = Cert.ReferenceIdeal.Step.R_main_v84 s x_main_arg17 x_main_arg18 x_main_arg19 x_main_arg20 := by
  unfold out_main_v84 Cert.ReferenceIdeal.Step.R_main_v84
  rw [h.f_9, h.f_10, h_main_arg17, h_main_arg18, h_main_arg19, h_main_arg20]
  try rfl

/-- One trip keeps the valuation holding: `step` of the state, the same set-up values, the next number. -/
theorem holds_step (h : Holds V0 s j) : Holds (STEP V0) (step j s) (j + 1) where
  f_7 := (STEP_main_v23_7 V0).trans (step_7 h)
  f_8 := (STEP_main_v23_8 V0).trans (step_8 h)
  f_9 := (STEP_main_v23_9 V0).trans (step_9 h)
  f_10 := (STEP_main_v23_10 V0).trans (step_10 h)
  n_6 := (STEP_main_v23_6 V0).trans (step_6 h)
  f_0 := (STEP_main_v23_0 V0).trans h.f_0
  f_1 := (STEP_main_v23_1 V0).trans h.f_1
  f_2 := (STEP_main_v23_2 V0).trans h.f_2
  f_3 := (STEP_main_v23_3 V0).trans h.f_3
  f_4 := (STEP_main_v23_4 V0).trans h.f_4
  f_5 := (STEP_main_v23_5 V0).trans h.f_5

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg8)) (m ((c.tc : Thread nD τ).loc main_arg11)) (m ((c.tc : Thread nD τ).loc main_arg12)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v94) = Cert.ReferenceIdeal.Step.R_main_v94 (it c 512) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v36) = Cert.ReferenceIdeal.Step.R_main_v36 (it c 512) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v84) = Cert.ReferenceIdeal.Step.R_main_v84 (it c 512) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c =>
    have hk := holds_iter m c (it c) (h0 c) (hs c) 512
    ⟨(h c).1.trans (out_main_v94_holds hk (iter_main_arg21 m c 512) (iter_main_arg22 m c 512) (iter_main_arg23 m c 512) (iter_main_arg24 m c 512)), (h c).2.1.trans (out_main_v36_holds hk (iter_main_arg13 m c 512) (iter_main_arg14 m c 512) (iter_main_arg15 m c 512) (iter_main_arg16 m c 512)), (h c).2.2.1.trans (out_main_v84_holds hk (iter_main_arg17 m c 512) (iter_main_arg18 m c 512) (iter_main_arg19 m c 512) (iter_main_arg20 m c 512)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1, (h c).2.2.2.2.2.2.2.2.2.2.2.2.2.2.2.2.2.2.2.2.2.2.2.2.2.2.2⟩) (Value.run m ρ)

end Cert.ReferenceIdeal.Trips

end
-- ==== Proof.Value.Equal.lean ====
/- The idealized kernel's results are the idealized reference's. -/
module

public import proofs.«01_k».proof.Defs
public import proofs.«01_k».proof.Proof.Value.Results
public import proofs.«01_k».proof.Proof.Value.RefHeads
public import proofs.«01_k».proof.Proof.Value.Trips

@[expose] public section

noncomputable section

namespace Cert.Proof

open Idealize.ShloMosaic Idealize.ShloMosaic.TcCoe Idealize.SL.Sem
open Cert.KernelIdeal.Results (args)
open Cert.KernelIdeal.Whole (U7 main_run read_end args_kept)

/-- The reference's states, trip by trip. -/
def states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.ReferenceIdeal.Trips.initState m c
  | n + 1 => Cert.ReferenceIdeal.Step.step n (states m c n)

/-- Two arrays of rank 3 that agree at every index are equal. -/
theorem ext3 {a b c : ℕ} {x y : (⟨3, ![a, b, c]⟩ : Shape).Idx → EReal}
    (e : ∀ i j k, x (ix3 i j k) = y (ix3 i j k)) : x = y := by
  funext q
  have hq : q = ix3 (q 0) (q 1) (q 2) := by
    funext d
    match d with
    | ⟨0, _⟩ => rfl
    | ⟨1, _⟩ => rfl
    | ⟨2, _⟩ => rfl
  rw [hq]
  exact e _ _ _

/-- Two arrays of rank 4 that agree at every index are equal. -/
theorem ext4 {a b c d : ℕ} {x y : (⟨4, ![a, b, c, d]⟩ : Shape).Idx → EReal}
    (e : ∀ i j k l, x (ix4 i j k l) = y (ix4 i j k l)) : x = y := by
  funext q
  have hq : q = ix4 (q 0) (q 1) (q 2) (q 3) := by
    funext d
    match d with
    | ⟨0, _⟩ => rfl
    | ⟨1, _⟩ => rfl
    | ⟨2, _⟩ => rfl
    | ⟨3, _⟩ => rfl
  rw [hq]
  exact e _ _ _ _

/-- From memories that agree on the arguments both run, end with equal results, and keep their arguments. -/
theorem algebraic : @Cert.algebraic_KernelIdeal_ReferenceIdeal Cert.KernelIdeal.Gen.facts Cert.ReferenceIdeal.Gen.facts := by
  intro m g m' g' _ hargs
  refine ⟨fun c => U7 m c Cert.KernelIdeal.main_v46, fun c => U7 m c Cert.KernelIdeal.main_v43_0,
    fun c => U7 m c Cert.KernelIdeal.main_v45, ?_, ?_⟩
  · refine (θ_run _ _ _).mono (fun r h c => ?_) (main_run m g)
    have k := h.1 c
    exact ⟨read_end m k Cert.KernelIdeal.main_v46 (by decide), read_end m k Cert.KernelIdeal.main_v43_0 (by decide),
      read_end m k Cert.KernelIdeal.main_v45 (by decide),
      args_kept m k Cert.KernelIdeal.main_arg0 (by decide) (by decide),
      args_kept m k Cert.KernelIdeal.main_arg1 (by decide) (by decide),
      args_kept m k Cert.KernelIdeal.main_arg2 (by decide) (by decide),
      args_kept m k Cert.KernelIdeal.main_arg3 (by decide) (by decide),
      args_kept m k Cert.KernelIdeal.main_arg4 (by decide) (by decide),
      args_kept m k Cert.KernelIdeal.main_arg5 (by decide) (by decide),
      args_kept m k Cert.KernelIdeal.main_arg6 (by decide) (by decide),
      args_kept m k Cert.KernelIdeal.main_arg7 (by decide) (by decide),
      args_kept m k Cert.KernelIdeal.main_arg8 (by decide) (by decide),
      args_kept m k Cert.KernelIdeal.main_arg9 (by decide) (by decide),
      args_kept m k Cert.KernelIdeal.main_arg10 (by decide) (by decide),
      args_kept m k Cert.KernelIdeal.main_arg11 (by decide) (by decide),
      args_kept m k Cert.KernelIdeal.main_arg12 (by decide) (by decide),
      args_kept m k Cert.KernelIdeal.main_arg13 (by decide) (by decide),
      args_kept m k Cert.KernelIdeal.main_arg14 (by decide) (by decide),
      args_kept m k Cert.KernelIdeal.main_arg15 (by decide) (by decide),
      args_kept m k Cert.KernelIdeal.main_arg16 (by decide) (by decide),
      args_kept m k Cert.KernelIdeal.main_arg17 (by decide) (by decide),
      args_kept m k Cert.KernelIdeal.main_arg18 (by decide) (by decide),
      args_kept m k Cert.KernelIdeal.main_arg19 (by decide) (by decide),
      args_kept m k Cert.KernelIdeal.main_arg20 (by decide) (by decide),
      args_kept m k Cert.KernelIdeal.main_arg21 (by decide) (by decide),
      args_kept m k Cert.KernelIdeal.main_arg22 (by decide) (by decide),
      args_kept m k Cert.KernelIdeal.main_arg23 (by decide) (by decide),
      args_kept m k Cert.KernelIdeal.main_arg24 (by decide) (by decide)⟩
  · refine (θ_run _ _ _).mono (fun r h c => ?_) (Cert.ReferenceIdeal.Trips.run_iter m' g' (states m')
      (fun _ => rfl) (fun _ _ => rfl))
    obtain ⟨e0, e1, e2, e3, e4, e5, e6, e7, e8, e9, e10, e11, e12, e13, e14, e15, e16, e17, e18, e19, e20, e21, e22, e23, e24⟩ := hargs c
    have hat : Cert.ReferenceIdeal.Loop.At (args m c) 512 (states m' c 512) := by
      refine Cert.ReferenceIdeal.Loop.at_iter (states m' c) ?_ (fun _ => rfl) 512 le_rfl
      show Cert.ReferenceIdeal.Trips.initState m' c = _
      unfold Cert.ReferenceIdeal.Trips.initState
      rw [e0, e1, e2, e3, e4, e5, e6, e7, e8, e9, e10, e11, e12]
      rfl
    obtain ⟨ra, rb, rq, kept⟩ := h c
    refine ⟨ra.trans ?_, rb.trans ?_, rq.trans ?_, kept⟩
    · rw [e21, e22, e23, e24]
      exact ext4 fun b t i j => (Cert.ReferenceIdeal.Loop.read_a hat b t i j).trans
        (Cert.KernelIdeal.Results.result_a m c b t i j).symm
    · rw [e13, e14, e15, e16]
      exact ext3 fun b t i => (Cert.ReferenceIdeal.Loop.read_b hat b t i).trans
        (Cert.KernelIdeal.Results.result_b m c b t i).symm
    · rw [e17, e18, e19, e20]
      exact ext4 fun b t i j => (Cert.ReferenceIdeal.Loop.read_q hat b t i j).trans
        (Cert.KernelIdeal.Results.result_q m c b t i j).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Step
public import proofs.«01_k».proof.Proof.Ideal.Run
public import proofs.«01_k».proof.Proof.Bits.Run
public import proofs.«01_k».proof.Proof.Value.Equal
public import Idealize.ShloMosaic.Adequacy
public import Idealize.ShloMosaic.Init

@[expose] public section

noncomputable section

namespace Cert.Proof

open Idealize.ShloMosaic Idealize.SL.Sem

/-- The kernel, on bits: every execution ends, its arguments unchanged and every semaphore counter at zero. -/
theorem frame_kernel : @Cert.quiescent_Kernel Cert.Kernel.Gen.facts := fun m g _ => Cert.Kernel.Whole.frame m g

/-- The same of the idealized kernel. -/
theorem frame_kernel_ideal : @Cert.quiescent_KernelIdeal Cert.KernelIdeal.Gen.facts := fun m g _ =>
  Cert.KernelIdeal.Whole.frame m g

/-- The same of the reference, which has no semaphore. -/
theorem frame_reference : @Cert.quiescent_ReferenceIdeal Cert.ReferenceIdeal.Gen.facts := fun m g _ =>
  (θ_run _ _ _).mono (fun r h =>
    ⟨fun c => (h c).2.2.2, Idealize.ShloMosaic.sem_eq_zero_of_no_sems (by decide) r.2⟩) (Cert.ReferenceIdeal.Value.run m g)

/-- Every claim. -/
theorem claim : Cert.Claim :=
  ⟨Cert.Kernel.Gen.facts, Cert.KernelIdeal.Gen.facts, Cert.ReferenceIdeal.Gen.facts,
    frame_kernel, frame_kernel_ideal, frame_reference, trivial, algebraic⟩

end Cert.Proof

end
